-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v122) = v0 c
          ∧ r.2.mem ((c.tc : Thread Cert.Reference3Ideal.nD Cert.Reference3Ideal.τ).loc Cert.Reference3Ideal.main_v123) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v70) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v29_0)) (v1 : (c : Dev Cert.Kernel5Ideal.nD) → Buf (Elt Ideal) ((c.tc : Thread Cert.Kernel5Ideal.nD Cert.Kernel5Ideal.τ).loc Cert.Kernel5Ideal.main_v29_1)) (v2 : (c : Dev Cert.Kernel5Ideal.nD) → Buf (Elt Ideal) ((c.tc : Thread Cert.Kernel5Ideal.nD Cert.Kernel5Ideal.τ).loc Cert.Kernel5Ideal.main_v29_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v29_0) = v0 c
          ∧ r.2.mem ((c.tc : Thread Cert.Kernel5Ideal.nD Cert.Kernel5Ideal.τ).loc Cert.Kernel5Ideal.main_v29_1) = v1 c
          ∧ r.2.mem ((c.tc : Thread Cert.Kernel5Ideal.nD Cert.Kernel5Ideal.τ).loc Cert.Kernel5Ideal.main_v29_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_v49) = v1 c
          ∧ r.2.mem ((c.tc : Thread Cert.Reference5Ideal.nD Cert.Reference5Ideal.τ).loc Cert.Reference5Ideal.main_v36) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S32x2048x1024 : Shape := ⟨3, ![32, 2048, 1024]⟩
abbrev S1x1024 : Shape := ⟨2, ![1, 1024]⟩
abbrev S1x1024x6688 : Shape := ⟨3, ![1, 1024, 6688]⟩
abbrev S1x4x3072 : Shape := ⟨3, ![1, 4, 3072]⟩
abbrev S1x8 : Shape := ⟨2, ![1, 8]⟩
abbrev S1x128 : Shape := ⟨2, ![1, 128]⟩
abbrev S1x4x1536 : Shape := ⟨3, ![1, 4, 1536]⟩
abbrev S1x1536 : Shape := ⟨2, ![1, 1536]⟩
abbrev S1x16 : Shape := ⟨2, ![1, 16]⟩
abbrev S1x2048x1024 : Shape := ⟨3, ![1, 2048, 1024]⟩
abbrev S1024 : Shape := ⟨1, ![1024]⟩
abbrev S1024x6688 : Shape := ⟨2, ![1024, 6688]⟩
abbrev S4x3072 : Shape := ⟨2, ![4, 3072]⟩
abbrev S8 : Shape := ⟨1, ![8]⟩
abbrev S128 : Shape := ⟨1, ![128]⟩
abbrev S4x1536 : Shape := ⟨2, ![4, 1536]⟩
abbrev S1536 : Shape := ⟨1, ![1536]⟩
abbrev S16 : Shape := ⟨1, ![16]⟩
abbrev S2048x1024 : Shape := ⟨2, ![2048, 1024]⟩
abbrev S1024x1024 : Shape := ⟨2, ![1024, 1024]⟩
abbrev S1024x8 : Shape := ⟨2, ![1024, 8]⟩
abbrev S1024x256 : Shape := ⟨2, ![1024, 256]⟩
abbrev S1024x16 : Shape := ⟨2, ![1024, 16]⟩
abbrev S_ : Shape := ⟨0, ![]⟩
abbrev S1024x96 : Shape := ⟨2, ![1024, 96]⟩
abbrev S1024x6784 : Shape := ⟨2, ![1024, 6784]⟩
abbrev S4x4608 : Shape := ⟨2, ![4, 4608]⟩
abbrev S3072 : Shape := ⟨1, ![3072]⟩
abbrev S4608 : Shape := ⟨1, ![4608]⟩
abbrev S1x4608 : Shape := ⟨2, ![1, 4608]⟩
abbrev S104 : Shape := ⟨1, ![104]⟩
abbrev S8x128 : Shape := ⟨2, ![8, 128]⟩
abbrev S1 : Shape := ⟨1, ![1]⟩
abbrev S16x64 : Shape := ⟨2, ![16, 64]⟩
abbrev S1x256x1024 : Shape := ⟨3, ![1, 256, 1024]⟩
abbrev S256x1024 : Shape := ⟨2, ![256, 1024]⟩
abbrev S264x4608 : Shape := ⟨2, ![264, 4608]⟩
abbrev S256x4608 : Shape := ⟨2, ![256, 4608]⟩
abbrev S3x256x128 : Shape := ⟨3, ![3, 256, 128]⟩
abbrev S256x2048 : Shape := ⟨2, ![256, 2048]⟩
abbrev S8x128x128 : Shape := ⟨3, ![8, 128, 128]⟩
abbrev S8x4608 : Shape := ⟨2, ![8, 4608]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x512 : Shape := ⟨2, ![1, 512]⟩
abbrev S8x512 : Shape := ⟨2, ![8, 512]⟩
abbrev S256x128 : Shape := ⟨2, ![256, 128]⟩
abbrev S1024x128 : Shape := ⟨2, ![1024, 128]⟩
abbrev S1x256x128 : Shape := ⟨3, ![1, 256, 128]⟩
abbrev S64x64 : Shape := ⟨2, ![64, 64]⟩
abbrev S64x128 : Shape := ⟨2, ![64, 128]⟩
abbrev S128x128 : Shape := ⟨2, ![128, 128]⟩
abbrev S1x64x128 : Shape := ⟨3, ![1, 64, 128]⟩
abbrev S128x64 : Shape := ⟨2, ![128, 64]⟩
abbrev S1x128x128 : Shape := ⟨3, ![1, 128, 128]⟩
abbrev S64x1 : Shape := ⟨2, ![64, 1]⟩
abbrev S1x64 : Shape := ⟨2, ![1, 64]⟩
abbrev S1x1 : Shape := ⟨2, ![1, 1]⟩
abbrev S64x256 : Shape := ⟨2, ![64, 256]⟩
abbrev S192x64 : Shape := ⟨2, ![192, 64]⟩
abbrev S192x128 : Shape := ⟨2, ![192, 128]⟩

abbrev nBuf : Space → Nat
  | .hbm => 73
  | .vmem => 23
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x6688, .f32⟩
  | .hbm, ⟨3, _⟩ => ⟨S1x4x3072, .f32⟩
  | .hbm, ⟨4, _⟩ => ⟨S1x8, .f32⟩
  | .hbm, ⟨5, _⟩ => ⟨S1x8, .f32⟩
  | .hbm, ⟨6, _⟩ => ⟨S1x128, .f32⟩
  | .hbm, ⟨7, _⟩ => ⟨S1x4x1536, .f32⟩
  | .hbm, ⟨8, _⟩ => ⟨S1x1536, .f32⟩
  | .hbm, ⟨9, _⟩ => ⟨S1x16, .f32⟩
  | .hbm, ⟨10, _⟩ => ⟨S1x16, .f32⟩
  | .hbm, ⟨11, _⟩ => ⟨S1x16, .f32⟩
  | .hbm, ⟨12, _⟩ => ⟨S1x1024, .f32⟩
  | .hbm, ⟨13, _⟩ => ⟨S1x2048x1024, .f32⟩
  | .hbm, ⟨14, _⟩ => ⟨S1x1024, .f32⟩
  | .hbm, ⟨15, _⟩ => ⟨S1024, .f32⟩
  | .hbm, ⟨16, _⟩ => ⟨S1024x6688, .f32⟩
  | .hbm, ⟨17, _⟩ => ⟨S4x3072, .f32⟩
  | .hbm, ⟨18, _⟩ => ⟨S8, .f32⟩
  | .hbm, ⟨19, _⟩ => ⟨S8, .f32⟩
  | .hbm, ⟨20, _⟩ => ⟨S128, .f32⟩
  | .hbm, ⟨21, _⟩ => ⟨S4x1536, .f32⟩
  | .hbm, ⟨22, _⟩ => ⟨S1536, .f32⟩
  | .hbm, ⟨23, _⟩ => ⟨S16, .f32⟩
  | .hbm, ⟨24, _⟩ => ⟨S16, .f32⟩
  | .hbm, ⟨25, _⟩ => ⟨S16, .f32⟩
  | .hbm, ⟨26, _⟩ => ⟨S1024, .f32⟩
  | .hbm, ⟨27, _⟩ => ⟨S2048x1024, .f32⟩
  | .hbm, ⟨28, _⟩ => ⟨S1024, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S1024x8, .f32⟩
  | .hbm, ⟨34, _⟩ => ⟨S1024x8, .f32⟩
  | .hbm, ⟨35, _⟩ => ⟨S1024x1024, .f32⟩
  | .hbm, ⟨36, _⟩ => ⟨S1024x1024, .f32⟩
  | .hbm, ⟨37, _⟩ => ⟨S1024x256, .f32⟩
  | .hbm, ⟨38, _⟩ => ⟨S1024x256, .f32⟩
  | .hbm, ⟨39, _⟩ => ⟨S1024x16, .f32⟩
  | .hbm, ⟨40, _⟩ => ⟨S_, .f32⟩
  | .hbm, ⟨41, _⟩ => ⟨S1024x96, .f32⟩
  | .hbm, ⟨42, _⟩ => ⟨S1024x6784, .f32⟩
  | .hbm, ⟨43, _⟩ => ⟨S1024x6784, .bf16⟩
  | .hbm, ⟨44, _⟩ => ⟨S4x4608, .f32⟩
  | .hbm, ⟨45, _⟩ => ⟨S_, .f32⟩
  | .hbm, ⟨46, _⟩ => ⟨S3072, .f32⟩
  | .hbm, ⟨47, _⟩ => ⟨S4608, .f32⟩
  | .hbm, ⟨48, _⟩ => ⟨S1x4608, .f32⟩
  | .hbm, ⟨49, _⟩ => ⟨S_, .f32⟩
  | .hbm, ⟨50, _⟩ => ⟨S104, .f32⟩
  | .hbm, ⟨51, _⟩ => ⟨S_, .f32⟩
  | .hbm, ⟨52, _⟩ => ⟨S8x128, .f32⟩
  | .hbm, ⟨53, _⟩ => ⟨S128, .f32⟩
  | .hbm, ⟨54, _⟩ => ⟨S_, .i32⟩
  | .hbm, ⟨55, _⟩ => ⟨S1, .i32⟩
  | .hbm, ⟨56, _⟩ => ⟨S8x128, .f32⟩
  | .hbm, ⟨57, _⟩ => ⟨S128, .f32⟩
  | .hbm, ⟨58, _⟩ => ⟨S_, .i32⟩
  | .hbm, ⟨59, _⟩ => ⟨S1, .i32⟩
  | .hbm, ⟨60, _⟩ => ⟨S8x128, .f32⟩
  | .hbm, ⟨61, _⟩ => ⟨S1x128, .f32⟩
  | .hbm, ⟨62, _⟩ => ⟨S8x128, .f32⟩
  | .hbm, ⟨63, _⟩ => ⟨S1024, .f32⟩
  | .hbm, ⟨64, _⟩ => ⟨S1x1024, .f32⟩
  | .hbm, ⟨65, _⟩ => ⟨S16x64, .f32⟩
  | .hbm, ⟨66, _⟩ => ⟨S1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S2048x1024, .bf16⟩
  | .hbm, ⟨71, _⟩ => ⟨S1x1024, .f32⟩
  | .hbm, ⟨72, _⟩ => ⟨S32x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x6784, .bf16⟩
  | .local _ .vmem, ⟨4, _⟩ => ⟨S4x4608, .f32⟩
  | .local _ .vmem, ⟨5, _⟩ => ⟨S1x4608, .f32⟩
  | .local _ .vmem, ⟨6, _⟩ => ⟨S8x128, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S2048x1024, .bf16⟩
  | .local _ .vmem, ⟨11, _⟩ => ⟨S1x1024, .f32⟩
  | .local _ .vmem, ⟨12, _⟩ => ⟨S1x256x1024, .f32⟩
  | .local _ .vmem, ⟨13, _⟩ => ⟨S1x256x1024, .f32⟩
  | .local _ .vmem, ⟨14, _⟩ => ⟨S256x1024, .bf16⟩
  | .local _ .vmem, ⟨15, _⟩ => ⟨S264x4608, .f32⟩
  | .local _ .vmem, ⟨16, _⟩ => ⟨S256x4608, .f32⟩
  | .local _ .vmem, ⟨17, _⟩ => ⟨S3x256x128, .f32⟩
  | .local _ .vmem, ⟨18, _⟩ => ⟨S256x2048, .f32⟩
  | .local _ .vmem, ⟨19, _⟩ => ⟨S256x2048, .f32⟩
  | .local _ .vmem, ⟨20, _⟩ => ⟨S256x2048, .bf16⟩
  | .local _ .vmem, ⟨21, _⟩ => ⟨S8x128x128, .f32⟩
  | .local _ .vmem, ⟨22, _⟩ => ⟨S8x128x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_1 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_c : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_3 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![32, 8], ![false, false]⟩

@[reducible] def k0_t1_loop : Scf.Loop 32 :=
  let c0_i32_413 : BitVec 32 := 0#32
  let c4_i32_414 : BitVec 32 := 4#32
  let v749 : BitVec 32 := Scalar.addi c0_i32_413 c4_i32_414
  let c1_i32 : BitVec 32 := 1#32
  ⟨c0_i32_413, v749, c1_i32⟩
def k0_mult1 (k0_t1 : Fin k0_t1_loop.trips) : BitVec 32 :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  v1074
def k0_off1 (k0_t1 : Fin k0_t1_loop.trips) : Fin 3 → Nat :=
  let c0_577 : Index := 0#32
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1076 : Index := Scalar.indexCast v1075
  let c0_578 : Index := 0#32
  ![0, v1076.toNat, 0]
def k0_off2 (k0_t1 : Fin k0_t1_loop.trips) : Fin 3 → Nat :=
  let c1_579 : Index := 1#32
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1079 : Index := Scalar.indexCast v1075
  let c0_580 : Index := 0#32
  ![1, v1079.toNat, 0]
def k0_off3 (k0_t1 : Fin k0_t1_loop.trips) : Fin 3 → Nat :=
  let c2_581 : Index := 2#32
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1082 : Index := Scalar.indexCast v1075
  let c0_582 : Index := 0#32
  ![2, v1082.toNat, 0]
def k0_off4 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1138 : Index := Scalar.indexCast v1075
  let c4096_598 : Index := 4096#32
  ![v1138.toNat, 4096]
def k0_off5 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1140 : Index := Scalar.indexCast v1075
  let c4352 : Index := 4352#32
  ![v1140.toNat, 4352]
def k0_off6 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1146 : Index := Scalar.indexCast v1075
  let c4224 : Index := 4224#32
  ![v1146.toNat, 4224]
def k0_off7 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1148 : Index := Scalar.indexCast v1075
  let c4480 : Index := 4480#32
  ![v1148.toNat, 4480]
def k0_off8 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1154 : Index := Scalar.indexCast v1075
  let c3072_601 : Index := 3072#32
  ![v1154.toNat, 3072]
def k0_off9 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1157 : Index := Scalar.indexCast v1075
  let c3200 : Index := 3200#32
  ![v1157.toNat, 3200]
def k0_off10 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1160 : Index := Scalar.indexCast v1075
  let c3328 : Index := 3328#32
  ![v1160.toNat, 3328]
def k0_off11 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1163 : Index := Scalar.indexCast v1075
  let c3456 : Index := 3456#32
  ![v1163.toNat, 3456]
def k0_off12 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1166 : Index := Scalar.indexCast v1075
  let c3584_602 : Index := 3584#32
  ![v1166.toNat, 3584]
def k0_off13 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1169 : Index := Scalar.indexCast v1075
  let c3712 : Index := 3712#32
  ![v1169.toNat, 3712]
def k0_off14 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1172 : Index := Scalar.indexCast v1075
  let c3840 : Index := 3840#32
  ![v1172.toNat, 3840]
def k0_off15 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1175 : Index := Scalar.indexCast v1075
  let c3968 : Index := 3968#32
  ![v1175.toNat, 3968]
def k0_off16 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1202 : Index := Scalar.indexCast v1075
  let c0_626 : Index := 0#32
  ![v1202.toNat, 0]
def k0_off17 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1204 : Index := Scalar.indexCast v1075
  let c128_627 : Index := 128#32
  ![v1204.toNat, 128]
def k0_off18 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1206 : Index := Scalar.indexCast v1075
  let c256_628 : Index := 256#32
  ![v1206.toNat, 256]
def k0_off19 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1208 : Index := Scalar.indexCast v1075
  let c384_629 : Index := 384#32
  ![v1208.toNat, 384]
def k0_off20 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1210 : Index := Scalar.indexCast v1075
  let c512_630 : Index := 512#32
  ![v1210.toNat, 512]
def k0_off21 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1212 : Index := Scalar.indexCast v1075
  let c640_631 : Index := 640#32
  ![v1212.toNat, 640]
def k0_off22 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1214 : Index := Scalar.indexCast v1075
  let c768_632 : Index := 768#32
  ![v1214.toNat, 768]
def k0_off23 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1216 : Index := Scalar.indexCast v1075
  let c896_633 : Index := 896#32
  ![v1216.toNat, 896]
def k0_off24 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1218 : Index := Scalar.indexCast v1075
  let c1024_634 : Index := 1024#32
  ![v1218.toNat, 1024]
def k0_off25 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1220 : Index := Scalar.indexCast v1075
  let c1152_635 : Index := 1152#32
  ![v1220.toNat, 1152]
def k0_off26 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1222 : Index := Scalar.indexCast v1075
  let c1280_636 : Index := 1280#32
  ![v1222.toNat, 1280]
def k0_off27 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1224 : Index := Scalar.indexCast v1075
  let c1408_637 : Index := 1408#32
  ![v1224.toNat, 1408]
def k0_off28 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1226 : Index := Scalar.indexCast v1075
  let c1536_638 : Index := 1536#32
  ![v1226.toNat, 1536]
def k0_off29 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1228 : Index := Scalar.indexCast v1075
  let c1664_639 : Index := 1664#32
  ![v1228.toNat, 1664]
def k0_off30 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1230 : Index := Scalar.indexCast v1075
  let c1792_640 : Index := 1792#32
  ![v1230.toNat, 1792]
def k0_off31 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1232 : Index := Scalar.indexCast v1075
  let c1920_641 : Index := 1920#32
  ![v1232.toNat, 1920]
def k0_off32 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1234 : Index := Scalar.indexCast v1075
  let c2048_642 : Index := 2048#32
  ![v1234.toNat, 2048]
def k0_off33 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1236 : Index := Scalar.indexCast v1075
  let c2176 : Index := 2176#32
  ![v1236.toNat, 2176]
def k0_off34 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1238 : Index := Scalar.indexCast v1075
  let c2304 : Index := 2304#32
  ![v1238.toNat, 2304]
def k0_off35 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1240 : Index := Scalar.indexCast v1075
  let c2432 : Index := 2432#32
  ![v1240.toNat, 2432]
def k0_off36 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1242 : Index := Scalar.indexCast v1075
  let c2560_643 : Index := 2560#32
  ![v1242.toNat, 2560]
def k0_off37 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1244 : Index := Scalar.indexCast v1075
  let c2688 : Index := 2688#32
  ![v1244.toNat, 2688]
def k0_off38 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1246 : Index := Scalar.indexCast v1075
  let c2816 : Index := 2816#32
  ![v1246.toNat, 2816]
def k0_off39 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v1248 : Index := Scalar.indexCast v1075
  let c2944 : Index := 2944#32
  ![v1248.toNat, 2944]
def k0_off40 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v2421 : Index := Scalar.indexCast v1075
  let c0_868 : Index := 0#32
  ![v2421.toNat, 0]
def k0_off41 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v2436 : Index := Scalar.indexCast v1075
  let c128_872 : Index := 128#32
  ![v2436.toNat, 128]
def k0_off42 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v2451 : Index := Scalar.indexCast v1075
  let c256_876 : Index := 256#32
  ![v2451.toNat, 256]
def k0_off43 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v2466 : Index := Scalar.indexCast v1075
  let c384_880 : Index := 384#32
  ![v2466.toNat, 384]
def k0_off44 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v2481 : Index := Scalar.indexCast v1075
  let c512_884 : Index := 512#32
  ![v2481.toNat, 512]
def k0_off45 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v2496 : Index := Scalar.indexCast v1075
  let c640_888 : Index := 640#32
  ![v2496.toNat, 640]
def k0_off46 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v2511 : Index := Scalar.indexCast v1075
  let c768_892 : Index := 768#32
  ![v2511.toNat, 768]
def k0_off47 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v2526 : Index := Scalar.indexCast v1075
  let c896_896 : Index := 896#32
  ![v2526.toNat, 896]
def k0_off48 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v2541 : Index := Scalar.indexCast v1075
  let c1024_901 : Index := 1024#32
  ![v2541.toNat, 1024]
def k0_off49 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v2554 : Index := Scalar.indexCast v1075
  let c1152_907 : Index := 1152#32
  ![v2554.toNat, 1152]
def k0_off50 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v2567 : Index := Scalar.indexCast v1075
  let c1280_913 : Index := 1280#32
  ![v2567.toNat, 1280]
def k0_off51 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v2580 : Index := Scalar.indexCast v1075
  let c1408_919 : Index := 1408#32
  ![v2580.toNat, 1408]
def k0_off52 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v2593 : Index := Scalar.indexCast v1075
  let c1536_925 : Index := 1536#32
  ![v2593.toNat, 1536]
def k0_off53 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v2606 : Index := Scalar.indexCast v1075
  let c1664_931 : Index := 1664#32
  ![v2606.toNat, 1664]
def k0_off54 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v2619 : Index := Scalar.indexCast v1075
  let c1792_937 : Index := 1792#32
  ![v2619.toNat, 1792]
def k0_off55 (k0_t1 : Fin k0_t1_loop.trips) : Fin 2 → Nat :=
  let c0_i32_413 : BitVec 32 := 0#32
  let c1_i32 : BitVec 32 := 1#32
  let arg23 : BitVec 32 := Scf.iv c0_i32_413 c1_i32 k0_t1
  let c64_i32 : BitVec 32 := 64#32
  let v1074 : BitVec 32 := Scalar.muli arg23 c64_i32
  let v1075 : BitVec 32 := v1074
  let v2632 : Index := Scalar.indexCast v1075
  let c1920_943 : Index := 1920#32
  ![v2632.toNat, 1920]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6784 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel2.lean ====
abbrev S32x2048x1024 : Shape := ⟨3, ![32, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x512x1024 : Shape := ⟨3, ![1, 512, 1024]⟩
abbrev S2x520x512 : Shape := ⟨3, ![2, 520, 512]⟩
abbrev S8x5632 : Shape := ⟨2, ![8, 5632]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S8x256 : Shape := ⟨2, ![8, 256]⟩
abbrev S1x8x256 : Shape := ⟨3, ![1, 8, 256]⟩
abbrev S1024x256 : Shape := ⟨2, ![1024, 256]⟩
abbrev S512x256 : Shape := ⟨2, ![512, 256]⟩
abbrev S1x512x256 : Shape := ⟨3, ![1, 512, 256]⟩
abbrev S1x256 : Shape := ⟨2, ![1, 256]⟩

abbrev nBuf : Space → Nat
  | .hbm => 19
  | .vmem => 13
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x1024, .f32⟩
  | .hbm, ⟨7, _⟩ => ⟨S1024, .f32⟩
  | .hbm, ⟨8, _⟩ => ⟨S1024x5632, .f32⟩
  | .hbm, ⟨9, _⟩ => ⟨S3x5632, .f32⟩
  | .hbm, ⟨10, _⟩ => ⟨S5632, .f32⟩
  | .hbm, ⟨11, _⟩ => ⟨S2816x1024, .f32⟩
  | .hbm, ⟨12, _⟩ => ⟨S1024, .f32⟩
  | .hbm, ⟨13, _⟩ => ⟨S1x1024, .f32⟩
  | .hbm, ⟨14, _⟩ => ⟨S1024x5632, .bf16⟩
  | .hbm, ⟨15, _⟩ => ⟨S1x5632, .f32⟩
  | .hbm, ⟨16, _⟩ => ⟨S2816x1024, .bf16⟩
  | .hbm, ⟨17, _⟩ => ⟨S1x1024, .f32⟩
  | .hbm, ⟨18, _⟩ => ⟨S32x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S2x520x512, .f32⟩
  | .local _ .vmem, ⟨11, _⟩ => ⟨S8x5632, .f32⟩
  | .local _ .vmem, ⟨12, _⟩ => ⟨S512x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S32x2048x1024 : Shape := ⟨3, ![32, 2048, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2050x5632 : Shape := ⟨3, ![32, 2050, 5632]⟩
abbrev S1x1x5632 : Shape := ⟨3, ![1, 1, 5632]⟩
abbrev S32x2048x2816 : Shape := ⟨3, ![32, 2048, 2816]⟩

abbrev nBuf : Space → Nat
  | .hbm => 89
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1x1024, .f32⟩
  | .hbm, ⟨7, _⟩ => ⟨S1024, .f32⟩
  | .hbm, ⟨8, _⟩ => ⟨S1024x5632, .f32⟩
  | .hbm, ⟨9, _⟩ => ⟨S3x5632, .f32⟩
  | .hbm, ⟨10, _⟩ => ⟨S5632, .f32⟩
  | .hbm, ⟨11, _⟩ => ⟨S2816x1024, .f32⟩
  | .hbm, ⟨12, _⟩ => ⟨S1024, .f32⟩
  | .hbm, ⟨13, _⟩ => ⟨S32x2048x1024, .f32⟩
  | .hbm, ⟨14, _⟩ => ⟨S_, .f32⟩
  | .hbm, ⟨15, _⟩ => ⟨S32x2048, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S_, .f32⟩
  | .hbm, ⟨21, _⟩ => ⟨S32x2048x1, .f32⟩
  | .hbm, ⟨22, _⟩ => ⟨S32x2048x1, .f32⟩
  | .hbm, ⟨23, _⟩ => ⟨S32x2048x1, .f32⟩
  | .hbm, ⟨24, _⟩ => ⟨S32x2048x1024, .f32⟩
  | .hbm, ⟨25, _⟩ => ⟨S32x2048x1024, .f32⟩
  | .hbm, ⟨26, _⟩ => ⟨S1x1x1024, .f32⟩
  | .hbm, ⟨27, _⟩ => ⟨S32x2048x1024, .f32⟩
  | .hbm, ⟨28, _⟩ => ⟨S32x2048x1024, .f32⟩
  | .hbm, ⟨29, _⟩ => ⟨S32x2048x5632, .f32⟩
  | .hbm, ⟨30, _⟩ => ⟨S_, .i32⟩
  | .hbm, ⟨31, _⟩ => ⟨S_, .f32⟩
  | .hbm, ⟨32, _⟩ => ⟨S32x2050x5632, .f32⟩
  | .hbm, ⟨33, _⟩ => ⟨S1x5632, .f32⟩
  | .hbm, ⟨34, _⟩ => ⟨S5632, .f32⟩
  | .hbm, ⟨35, _⟩ => ⟨S32x2048x5632, .f32⟩
  | .hbm, ⟨36, _⟩ => ⟨S1x1x5632, .f32⟩
  | .hbm, ⟨37, _⟩ => ⟨S32x2048x5632, .f32⟩
  | .hbm, ⟨38, _⟩ => ⟨S32x2048x5632, .f32⟩
  | .hbm, ⟨39, _⟩ => ⟨S_, .f32⟩
  | .hbm, ⟨40, _⟩ => ⟨S32x2048x5632, .f32⟩
  | .hbm, ⟨41, _⟩ => ⟨S32x2048x5632, .f32⟩
  | .hbm, ⟨42, _⟩ => ⟨S1x5632, .f32⟩
  | .hbm, ⟨43, _⟩ => ⟨S5632, .f32⟩
  | .hbm, ⟨44, _⟩ => ⟨S32x2048x5632, .f32⟩
  | .hbm, ⟨45, _⟩ => ⟨S1x1x5632, .f32⟩
  | .hbm, ⟨46, _⟩ => ⟨S32x2048x5632, .f32⟩
  | .hbm, ⟨47, _⟩ => ⟨S32x2048x5632, .f32⟩
  | .hbm, ⟨48, _⟩ => ⟨S32x2048x5632, .f32⟩
  | .hbm, ⟨49, _⟩ => ⟨S1x5632, .f32⟩
  | .hbm, ⟨50, _⟩ => ⟨S5632, .f32⟩
  | .hbm, ⟨51, _⟩ => ⟨S32x2048x5632, .f32⟩
  | .hbm, ⟨52, _⟩ => ⟨S1x1x5632, .f32⟩
  | .hbm, ⟨53, _⟩ => ⟨S32x2048x5632, .f32⟩
  | .hbm, ⟨54, _⟩ => ⟨S32x2048x5632, .f32⟩
  | .hbm, ⟨55, _⟩ => ⟨S32x2048x5632, .f32⟩
  | .hbm, ⟨56, _⟩ => ⟨S1x1x5632, .f32⟩
  | .hbm, ⟨57, _⟩ => ⟨S32x2048x5632, .f32⟩
  | .hbm, ⟨58, _⟩ => ⟨S32x2048x5632, .f32⟩
  | .hbm, ⟨59, _⟩ => ⟨S32x2048x2816, .f32⟩
  | .hbm, ⟨60, _⟩ => ⟨S32x2048x2816, .f32⟩
  | .hbm, ⟨61, _⟩ => ⟨S32x2048x2816, .f32⟩
  | .hbm, ⟨62, _⟩ => ⟨S32x2048x2816, .f32⟩
  | .hbm, ⟨63, _⟩ => ⟨S_, .f32⟩
  | .hbm, ⟨64, _⟩ => ⟨S32x2048x2816, .f32⟩
  | .hbm, ⟨65, _⟩ => ⟨S32x2048x2816, .f32⟩
  | .hbm, ⟨66, _⟩ => ⟨S_, .f32⟩
  | .hbm, ⟨67, _⟩ => ⟨S32x2048x2816, .f32⟩
  | .hbm, ⟨68, _⟩ => ⟨S32x2048x2816, .f32⟩
  | .hbm, ⟨69, _⟩ => ⟨S32x2048x2816, .f32⟩
  | .hbm, ⟨70, _⟩ => ⟨S32x2048x2816, .f32⟩
  | .hbm, ⟨71, _⟩ => ⟨S32x2048x1024, .f32⟩
  | .hbm, ⟨72, _⟩ => ⟨S32x2048x1024, .f32⟩
  | .hbm, ⟨73, _⟩ => ⟨S_, .f32⟩
  | .hbm, ⟨74, _⟩ => ⟨S32x2048, .f32⟩
  | .hbm, ⟨75, _⟩ => ⟨S32x2048x1, .f32⟩
  | .hbm, ⟨76, _⟩ => ⟨S_, .f32⟩
  | .hbm, ⟨77, _⟩ => ⟨S32x2048x1, .f32⟩
  | .hbm, ⟨78, _⟩ => ⟨S32x2048x1, .f32⟩
  | .hbm, ⟨79, _⟩ => ⟨S_, .f32⟩
  | .hbm, ⟨80, _⟩ => ⟨S32x2048x1, .f32⟩
  | .hbm, ⟨81, _⟩ => ⟨S32x2048x1, .f32⟩
  | .hbm, ⟨82, _⟩ => ⟨S32x2048x1, .f32⟩
  | .hbm, ⟨83, _⟩ => ⟨S32x2048x1024, .f32⟩
  | .hbm, ⟨84, _⟩ => ⟨S32x2048x1024, .f32⟩
  | .hbm, ⟨85, _⟩ => ⟨S1x1x1024, .f32⟩
  | .hbm, ⟨86, _⟩ => ⟨S32x2048x1024, .f32⟩
  | .hbm, ⟨87, _⟩ => ⟨S32x2048x1024, .f32⟩
  | .hbm, ⟨88, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_3 : Ref sig .tc := ⟨.hbm, 73, rfl⟩
abbrev main_v52 : Ref sig .tc := ⟨.hbm, 74, rfl⟩
abbrev main_v53 : Ref sig .tc := ⟨.hbm, 75, rfl⟩
abbrev main_cst_4 : Ref sig .tc := ⟨.hbm, 76, rfl⟩
abbrev main_v54 : Ref sig .tc := ⟨.hbm, 77, rfl⟩
abbrev main_v55 : Ref sig .tc := ⟨.hbm, 78, rfl⟩
abbrev main_cst_5 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== Kernel3.lean ====
abbrev S32x2048x1024 : Shape := ⟨3, ![32, 2048, 1024]⟩
abbrev S1x1024 : Shape := ⟨2, ![1, 1024]⟩
abbrev S1x1024x6688 : Shape := ⟨3, ![1, 1024, 6688]⟩
abbrev S1x4x3072 : Shape := ⟨3, ![1, 4, 3072]⟩
abbrev S1x4x1536 : Shape := ⟨3, ![1, 4, 1536]⟩
abbrev S1x1536 : Shape := ⟨2, ![1, 1536]⟩
abbrev S1024 : Shape := ⟨1, ![1024]⟩
abbrev S1024x6688 : Shape := ⟨2, ![1024, 6688]⟩
abbrev S4x3072 : Shape := ⟨2, ![4, 3072]⟩
abbrev S4x1536 : Shape := ⟨2, ![4, 1536]⟩
abbrev S1536 : Shape := ⟨1, ![1536]⟩
abbrev S1024x1024 : Shape := ⟨2, ![1024, 1024]⟩
abbrev S1024x8 : Shape := ⟨2, ![1024, 8]⟩
abbrev S1024x256 : Shape := ⟨2, ![1024, 256]⟩
abbrev S1024x16 : Shape := ⟨2, ![1024, 16]⟩
abbrev S_ : Shape := ⟨0, ![]⟩
abbrev S1024x96 : Shape := ⟨2, ![1024, 96]⟩
abbrev S1024x6784 : Shape := ⟨2, ![1024, 6784]⟩
abbrev S4x4608 : Shape := ⟨2, ![4, 4608]⟩
abbrev S3072 : Shape := ⟨1, ![3072]⟩
abbrev S4608 : Shape := ⟨1, ![4608]⟩
abbrev S1x4608 : Shape := ⟨2, ![1, 4608]⟩
abbrev S32x2048x4608 : Shape := ⟨3, ![32, 2048, 4608]⟩
abbrev S32x2048x2048 : Shape := ⟨3, ![32, 2048, 2048]⟩
abbrev S1x256x1024 : Shape := ⟨3, ![1, 256, 1024]⟩
abbrev S1x256x4608 : Shape := ⟨3, ![1, 256, 4608]⟩
abbrev S1x256x2048 : Shape := ⟨3, ![1, 256, 2048]⟩
abbrev S256x1024 : Shape := ⟨2, ![256, 1024]⟩
abbrev S264x4608 : Shape := ⟨2, ![264, 4608]⟩
abbrev S256x4608 : Shape := ⟨2, ![256, 4608]⟩
abbrev S256x2048 : Shape := ⟨2, ![256, 2048]⟩
abbrev S8x4608 : Shape := ⟨2, ![8, 4608]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x512 : Shape := ⟨2, ![1, 512]⟩
abbrev S8x512 : Shape := ⟨2, ![8, 512]⟩
abbrev S256x128 : Shape := ⟨2, ![256, 128]⟩

abbrev nBuf : Space → Nat
  | .hbm => 34
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x6688, .f32⟩
  | .hbm, ⟨3, _⟩ => ⟨S1x4x3072, .f32⟩
  | .hbm, ⟨4, _⟩ => ⟨S1x4x1536, .f32⟩
  | .hbm, ⟨5, _⟩ => ⟨S1x1536, .f32⟩
  | .hbm, ⟨6, _⟩ => ⟨S1024, .f32⟩
  | .hbm, ⟨7, _⟩ => ⟨S1024x6688, .f32⟩
  | .hbm, ⟨8, _⟩ => ⟨S4x3072, .f32⟩
  | .hbm, ⟨9, _⟩ => ⟨S4x1536, .f32⟩
  | .hbm, ⟨10, _⟩ => ⟨S1536, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x8, .f32⟩
  | .hbm, ⟨16, _⟩ => ⟨S1024x8, .f32⟩
  | .hbm, ⟨17, _⟩ => ⟨S1024x1024, .f32⟩
  | .hbm, ⟨18, _⟩ => ⟨S1024x1024, .f32⟩
  | .hbm, ⟨19, _⟩ => ⟨S1024x256, .f32⟩
  | .hbm, ⟨20, _⟩ => ⟨S1024x256, .f32⟩
  | .hbm, ⟨21, _⟩ => ⟨S1024x16, .f32⟩
  | .hbm, ⟨22, _⟩ => ⟨S_, .f32⟩
  | .hbm, ⟨23, _⟩ => ⟨S1024x96, .f32⟩
  | .hbm, ⟨24, _⟩ => ⟨S1024x6784, .f32⟩
  | .hbm, ⟨25, _⟩ => ⟨S1024x6784, .bf16⟩
  | .hbm, ⟨26, _⟩ => ⟨S4x4608, .f32⟩
  | .hbm, ⟨27, _⟩ => ⟨S_, .f32⟩
  | .hbm, ⟨28, _⟩ => ⟨S3072, .f32⟩
  | .hbm, ⟨29, _⟩ => ⟨S4608, .f32⟩
  | .hbm, ⟨30, _⟩ => ⟨S1x4608, .f32⟩
  | .hbm, ⟨31, _⟩ => ⟨S1x1024, .f32⟩
  | .hbm, ⟨32, _⟩ => ⟨S32x2048x4608, .f32⟩
  | .hbm, ⟨33, _⟩ => ⟨S32x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x6784, .bf16⟩
  | .local _ .vmem, ⟨4, _⟩ => ⟨S4x4608, .f32⟩
  | .local _ .vmem, ⟨5, _⟩ => ⟨S1x4608, .f32⟩
  | .local _ .vmem, ⟨6, _⟩ => ⟨S1x256x4608, .f32⟩
  | .local _ .vmem, ⟨7, _⟩ => ⟨S1x256x4608, .f32⟩
  | .local _ .vmem, ⟨8, _⟩ => ⟨S1x256x2048, .f32⟩
  | .local _ .vmem, ⟨9, _⟩ => ⟨S1x256x2048, .f32⟩
  | .local _ .vmem, ⟨10, _⟩ => ⟨S256x1024, .bf16⟩
  | .local _ .vmem, ⟨11, _⟩ => ⟨S264x4608, .f32⟩
  | .local _ .vmem, ⟨12, _⟩ => ⟨S256x4608, .f32⟩
  | .local _ .vmem, ⟨13, _⟩ => ⟨S256x2048, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6784 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4608 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S32x2048x1024 : Shape := ⟨3, ![32, 2048, 1024]⟩
abbrev S1x1024 : Shape := ⟨2, ![1, 1024]⟩
abbrev S1x1024x6688 : Shape := ⟨3, ![1, 1024, 6688]⟩
abbrev S1x4x3072 : Shape := ⟨3, ![1, 4, 3072]⟩
abbrev S1x4x1536 : Shape := ⟨3, ![1, 4, 1536]⟩
abbrev S1x1536 : Shape := ⟨2, ![1, 1536]⟩
abbrev S1024 : Shape := ⟨1, ![1024]⟩
abbrev S1024x6688 : Shape := ⟨2, ![1024, 6688]⟩
abbrev S4x3072 : Shape := ⟨2, ![4, 3072]⟩
abbrev S4x1536 : Shape := ⟨2, ![4, 1536]⟩
abbrev S1536 : Shape := ⟨1, ![1536]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x6688 : Shape := ⟨3, ![32, 2048, 6688]⟩
abbrev S32x2048x8 : Shape := ⟨3, ![32, 2048, 8]⟩
abbrev S32x2048x256 : Shape := ⟨3, ![32, 2048, 256]⟩
abbrev S32x2048x16 : Shape := ⟨3, ![32, 2048, 16]⟩
abbrev S32x2048x3072 : Shape := ⟨3, ![32, 2048, 3072]⟩
abbrev S32x2051x3072 : Shape := ⟨3, ![32, 2051, 3072]⟩
abbrev S1x3072 : Shape := ⟨2, ![1, 3072]⟩
abbrev S3072 : Shape := ⟨1, ![3072]⟩
abbrev S1x1x3072 : Shape := ⟨3, ![1, 1, 3072]⟩
abbrev S32x2048x8x128 : Shape := ⟨4, ![32, 2048, 8, 128]⟩
abbrev S32x2048x8x1 : Shape := ⟨4, ![32, 2048, 8, 1]⟩
abbrev S32x2048x1536 : Shape := ⟨3, ![32, 2048, 1536]⟩
abbrev S32x2051x1536 : Shape := ⟨3, ![32, 2051, 1536]⟩
abbrev S1x1x1536 : Shape := ⟨3, ![1, 1, 1536]⟩
abbrev S32x2048x4608 : Shape := ⟨3, ![32, 2048, 4608]⟩
abbrev S32x2048x2048 : Shape := ⟨3, ![32, 2048, 2048]⟩

abbrev nBuf : Space → Nat
  | .hbm => 160
  | .vmem => 0
  | .smem => 0
  | _ => 0

abbrev hbmTy0_0 (i : Nat) : BufTy := match i % 128 with
  | 0 => ⟨S32x2048x1024, .f32⟩
  | 1 => ⟨S1x1024, .f32⟩
  | 2 => ⟨S1x1024x6688, .f32⟩
  | 3 => ⟨S1x4x3072, .f32⟩
  | 4 => ⟨S1x4x1536, .f32⟩
  | 5 => ⟨S1x1536, .f32⟩
  | 6 => ⟨S1024, .f32⟩
  | 7 => ⟨S1024x6688, .f32⟩
  | 8 => ⟨S4x3072, .f32⟩
  | 9 => ⟨S4x1536, .f32⟩
  | 10 => ⟨S1536, .f32⟩
  | 11 => ⟨S32x2048x1024, .f32⟩
  | 12 => ⟨S_, .f32⟩
  | 13 => ⟨S32x2048, .f32⟩
  | 14 => ⟨S32x2048x1, .f32⟩
  | 15 => ⟨S_, .f32⟩
  | 16 => ⟨S32x2048x1, .f32⟩
  | 17 => ⟨S32x2048x1, .f32⟩
  | 18 => ⟨S_, .f32⟩
  | 19 => ⟨S32x2048x1, .f32⟩
  | 20 => ⟨S32x2048x1, .f32⟩
  | 21 => ⟨S32x2048x1, .f32⟩
  | 22 => ⟨S32x2048x1024, .f32⟩
  | 23 => ⟨S32x2048x1024, .f32⟩
  | 24 => ⟨S1x1x1024, .f32⟩
  | 25 => ⟨S32x2048x1024, .f32⟩
  | 26 => ⟨S32x2048x1024, .f32⟩
  | 27 => ⟨S32x2048x6688, .f32⟩
  | 28 => ⟨S32x2048x1024, .f32⟩
  | 29 => ⟨S32x2048x1024, .f32⟩
  | 30 => ⟨S32x2048x1024, .f32⟩
  | 31 => ⟨S32x2048x1024, .f32⟩
  | 32 => ⟨S32x2048x8, .f32⟩
  | 33 => ⟨S32x2048x8, .f32⟩
  | 34 => ⟨S32x2048x1024, .f32⟩
  | 35 => ⟨S32x2048x1024, .f32⟩
  | 36 => ⟨S32x2048x256, .f32⟩
  | 37 => ⟨S32x2048x256, .f32⟩
  | 38 => ⟨S32x2048x16, .f32⟩
  | 39 => ⟨S32x2048x3072, .f32⟩
  | 40 => ⟨S_, .i32⟩
  | 41 => ⟨S_, .f32⟩
  | 42 => ⟨S32x2051x3072, .f32⟩
  | 43 => ⟨S1x3072, .f32⟩
  | 44 => ⟨S3072, .f32⟩
  | 45 => ⟨S32x2048x3072, .f32⟩
  | 46 => ⟨S1x1x3072, .f32⟩
  | 47 => ⟨S32x2048x3072, .f32⟩
  | 48 => ⟨S32x2048x3072, .f32⟩
  | 49 => ⟨S_, .f32⟩
  | 50 => ⟨S32x2048x3072, .f32⟩
  | 51 => ⟨S32x2048x3072, .f32⟩
  | 52 => ⟨S1x3072, .f32⟩
  | 53 => ⟨S3072, .f32⟩
  | 54 => ⟨S32x2048x3072, .f32⟩
  | 55 => ⟨S1x1x3072, .f32⟩
  | 56 => ⟨S32x2048x3072, .f32⟩
  | 57 => ⟨S32x2048x3072, .f32⟩
  | 58 => ⟨S32x2048x3072, .f32⟩
  | 59 => ⟨S1x3072, .f32⟩
  | 60 => ⟨S3072, .f32⟩
  | 61 => ⟨S32x2048x3072, .f32⟩
  | 62 => ⟨S1x1x3072, .f32⟩
  | 63 => ⟨S32x2048x3072, .f32⟩
  | 64 => ⟨S32x2048x3072, .f32⟩
  | 65 => ⟨S32x2048x3072, .f32⟩
  | 66 => ⟨S1x3072, .f32⟩
  | 67 => ⟨S3072, .f32⟩
  | 68 => ⟨S32x2048x3072, .f32⟩
  | 69 => ⟨S1x1x3072, .f32⟩
  | 70 => ⟨S32x2048x3072, .f32⟩
  | 71 => ⟨S32x2048x3072, .f32⟩
  | 72 => ⟨S32x2048x3072, .f32⟩
  | 73 => ⟨S32x2048x3072, .f32⟩
  | 74 => ⟨S32x2048x3072, .f32⟩
  | 75 => ⟨S_, .f32⟩
  | 76 => ⟨S32x2048x3072, .f32⟩
  | 77 => ⟨S32x2048x3072, .f32⟩
  | 78 => ⟨S_, .f32⟩
  | 79 => ⟨S32x2048x3072, .f32⟩
  | 80 => ⟨S32x2048x3072, .f32⟩
  | 81 => ⟨S32x2048x3072, .f32⟩
  | 82 => ⟨S32x2048x1024, .f32⟩
  | 83 => ⟨S32x2048x1024, .f32⟩
  | 84 => ⟨S32x2048x1024, .f32⟩
  | 85 => ⟨S32x2048x8x128, .f32⟩
  | 86 => ⟨S32x2048x8x128, .f32⟩
  | 87 => ⟨S_, .f32⟩
  | 88 => ⟨S32x2048x8, .f32⟩
  | 89 => ⟨S32x2048x8x1, .f32⟩
  | 90 => ⟨S_, .f32⟩
  | 91 => ⟨S32x2048x8x1, .f32⟩
  | 92 => ⟨S32x2048x8x1, .f32⟩
  | 93 => ⟨S32x2048x8x1, .f32⟩
  | 94 => ⟨S32x2048x8x128, .f32⟩
  | 95 => ⟨S32x2048x8x128, .f32⟩
  | 96 => ⟨S_, .f32⟩
  | 97 => ⟨S32x2048x8x128, .f32⟩
  | 98 => ⟨S32x2048x8x128, .f32⟩
  | 99 => ⟨S32x2048x8x128, .f32⟩
  | 100 => ⟨S32x2048x8x128, .f32⟩
  | 101 => ⟨S_, .f32⟩
  | 102 => ⟨S32x2048x8, .f32⟩
  | 103 => ⟨S32x2048x8x1, .f32⟩
  | 104 => ⟨S_, .f32⟩
  | 105 => ⟨S32x2048x8x1, .f32⟩
  | 106 => ⟨S32x2048x8x1, .f32⟩
  | 107 => ⟨S32x2048x8x1, .f32⟩
  | 108 => ⟨S32x2048x8x128, .f32⟩
  | 109 => ⟨S32x2048x8x128, .f32⟩
  | 110 => ⟨S32x2048x1536, .f32⟩
  | 111 => ⟨S_, .i32⟩
  | 112 => ⟨S_, .f32⟩
  | 113 => ⟨S32x2051x1536, .f32⟩
  | 114 => ⟨S1x1536, .f32⟩
  | 115 => ⟨S1536, .f32⟩
  | 116 => ⟨S32x2048x1536, .f32⟩
  | 117 => ⟨S1x1x1536, .f32⟩
  | 118 => ⟨S32x2048x1536, .f32⟩
  | 119 => ⟨S32x2048x1536, .f32⟩
  | 120 => ⟨S_, .f32⟩
  | 121 => ⟨S32x2048x1536, .f32⟩
  | 122 => ⟨S32x2048x1536, .f32⟩
  | 123 => ⟨S1x1536, .f32⟩
  | 124 => ⟨S1536, .f32⟩
  | 125 => ⟨S32x2048x1536, .f32⟩
  | 126 => ⟨S1x1x1536, .f32⟩
  | 127 => ⟨S32x2048x1536, .f32⟩
  | _ => ⟨S32x2048x1024, .f32⟩

abbrev hbmTy0_1 (i : Nat) : BufTy := match i % 128 with
  | 0 => ⟨S32x2048x1536, .f32⟩
  | 1 => ⟨S32x2048x1536, .f32⟩
  | 2 => ⟨S1x1536, .f32⟩
  | 3 => ⟨S1536, .f32⟩
  | 4 => ⟨S32x2048x1536, .f32⟩
  | 5 => ⟨S1x1x1536, .f32⟩
  | 6 => ⟨S32x2048x1536, .f32⟩
  | 7 => ⟨S32x2048x1536, .f32⟩
  | 8 => ⟨S32x2048x1536, .f32⟩
  | 9 => ⟨S1x1536, .f32⟩
  | 10 => ⟨S1536, .f32⟩
  | 11 => ⟨S32x2048x1536, .f32⟩
  | 12 => ⟨S1x1x1536, .f32⟩
  | 13 => ⟨S32x2048x1536, .f32⟩
  | 14 => ⟨S32x2048x1536, .f32⟩
  | 15 => ⟨S32x2048x1536, .f32⟩
  | 16 => ⟨S1x1x1536, .f32⟩
  | 17 => ⟨S32x2048x1536, .f32⟩
  | 18 => ⟨S32x2048x1536, .f32⟩
  | 19 => ⟨S32x2048x1536, .f32⟩
  | 20 => ⟨S32x2048x1536, .f32⟩
  | 21 => ⟨S_, .f32⟩
  | 22 => ⟨S32x2048x1536, .f32⟩
  | 23 => ⟨S32x2048x1536, .f32⟩
  | 24 => ⟨S_, .f32⟩
  | 25 => ⟨S32x2048x1536, .f32⟩
  | 26 => ⟨S32x2048x1536, .f32⟩
  | 27 => ⟨S32x2048x1536, .f32⟩
  | 28 => ⟨S32x2048x1024, .f32⟩
  | 29 => ⟨S32x2048x1024, .f32⟩
  | 30 => ⟨S32x2048x4608, .f32⟩
  | 31 => ⟨S32x2048x2048, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_call0_v0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_3 : Ref sig .tc := ⟨.hbm, 87, rfl⟩
abbrev main_v67 : Ref sig .tc := ⟨.hbm, 88, rfl⟩
abbrev main_v68 : Ref sig .tc := ⟨.hbm, 89, rfl⟩
abbrev main_cst_4 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_5 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_6 : Ref sig .tc := ⟨.hbm, 101, rfl⟩
abbrev main_v78 : Ref sig .tc := ⟨.hbm, 102, rfl⟩
abbrev main_v79 : Ref sig .tc := ⟨.hbm, 103, rfl⟩
abbrev main_cst_7 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_c_8 : Ref sig .tc := ⟨.hbm, 111, rfl⟩
abbrev main_call2_v0 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_9 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_call3_v0 : Ref sig .tc := ⟨.hbm, 147, rfl⟩
abbrev main_call3_v1 : Ref sig .tc := ⟨.hbm, 148, rfl⟩
abbrev main_call3_cst : Ref sig .tc := ⟨.hbm, 149, rfl⟩
abbrev main_call3_v2 : Ref sig .tc := ⟨.hbm, 150, rfl⟩
abbrev main_call3_v3 : Ref sig .tc := ⟨.hbm, 151, rfl⟩
abbrev main_call3_cst_0 : Ref sig .tc := ⟨.hbm, 152, rfl⟩
abbrev main_call3_v4 : Ref sig .tc := ⟨.hbm, 153, rfl⟩
abbrev main_call3_v5 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩

abbrev nD : Nat := 1
abbrev τ : Topo := Topo.v7x

variable {F : FTy → Type} [FloatOps F]
-- ==== Kernel4.lean ====
abbrev S32x2048x1024 : Shape := ⟨3, ![32, 2048, 1024]⟩
abbrev S32x2048x4608 : Shape := ⟨3, ![32, 2048, 4608]⟩
abbrev S32x2048x2048 : Shape := ⟨3, ![32, 2048, 2048]⟩
abbrev S1x128 : Shape := ⟨2, ![1, 128]⟩
abbrev S1x16 : Shape := ⟨2, ![1, 16]⟩
abbrev S1x1024 : Shape := ⟨2, ![1, 1024]⟩
abbrev S1x2048x1024 : Shape := ⟨3, ![1, 2048, 1024]⟩
abbrev S128 : Shape := ⟨1, ![128]⟩
abbrev S16 : Shape := ⟨1, ![16]⟩
abbrev S1024 : Shape := ⟨1, ![1024]⟩
abbrev S2048x1024 : Shape := ⟨2, ![2048, 1024]⟩
abbrev S8x128 : Shape := ⟨2, ![8, 128]⟩
abbrev S16x64 : Shape := ⟨2, ![16, 64]⟩
abbrev S1x256x1024 : Shape := ⟨3, ![1, 256, 1024]⟩
abbrev S1x256x4608 : Shape := ⟨3, ![1, 256, 4608]⟩
abbrev S1x256x2048 : Shape := ⟨3, ![1, 256, 2048]⟩
abbrev S256x4608 : Shape := ⟨2, ![256, 4608]⟩
abbrev S256x2048 : Shape := ⟨2, ![256, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S256x512 : Shape := ⟨2, ![256, 512]⟩
abbrev S1x512 : Shape := ⟨2, ![1, 512]⟩

abbrev nBuf : Space → Nat
  | .hbm => 25
  | .vmem => 19
  | .smem => 0
  | _ => 0

abbrev bufTy : (tb : Table) → Fin (tcTables nBuf tb) → BufTy
  | .hbm, ⟨0, _⟩ => ⟨S32x2048x1024, .f32⟩
  | .hbm, ⟨1, _⟩ => ⟨S32x2048x4608, .f32⟩
  | .hbm, ⟨2, _⟩ => ⟨S32x2048x2048, .f32⟩
  | .hbm, ⟨3, _⟩ => ⟨S32x2048x2048, .f32⟩
  | .hbm, ⟨4, _⟩ => ⟨S1x128, .f32⟩
  | .hbm, ⟨5, _⟩ => ⟨S1x16, .f32⟩
  | .hbm, ⟨6, _⟩ => ⟨S1x1024, .f32⟩
  | .hbm, ⟨7, _⟩ => ⟨S1x2048x1024, .f32⟩
  | .hbm, ⟨8, _⟩ => ⟨S1x1024, .f32⟩
  | .hbm, ⟨9, _⟩ => ⟨S128, .f32⟩
  | .hbm, ⟨10, _⟩ => ⟨S16, .f32⟩
  | .hbm, ⟨11, _⟩ => ⟨S1024, .f32⟩
  | .hbm, ⟨12, _⟩ => ⟨S2048x1024, .f32⟩
  | .hbm, ⟨13, _⟩ => ⟨S1024, .f32⟩
  | .hbm, ⟨14, _⟩ => ⟨S1x128, .f32⟩
  | .hbm, ⟨15, _⟩ => ⟨S8x128, .f32⟩
  | .hbm, ⟨16, _⟩ => ⟨S1024, .f32⟩
  | .hbm, ⟨17, _⟩ => ⟨S1x1024, .f32⟩
  | .hbm, ⟨18, _⟩ => ⟨S16x64, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S2048x1024, .bf16⟩
  | .hbm, ⟨23, _⟩ => ⟨S1x1024, .f32⟩
  | .hbm, ⟨24, _⟩ => ⟨S32x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x4608, .f32⟩
  | .local _ .vmem, ⟨3, _⟩ => ⟨S1x256x4608, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S2048x1024, .bf16⟩
  | .local _ .vmem, ⟨12, _⟩ => ⟨S1x1024, .f32⟩
  | .local _ .vmem, ⟨13, _⟩ => ⟨S1x256x1024, .f32⟩
  | .local _ .vmem, ⟨14, _⟩ => ⟨S1x256x1024, .f32⟩
  | .local _ .vmem, ⟨15, _⟩ => ⟨S256x4608, .f32⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4608 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S32x2048x1024 : Shape := ⟨3, ![32, 2048, 1024]⟩
abbrev S32x2048x4608 : Shape := ⟨3, ![32, 2048, 4608]⟩
abbrev S32x2048x2048 : Shape := ⟨3, ![32, 2048, 2048]⟩
abbrev S1x128 : Shape := ⟨2, ![1, 128]⟩
abbrev S1x16 : Shape := ⟨2, ![1, 16]⟩
abbrev S1x1024 : Shape := ⟨2, ![1, 1024]⟩
abbrev S1x2048x1024 : Shape := ⟨3, ![1, 2048, 1024]⟩
abbrev S128 : Shape := ⟨1, ![128]⟩
abbrev S16 : Shape := ⟨1, ![16]⟩
abbrev S1024 : Shape := ⟨1, ![1024]⟩
abbrev S2048x1024 : Shape := ⟨2, ![2048, 1024]⟩
abbrev S32x2048x2x8x64 : Shape := ⟨5, ![32, 2048, 2, 8, 64]⟩
abbrev S32x2048x8x128 : Shape := ⟨4, ![32, 2048, 8, 128]⟩
abbrev S_ : Shape := ⟨0, ![]⟩
abbrev S32x2048x8 : Shape := ⟨3, ![32, 2048, 8]⟩
abbrev S32x2048x8x1 : Shape := ⟨4, ![32, 2048, 8, 1]⟩
abbrev S1x1x1x128 : Shape := ⟨4, ![1, 1, 1, 128]⟩
abbrev S2x8 : Shape := ⟨2, ![2, 8]⟩
abbrev S2x8x1 : Shape := ⟨3, ![2, 8, 1]⟩
abbrev S1x1x2x8x1 : Shape := ⟨5, ![1, 1, 2, 8, 1]⟩
abbrev S32x2048x2x512 : Shape := ⟨4, ![32, 2048, 2, 512]⟩
abbrev S2x512 : Shape := ⟨2, ![2, 512]⟩
abbrev S32x2048x2 : Shape := ⟨3, ![32, 2048, 2]⟩
abbrev S32x2048x2x1 : Shape := ⟨4, ![32, 2048, 2, 1]⟩
abbrev S1x1x2x512 : Shape := ⟨4, ![1, 1, 2, 512]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 105
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x4608, .f32⟩
  | .hbm, ⟨2, _⟩ => ⟨S32x2048x2048, .f32⟩
  | .hbm, ⟨3, _⟩ => ⟨S32x2048x2048, .f32⟩
  | .hbm, ⟨4, _⟩ => ⟨S1x128, .f32⟩
  | .hbm, ⟨5, _⟩ => ⟨S1x16, .f32⟩
  | .hbm, ⟨6, _⟩ => ⟨S1x1024, .f32⟩
  | .hbm, ⟨7, _⟩ => ⟨S1x2048x1024, .f32⟩
  | .hbm, ⟨8, _⟩ => ⟨S1x1024, .f32⟩
  | .hbm, ⟨9, _⟩ => ⟨S128, .f32⟩
  | .hbm, ⟨10, _⟩ => ⟨S16, .f32⟩
  | .hbm, ⟨11, _⟩ => ⟨S1024, .f32⟩
  | .hbm, ⟨12, _⟩ => ⟨S2048x1024, .f32⟩
  | .hbm, ⟨13, _⟩ => ⟨S1024, .f32⟩
  | .hbm, ⟨14, _⟩ => ⟨S32x2048x1024, .f32⟩
  | .hbm, ⟨15, _⟩ => ⟨S32x2048x2x8x64, .f32⟩
  | .hbm, ⟨16, _⟩ => ⟨S32x2048x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S32x2048x8x128, .f32⟩
  | .hbm, ⟨21, _⟩ => ⟨S32x2048x8x128, .f32⟩
  | .hbm, ⟨22, _⟩ => ⟨S_, .f32⟩
  | .hbm, ⟨23, _⟩ => ⟨S32x2048x8, .f32⟩
  | .hbm, ⟨24, _⟩ => ⟨S32x2048x8x1, .f32⟩
  | .hbm, ⟨25, _⟩ => ⟨S_, .f32⟩
  | .hbm, ⟨26, _⟩ => ⟨S32x2048x8x1, .f32⟩
  | .hbm, ⟨27, _⟩ => ⟨S32x2048x8x1, .f32⟩
  | .hbm, ⟨28, _⟩ => ⟨S_, .f32⟩
  | .hbm, ⟨29, _⟩ => ⟨S32x2048x8x1, .f32⟩
  | .hbm, ⟨30, _⟩ => ⟨S32x2048x8x1, .f32⟩
  | .hbm, ⟨31, _⟩ => ⟨S32x2048x8x1, .f32⟩
  | .hbm, ⟨32, _⟩ => ⟨S32x2048x8x128, .f32⟩
  | .hbm, ⟨33, _⟩ => ⟨S32x2048x8x128, .f32⟩
  | .hbm, ⟨34, _⟩ => ⟨S1x1x1x128, .f32⟩
  | .hbm, ⟨35, _⟩ => ⟨S32x2048x8x128, .f32⟩
  | .hbm, ⟨36, _⟩ => ⟨S32x2048x8x128, .f32⟩
  | .hbm, ⟨37, _⟩ => ⟨S32x2048x8x128, .f32⟩
  | .hbm, ⟨38, _⟩ => ⟨S32x2048x8x128, .f32⟩
  | .hbm, ⟨39, _⟩ => ⟨S32x2048x8x128, .f32⟩
  | .hbm, ⟨40, _⟩ => ⟨S_, .f32⟩
  | .hbm, ⟨41, _⟩ => ⟨S32x2048x8x128, .f32⟩
  | .hbm, ⟨42, _⟩ => ⟨S32x2048x8x128, .f32⟩
  | .hbm, ⟨43, _⟩ => ⟨S_, .f32⟩
  | .hbm, ⟨44, _⟩ => ⟨S32x2048x8x128, .f32⟩
  | .hbm, ⟨45, _⟩ => ⟨S32x2048x8x128, .f32⟩
  | .hbm, ⟨46, _⟩ => ⟨S32x2048x8x128, .f32⟩
  | .hbm, ⟨47, _⟩ => ⟨S32x2048x8x128, .f32⟩
  | .hbm, ⟨48, _⟩ => ⟨S32x2048x1024, .f32⟩
  | .hbm, ⟨49, _⟩ => ⟨S32x2048x2x8x64, .f32⟩
  | .hbm, ⟨50, _⟩ => ⟨S2x8, .f32⟩
  | .hbm, ⟨51, _⟩ => ⟨S2x8x1, .f32⟩
  | .hbm, ⟨52, _⟩ => ⟨S1x1x2x8x1, .f32⟩
  | .hbm, ⟨53, _⟩ => ⟨S32x2048x2x8x64, .f32⟩
  | .hbm, ⟨54, _⟩ => ⟨S32x2048x2x8x64, .f32⟩
  | .hbm, ⟨55, _⟩ => ⟨S32x2048x2x8x64, .f32⟩
  | .hbm, ⟨56, _⟩ => ⟨S32x2048x1024, .f32⟩
  | .hbm, ⟨57, _⟩ => ⟨S32x2048x1024, .f32⟩
  | .hbm, ⟨58, _⟩ => ⟨S32x2048x1024, .f32⟩
  | .hbm, ⟨59, _⟩ => ⟨S_, .f32⟩
  | .hbm, ⟨60, _⟩ => ⟨S32x2048x1024, .f32⟩
  | .hbm, ⟨61, _⟩ => ⟨S32x2048x1024, .f32⟩
  | .hbm, ⟨62, _⟩ => ⟨S_, .f32⟩
  | .hbm, ⟨63, _⟩ => ⟨S32x2048x1024, .f32⟩
  | .hbm, ⟨64, _⟩ => ⟨S32x2048x1024, .f32⟩
  | .hbm, ⟨65, _⟩ => ⟨S32x2048x1024, .f32⟩
  | .hbm, ⟨66, _⟩ => ⟨S32x2048x1024, .f32⟩
  | .hbm, ⟨67, _⟩ => ⟨S32x2048x2x512, .f32⟩
  | .hbm, ⟨68, _⟩ => ⟨S2x512, .f32⟩
  | .hbm, ⟨69, _⟩ => ⟨S32x2048x2x512, .f32⟩
  | .hbm, ⟨70, _⟩ => ⟨S_, .f32⟩
  | .hbm, ⟨71, _⟩ => ⟨S32x2048x2, .f32⟩
  | .hbm, ⟨72, _⟩ => ⟨S32x2048x2x1, .f32⟩
  | .hbm, ⟨73, _⟩ => ⟨S_, .f32⟩
  | .hbm, ⟨74, _⟩ => ⟨S32x2048x2x1, .f32⟩
  | .hbm, ⟨75, _⟩ => ⟨S32x2048x2x1, .f32⟩
  | .hbm, ⟨76, _⟩ => ⟨S_, .f32⟩
  | .hbm, ⟨77, _⟩ => ⟨S32x2048x2x1, .f32⟩
  | .hbm, ⟨78, _⟩ => ⟨S32x2048x2x1, .f32⟩
  | .hbm, ⟨79, _⟩ => ⟨S32x2048x2x1, .f32⟩
  | .hbm, ⟨80, _⟩ => ⟨S32x2048x2x512, .f32⟩
  | .hbm, ⟨81, _⟩ => ⟨S32x2048x2x512, .f32⟩
  | .hbm, ⟨82, _⟩ => ⟨S1x1x2x512, .f32⟩
  | .hbm, ⟨83, _⟩ => ⟨S32x2048x2x512, .f32⟩
  | .hbm, ⟨84, _⟩ => ⟨S32x2048x2x512, .f32⟩
  | .hbm, ⟨85, _⟩ => ⟨S32x2048x1024, .f32⟩
  | .hbm, ⟨86, _⟩ => ⟨S32x2048x2048, .f32⟩
  | .hbm, ⟨87, _⟩ => ⟨S32x2048x1024, .f32⟩
  | .hbm, ⟨88, _⟩ => ⟨S32x2048x1024, .f32⟩
  | .hbm, ⟨89, _⟩ => ⟨S_, .f32⟩
  | .hbm, ⟨90, _⟩ => ⟨S32x2048, .f32⟩
  | .hbm, ⟨91, _⟩ => ⟨S32x2048x1, .f32⟩
  | .hbm, ⟨92, _⟩ => ⟨S_, .f32⟩
  | .hbm, ⟨93, _⟩ => ⟨S32x2048x1, .f32⟩
  | .hbm, ⟨94, _⟩ => ⟨S32x2048x1, .f32⟩
  | .hbm, ⟨95, _⟩ => ⟨S_, .f32⟩
  | .hbm, ⟨96, _⟩ => ⟨S32x2048x1, .f32⟩
  | .hbm, ⟨97, _⟩ => ⟨S32x2048x1, .f32⟩
  | .hbm, ⟨98, _⟩ => ⟨S32x2048x1, .f32⟩
  | .hbm, ⟨99, _⟩ => ⟨S32x2048x1024, .f32⟩
  | .hbm, ⟨100, _⟩ => ⟨S32x2048x1024, .f32⟩
  | .hbm, ⟨101, _⟩ => ⟨S1x1x1024, .f32⟩
  | .hbm, ⟨102, _⟩ => ⟨S32x2048x1024, .f32⟩
  | .hbm, ⟨103, _⟩ => ⟨S32x2048x1024, .f32⟩
  | .hbm, ⟨104, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_2 : Ref sig .tc := ⟨.hbm, 70, rfl⟩
abbrev main_v42 : Ref sig .tc := ⟨.hbm, 71, rfl⟩
abbrev main_v43 : Ref sig .tc := ⟨.hbm, 72, rfl⟩
abbrev main_cst_3 : Ref sig .tc := ⟨.hbm, 73, rfl⟩
abbrev main_v44 : Ref sig .tc := ⟨.hbm, 74, rfl⟩
abbrev main_v45 : Ref sig .tc := ⟨.hbm, 75, rfl⟩
abbrev main_cst_4 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_5 : Ref sig .tc := ⟨.hbm, 89, rfl⟩
abbrev main_v58 : Ref sig .tc := ⟨.hbm, 90, rfl⟩
abbrev main_v59 : Ref sig .tc := ⟨.hbm, 91, rfl⟩
abbrev main_cst_6 : Ref sig .tc := ⟨.hbm, 92, rfl⟩
abbrev main_v60 : Ref sig .tc := ⟨.hbm, 93, rfl⟩
abbrev main_v61 : Ref sig .tc := ⟨.hbm, 94, rfl⟩
abbrev main_cst_7 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩

abbrev nD : Nat := 1
abbrev τ : Topo := Topo.v7x

variable {F : FTy → Type} [FloatOps F]
-- ==== Kernel5.lean ====
abbrev S32x2048x1024 : Shape := ⟨3, ![32, 2048, 1024]⟩
abbrev S1x1024 : Shape := ⟨2, ![1, 1024]⟩
abbrev S1x1024x6688 : Shape := ⟨3, ![1, 1024, 6688]⟩
abbrev S1x8 : Shape := ⟨2, ![1, 8]⟩
abbrev S1x16 : Shape := ⟨2, ![1, 16]⟩
abbrev S1024 : Shape := ⟨1, ![1024]⟩
abbrev S1024x6688 : Shape := ⟨2, ![1024, 6688]⟩
abbrev S8 : Shape := ⟨1, ![8]⟩
abbrev S16 : Shape := ⟨1, ![16]⟩
abbrev S1024x1024 : Shape := ⟨2, ![1024, 1024]⟩
abbrev S1024x8 : Shape := ⟨2, ![1024, 8]⟩
abbrev S1024x256 : Shape := ⟨2, ![1024, 256]⟩
abbrev S1024x16 : Shape := ⟨2, ![1024, 16]⟩
abbrev S_ : Shape := ⟨0, ![]⟩
abbrev S1024x96 : Shape := ⟨2, ![1024, 96]⟩
abbrev S1024x6784 : Shape := ⟨2, ![1024, 6784]⟩
abbrev S104 : Shape := ⟨1, ![104]⟩
abbrev S8x128 : Shape := ⟨2, ![8, 128]⟩
abbrev S128 : Shape := ⟨1, ![128]⟩
abbrev S1 : Shape := ⟨1, ![1]⟩
abbrev S32x2048x24 : Shape := ⟨3, ![32, 2048, 24]⟩
abbrev S32x2048x16 : Shape := ⟨3, ![32, 2048, 16]⟩
abbrev S32x2048x8 : Shape := ⟨3, ![32, 2048, 8]⟩
abbrev S1x256x1024 : Shape := ⟨3, ![1, 256, 1024]⟩
abbrev S1x256x24 : Shape := ⟨3, ![1, 256, 24]⟩
abbrev S1x256x16 : Shape := ⟨3, ![1, 256, 16]⟩
abbrev S1x256x8 : Shape := ⟨3, ![1, 256, 8]⟩
abbrev S256x1024 : Shape := ⟨2, ![256, 1024]⟩
abbrev S3x256x128 : Shape := ⟨3, ![3, 256, 128]⟩
abbrev S256 : Shape := ⟨1, ![256]⟩
abbrev S256x1 : Shape := ⟨2, ![256, 1]⟩
abbrev S1024x128 : Shape := ⟨2, ![1024, 128]⟩
abbrev S256x128 : Shape := ⟨2, ![256, 128]⟩
abbrev S1x128 : Shape := ⟨2, ![1, 128]⟩
abbrev S1x256x128 : Shape := ⟨3, ![1, 256, 128]⟩
abbrev S256x24 : Shape := ⟨2, ![256, 24]⟩
abbrev S256x16 : Shape := ⟨2, ![256, 16]⟩
abbrev S256x8 : Shape := ⟨2, ![256, 8]⟩

abbrev nBuf : Space → Nat
  | .hbm => 44
  | .vmem => 13
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x6688, .f32⟩
  | .hbm, ⟨3, _⟩ => ⟨S1x8, .f32⟩
  | .hbm, ⟨4, _⟩ => ⟨S1x8, .f32⟩
  | .hbm, ⟨5, _⟩ => ⟨S1x16, .f32⟩
  | .hbm, ⟨6, _⟩ => ⟨S1x16, .f32⟩
  | .hbm, ⟨7, _⟩ => ⟨S1024, .f32⟩
  | .hbm, ⟨8, _⟩ => ⟨S1024x6688, .f32⟩
  | .hbm, ⟨9, _⟩ => ⟨S8, .f32⟩
  | .hbm, ⟨10, _⟩ => ⟨S8, .f32⟩
  | .hbm, ⟨11, _⟩ => ⟨S16, .f32⟩
  | .hbm, ⟨12, _⟩ => ⟨S16, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x8, .f32⟩
  | .hbm, ⟨18, _⟩ => ⟨S1024x8, .f32⟩
  | .hbm, ⟨19, _⟩ => ⟨S1024x1024, .f32⟩
  | .hbm, ⟨20, _⟩ => ⟨S1024x1024, .f32⟩
  | .hbm, ⟨21, _⟩ => ⟨S1024x256, .f32⟩
  | .hbm, ⟨22, _⟩ => ⟨S1024x256, .f32⟩
  | .hbm, ⟨23, _⟩ => ⟨S1024x16, .f32⟩
  | .hbm, ⟨24, _⟩ => ⟨S_, .f32⟩
  | .hbm, ⟨25, _⟩ => ⟨S1024x96, .f32⟩
  | .hbm, ⟨26, _⟩ => ⟨S1024x6784, .f32⟩
  | .hbm, ⟨27, _⟩ => ⟨S1024x6784, .bf16⟩
  | .hbm, ⟨28, _⟩ => ⟨S_, .f32⟩
  | .hbm, ⟨29, _⟩ => ⟨S104, .f32⟩
  | .hbm, ⟨30, _⟩ => ⟨S_, .f32⟩
  | .hbm, ⟨31, _⟩ => ⟨S8x128, .f32⟩
  | .hbm, ⟨32, _⟩ => ⟨S128, .f32⟩
  | .hbm, ⟨33, _⟩ => ⟨S_, .i32⟩
  | .hbm, ⟨34, _⟩ => ⟨S1, .i32⟩
  | .hbm, ⟨35, _⟩ => ⟨S8x128, .f32⟩
  | .hbm, ⟨36, _⟩ => ⟨S128, .f32⟩
  | .hbm, ⟨37, _⟩ => ⟨S_, .i32⟩
  | .hbm, ⟨38, _⟩ => ⟨S1, .i32⟩
  | .hbm, ⟨39, _⟩ => ⟨S8x128, .f32⟩
  | .hbm, ⟨40, _⟩ => ⟨S1x1024, .f32⟩
  | .hbm, ⟨41, _⟩ => ⟨S32x2048x24, .f32⟩
  | .hbm, ⟨42, _⟩ => ⟨S32x2048x16, .f32⟩
  | .hbm, ⟨43, _⟩ => ⟨S32x2048x8, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x6784, .bf16⟩
  | .local _ .vmem, ⟨4, _⟩ => ⟨S8x128, .f32⟩
  | .local _ .vmem, ⟨5, _⟩ => ⟨S1x256x24, .f32⟩
  | .local _ .vmem, ⟨6, _⟩ => ⟨S1x256x24, .f32⟩
  | .local _ .vmem, ⟨7, _⟩ => ⟨S1x256x16, .f32⟩
  | .local _ .vmem, ⟨8, _⟩ => ⟨S1x256x16, .f32⟩
  | .local _ .vmem, ⟨9, _⟩ => ⟨S1x256x8, .f32⟩
  | .local _ .vmem, ⟨10, _⟩ => ⟨S1x256x8, .f32⟩
  | .local _ .vmem, ⟨11, _⟩ => ⟨S256x1024, .bf16⟩
  | .local _ .vmem, ⟨12, _⟩ => ⟨S3x256x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6784 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x24 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S32x2048x1024 : Shape := ⟨3, ![32, 2048, 1024]⟩
abbrev S1x1024 : Shape := ⟨2, ![1, 1024]⟩
abbrev S1x1024x6688 : Shape := ⟨3, ![1, 1024, 6688]⟩
abbrev S1x8 : Shape := ⟨2, ![1, 8]⟩
abbrev S1x16 : Shape := ⟨2, ![1, 16]⟩
abbrev S1024 : Shape := ⟨1, ![1024]⟩
abbrev S1024x6688 : Shape := ⟨2, ![1024, 6688]⟩
abbrev S8 : Shape := ⟨1, ![8]⟩
abbrev S16 : Shape := ⟨1, ![16]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x6688 : Shape := ⟨3, ![32, 2048, 6688]⟩
abbrev S32x2048x8 : Shape := ⟨3, ![32, 2048, 8]⟩
abbrev S32x2048x256 : Shape := ⟨3, ![32, 2048, 256]⟩
abbrev S32x2048x16 : Shape := ⟨3, ![32, 2048, 16]⟩
abbrev S1x1x8 : Shape := ⟨3, ![1, 1, 8]⟩
abbrev S1x1x16 : Shape := ⟨3, ![1, 1, 16]⟩
abbrev S32x2048x24 : Shape := ⟨3, ![32, 2048, 24]⟩

abbrev nBuf : Space → Nat
  | .hbm => 94
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x6688, .f32⟩
  | .hbm, ⟨3, _⟩ => ⟨S1x8, .f32⟩
  | .hbm, ⟨4, _⟩ => ⟨S1x8, .f32⟩
  | .hbm, ⟨5, _⟩ => ⟨S1x16, .f32⟩
  | .hbm, ⟨6, _⟩ => ⟨S1x16, .f32⟩
  | .hbm, ⟨7, _⟩ => ⟨S1024, .f32⟩
  | .hbm, ⟨8, _⟩ => ⟨S1024x6688, .f32⟩
  | .hbm, ⟨9, _⟩ => ⟨S8, .f32⟩
  | .hbm, ⟨10, _⟩ => ⟨S8, .f32⟩
  | .hbm, ⟨11, _⟩ => ⟨S16, .f32⟩
  | .hbm, ⟨12, _⟩ => ⟨S16, .f32⟩
  | .hbm, ⟨13, _⟩ => ⟨S32x2048x1024, .f32⟩
  | .hbm, ⟨14, _⟩ => ⟨S_, .f32⟩
  | .hbm, ⟨15, _⟩ => ⟨S32x2048, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S_, .f32⟩
  | .hbm, ⟨21, _⟩ => ⟨S32x2048x1, .f32⟩
  | .hbm, ⟨22, _⟩ => ⟨S32x2048x1, .f32⟩
  | .hbm, ⟨23, _⟩ => ⟨S32x2048x1, .f32⟩
  | .hbm, ⟨24, _⟩ => ⟨S32x2048x1024, .f32⟩
  | .hbm, ⟨25, _⟩ => ⟨S32x2048x1024, .f32⟩
  | .hbm, ⟨26, _⟩ => ⟨S1x1x1024, .f32⟩
  | .hbm, ⟨27, _⟩ => ⟨S32x2048x1024, .f32⟩
  | .hbm, ⟨28, _⟩ => ⟨S32x2048x1024, .f32⟩
  | .hbm, ⟨29, _⟩ => ⟨S32x2048x6688, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x8, .f32⟩
  | .hbm, ⟨35, _⟩ => ⟨S32x2048x8, .f32⟩
  | .hbm, ⟨36, _⟩ => ⟨S32x2048x1024, .f32⟩
  | .hbm, ⟨37, _⟩ => ⟨S32x2048x1024, .f32⟩
  | .hbm, ⟨38, _⟩ => ⟨S32x2048x256, .f32⟩
  | .hbm, ⟨39, _⟩ => ⟨S32x2048x256, .f32⟩
  | .hbm, ⟨40, _⟩ => ⟨S32x2048x16, .f32⟩
  | .hbm, ⟨41, _⟩ => ⟨S32x2048x8, .f32⟩
  | .hbm, ⟨42, _⟩ => ⟨S32x2048x8, .f32⟩
  | .hbm, ⟨43, _⟩ => ⟨S_, .f32⟩
  | .hbm, ⟨44, _⟩ => ⟨S32x2048x8, .f32⟩
  | .hbm, ⟨45, _⟩ => ⟨S32x2048x8, .f32⟩
  | .hbm, ⟨46, _⟩ => ⟨S_, .f32⟩
  | .hbm, ⟨47, _⟩ => ⟨S32x2048x8, .f32⟩
  | .hbm, ⟨48, _⟩ => ⟨S32x2048x8, .f32⟩
  | .hbm, ⟨49, _⟩ => ⟨S8, .f32⟩
  | .hbm, ⟨50, _⟩ => ⟨S8, .f32⟩
  | .hbm, ⟨51, _⟩ => ⟨S1x1x8, .f32⟩
  | .hbm, ⟨52, _⟩ => ⟨S32x2048x8, .f32⟩
  | .hbm, ⟨53, _⟩ => ⟨S32x2048x8, .f32⟩
  | .hbm, ⟨54, _⟩ => ⟨S_, .f32⟩
  | .hbm, ⟨55, _⟩ => ⟨S32x2048x8, .f32⟩
  | .hbm, ⟨56, _⟩ => ⟨S32x2048x8, .f32⟩
  | .hbm, ⟨57, _⟩ => ⟨S32x2048x8, .f32⟩
  | .hbm, ⟨58, _⟩ => ⟨S32x2048x8, .f32⟩
  | .hbm, ⟨59, _⟩ => ⟨S32x2048x8, .i1⟩
  | .hbm, ⟨60, _⟩ => ⟨S32x2048x8, .f32⟩
  | .hbm, ⟨61, _⟩ => ⟨S32x2048x8, .f32⟩
  | .hbm, ⟨62, _⟩ => ⟨S32x2048x8, .f32⟩
  | .hbm, ⟨63, _⟩ => ⟨S32x2048x8, .f32⟩
  | .hbm, ⟨64, _⟩ => ⟨S32x2048x8, .f32⟩
  | .hbm, ⟨65, _⟩ => ⟨S32x2048x8, .f32⟩
  | .hbm, ⟨66, _⟩ => ⟨S32x2048x8, .f32⟩
  | .hbm, ⟨67, _⟩ => ⟨S32x2048x8, .f32⟩
  | .hbm, ⟨68, _⟩ => ⟨S1x1x8, .f32⟩
  | .hbm, ⟨69, _⟩ => ⟨S32x2048x8, .f32⟩
  | .hbm, ⟨70, _⟩ => ⟨S32x2048x8, .f32⟩
  | .hbm, ⟨71, _⟩ => ⟨S1x1x16, .f32⟩
  | .hbm, ⟨72, _⟩ => ⟨S32x2048x16, .f32⟩
  | .hbm, ⟨73, _⟩ => ⟨S32x2048x16, .f32⟩
  | .hbm, ⟨74, _⟩ => ⟨S_, .f32⟩
  | .hbm, ⟨75, _⟩ => ⟨S32x2048x16, .f32⟩
  | .hbm, ⟨76, _⟩ => ⟨S32x2048x16, .f32⟩
  | .hbm, ⟨77, _⟩ => ⟨S32x2048x16, .f32⟩
  | .hbm, ⟨78, _⟩ => ⟨S32x2048x16, .f32⟩
  | .hbm, ⟨79, _⟩ => ⟨S32x2048x16, .i1⟩
  | .hbm, ⟨80, _⟩ => ⟨S32x2048x16, .f32⟩
  | .hbm, ⟨81, _⟩ => ⟨S32x2048x16, .f32⟩
  | .hbm, ⟨82, _⟩ => ⟨S32x2048x16, .f32⟩
  | .hbm, ⟨83, _⟩ => ⟨S32x2048x16, .f32⟩
  | .hbm, ⟨84, _⟩ => ⟨S32x2048x16, .f32⟩
  | .hbm, ⟨85, _⟩ => ⟨S32x2048x16, .f32⟩
  | .hbm, ⟨86, _⟩ => ⟨S32x2048x16, .f32⟩
  | .hbm, ⟨87, _⟩ => ⟨S32x2048x16, .f32⟩
  | .hbm, ⟨88, _⟩ => ⟨S16, .f32⟩
  | .hbm, ⟨89, _⟩ => ⟨S16, .f32⟩
  | .hbm, ⟨90, _⟩ => ⟨S1x1x16, .f32⟩
  | .hbm, ⟨91, _⟩ => ⟨S32x2048x16, .f32⟩
  | .hbm, ⟨92, _⟩ => ⟨S32x2048x16, .f32⟩
  | .hbm, ⟨93, _⟩ => ⟨S32x2048x24, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩

abbrev nD : Nat := 1
abbrev τ : Topo := Topo.v7x

variable {F : FTy → Type} [FloatOps F]
-- ==== Proof.MixRun.lean ====
/- One run of the mixer's body: from whole windows and scratch at any contents it returns with every input window as it
   was. Nothing is said here of what it leaves in its output window and in its scratch. Both branches of the body's
   conditional go the same way, so they are run by one text. -/
module

public import proofs.«01_k».proof.Proof.Gen.Kernel.Skeleton
public import proofs.«01_k».proof.Proof.Gen.Kernel.Loops
public import proofs.«01_k».proof.Proof.Gen.Kernel.Frame
public import Idealize.ShloMosaic.Lib.Tactic

@[expose] public section

set_option maxRecDepth 16384

noncomputable section

namespace Cert.Kernel.Mix

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The condition of the body's conditional: the chunk is its sequence's first. -/
abbrev first (i : grid0.Coords) : Prop :=
  (Scalar.cmpi .ne (Scalar.extui (Scalar.cmpi .eq (BitVec.ofNat 32 (i 1).val) 0#32)) 0#32) = 1#1

set_option maxHeartbeats 0 in
theorem run (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1024x6784 .bf16) (harg4 : arg4.IsWhole) (arg5 : Memref sig .tc .vmem S4x4608 .f32) (harg5 : arg5.IsWhole) (arg6 : Memref sig .tc .vmem S1x4608 .f32) (harg6 : arg6.IsWhole) (arg7 : Memref sig .tc .vmem S8x128 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S2048x1024 .bf16) (harg11 : arg11.IsWhole) (arg12 : Memref sig .tc .vmem S1x1024 .f32) (harg12 : arg12.IsWhole) (arg13 : Memref sig .tc .vmem S1x256x1024 .f32) (harg13 : arg13.IsWhole) (arg14 : Memref sig .tc .vmem S256x1024 .bf16) (harg14 : arg14.IsWhole) (arg15 : Memref sig .tc .vmem S264x4608 .f32) (harg15 : arg15.IsWhole) (arg16 : Memref sig .tc .vmem S256x4608 .f32) (harg16 : arg16.IsWhole) (arg17 : Memref sig .tc .vmem S3x256x128 .f32) (harg17 : arg17.IsWhole) (arg18 : Memref sig .tc .vmem S256x2048 .f32) (harg18 : arg18.IsWhole) (arg19 : Memref sig .tc .vmem S256x2048 .f32) (harg19 : arg19.IsWhole) (arg20 : Memref sig .tc .vmem S256x2048 .bf16) (harg20 : arg20.IsWhole) (arg21 : Memref sig .tc .vmem S8x128x128 .f32) (harg21 : arg21.IsWhole) (arg22 : Memref sig .tc .vmem S8x128x128 .f32) (harg22 : arg22.IsWhole)
    (x0 : Vec F S1x256x1024 .f32) (x1 : Vec F S1x1024 .f32) (x2 : Vec F S1024x6784 .bf16) (x3 : Vec F S4x4608 .f32) (x4 : Vec F S1x4608 .f32) (x5 : Vec F S8x128 .f32) (x6 : Vec F S1x1024 .f32) (x7 : Vec F S1x1024 .f32) (x8 : Vec F S1x1024 .f32) (x9 : Vec F S2048x1024 .bf16) (x10 : Vec F S1x1024 .f32)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
      ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
        ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
    ⊢ wp frame (wpE (defs₀ (F := F)) Variants.none c none) E (cc0_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  by_cases hc0 : first i
  all_goals
    simp only [cc0_mixer_eq_skeleton]; unfold cc0_mixer_skel
    simp only [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    iexists _, _; isplitr; swap; · iexact HS8
    ipureintro; rfl

end Cert.Kernel.Mix

end
-- ==== Proof.MixFrame.lean ====
/- The frame of the mixer's call: what `MixRun` says of one chunk, put through the launch. The output is not named, and
   between chunks the scratch is owned at any contents. -/
module

public import proofs.«01_k».proof.Proof.MixRun
public import Idealize.ShloMosaic.Lib.Pipeline.FrameBody

@[expose] public section

set_option maxRecDepth 16384

noncomputable section

namespace Cert.Kernel.Mix

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

def forgets : Fin 12 → Bool := fun w => w.val == 11

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

theorem scratch_eq (c : Dev nD) :
    (Pipeline.ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r)) := by
  unfold Pipeline.ΦA; rw [scopedRest0_eq]; simp only [owns_whole]; try rfl

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare d))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ (∃ d, owns (c : Thread nD τ) (win0_11.stage (cfg0.slots t 11)) fullShare d))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl,
    after0, after1, after2, after3, after4, after5, after6, after7, after8, after9, after10,
    show (dats m 0 c).Φ t.succ = Pipeline.ΦA spec0 c from rfl,
    show (dats m 0 c).Φ t.castSucc = Pipeline.ΦA spec0 c from rfl, scratch_eq]
  iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (Cert.Kernel.Mix.run c (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, H11, HS0, HS1, HS2, HS3, HS4, HS5, HS6, HS7, HS8⟩
  isplitl [HS0 HS1 HS2 HS3 HS4 HS5 HS6 HS7 HS8 Hg]
  · isplitl [HS0 HS1 HS2 HS3 HS4 HS5 HS6 HS7 HS8]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- The call ends with every argument as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c => ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c)⟩, h.2⟩) (run_main m ρ)

end Cert.Kernel.Mix

end
-- ==== Proof.MixIdeal.lean ====
/- The ideal program of the mixer's call has the device program's text, so the frame of the one is the frame of the other
   at the ideal values. Only the tables of bodies have to be compared label by label. -/
module

public import proofs.«01_k».proof.Defs
public import proofs.«01_k».proof.Proof.MixFrame
public import proofs.«01_k».proof.Proof.Gen.KernelIdeal.Launch

@[expose] public section

noncomputable section

namespace Cert.Proof

open Idealize.ShloMosaic Idealize.SL.Sem

attribute [local instance] Cert.Kernel.Gen.facts Cert.KernelIdeal.Gen.facts

set_option maxHeartbeats 0 in
theorem table : Cert.KernelIdeal.defs₀ (F := Ideal) = Cert.Kernel.defs₀ (F := Ideal) := by
  funext κ ℓ a
  cases κ
  · match ℓ, a with
    | 0, (t, s) => rfl
  all_goals rfl

set_option maxHeartbeats 0 in
theorem quiescent_KernelIdeal : quiescent_KernelIdeal := fun m ρ _ => by
  have h := Cert.Kernel.Mix.frame (F := Ideal) m ρ
  unfold Cert.Kernel.defs at h
  rw [← table] at h
  exact h

end Cert.Proof

end
-- ==== Proof.FfnRow.lean ====
/- The feed-forward block, one row at a time: the functions that both programs are compared against. Nothing here
   speaks of a tile, of a buffer or of either program: a row of the sequence is a function of its lane, the causal
   convolution is the sum of its bias and three products. -/
module

public import Idealize.ShloMosaic.Lib.Pointwise

@[expose] public section

noncomputable section

open Idealize.ShloMosaic

namespace Cert.FfnRow

/-- A row over its root mean square, times the learnt scale. -/
def normRow (w x : Fin 1024 → EReal) (k : Fin 1024) : EReal :=
  x k * Ideal.rsqrt (Ideal.div (∑ l : Fin 1024, x l * x l) (Ideal.ofBits .f32 0x44800000#32) + Ideal.ofBits .f32 0x358637BD#32) * w k

/-- Column `j` of the up-projection of the normalised row. -/
def upRow (w x : Fin 1024 → EReal) (W : Fin 1024 → Fin 5632 → EReal) (j : Fin 5632) : EReal :=
  ∑ k : Fin 1024, normRow w x k * W k j

/-- Width-three convolution at one place: bias, and taps over the row two before, one before, and the row itself. -/
def conv3 (b w0 w1 w2 a0 a1 a2 : EReal) : EReal := b + w0 * a0 + w1 * a1 + w2 * a2

/-- The gate: the first half of the columns through the SiLU, times the second half. -/
def gateRow (cv : Fin 5632 → EReal) (k : Fin 2816) : EReal :=
  cv ⟨k.val, by omega⟩ * Ideal.div 1 (1 + Ideal.exp (0 - cv ⟨k.val, by omega⟩)) * cv ⟨2816 + k.val, by omega⟩

/-- What the block gives for a row `x` whose convolved columns are `cv`: down-projection, normalisation, residual. -/
def outRow (x : Fin 1024 → EReal) (cv : Fin 5632 → EReal) (W : Fin 2816 → Fin 1024 → EReal) (w : Fin 1024 → EReal) (d : Fin 1024) : EReal :=
  x d + normRow w (fun e => ∑ k : Fin 2816, gateRow cv k * W k e) d

/-- The up-projection two places before place `s` of a sequence `x`: nothing before its start. -/
def past (x : Fin 2048 → Fin 1024 → EReal) (w : Fin 1024 → EReal) (W : Fin 1024 → Fin 5632 → EReal) (s : ℕ) (j : Fin 5632) : EReal :=
  if h : 2 ≤ s ∧ s - 2 < 2048 then upRow w (x ⟨s - 2, h.2⟩) W j else 0

/-- The causal convolution of the up-projection at place `s`. -/
def convAt (x : Fin 2048 → Fin 1024 → EReal) (w : Fin 1024 → EReal) (W : Fin 1024 → Fin 5632 → EReal) (t : Fin 3 → Fin 5632 → EReal)
    (b : Fin 5632 → EReal) (s : ℕ) (j : Fin 5632) : EReal :=
  conv3 (b j) (t 0 j) (t 1 j) (t 2 j) (past x w W s j) (past x w W (s + 1) j) (past x w W (s + 2) j)

/-- The block's result at place `s` of a sequence and lane `d`. -/
def result (x : Fin 2048 → Fin 1024 → EReal) (w : Fin 1024 → EReal) (W : Fin 1024 → Fin 5632 → EReal) (t : Fin 3 → Fin 5632 → EReal)
    (b : Fin 5632 → EReal) (W' : Fin 2816 → Fin 1024 → EReal) (w' : Fin 1024 → EReal) (s : Fin 2048) (d : Fin 1024) : EReal :=
  outRow (x s) (convAt x w W t b s.val) W' w' d

end Cert.FfnRow

end
-- ==== Proof.FfnTile.lean ====
/- The feed-forward kernel's body on one tile of 512 rows, at a symbolic column block: what the scratch of the
   up-projection holds, what the convolution reads there, what a block of gated columns and a block of carried rows
   are, and the down-projection over the gated tile. -/
module

public import proofs.«01_k».proof.Proof.Gen.Kernel2Ideal.Frame
public import proofs.«01_k».proof.Proof.FfnRow
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen Cert.FfnRow

/-- Row `r` of a tile, by lane. -/
abbrev tileRow (x0 : FVec Ideal S1x512x1024 .f32) (r : Fin 512) : Fin 1024 → EReal := fun l => x0 (ix3 0 r l)
/-- A one-row array, by lane. -/
abbrev lane {n : ℕ} (x : FVec Ideal ⟨2, ![1, n]⟩ .f32) : Fin n → EReal := fun l => x (ix2 0 l)
/-- A two-axis array, by its coordinates. -/
abbrev mat {a b : ℕ} {φ : FTy} (x : FVec Ideal ⟨2, ![a, b]⟩ φ) : Fin a → Fin b → EReal := fun i j => x (ix2 i j)

/-- The rows the convolution runs over: eight carried rows `C`, then the tile's own 512 rows of the up-projection. -/
def seq (x0 : FVec Ideal S1x512x1024 .f32) (x1 : FVec Ideal S1x1024 .f32) (x2 : FVec Ideal S1024x5632 .bf16)
    (C : FVec Ideal S8x5632 .f32) (r : ℕ) (j : Fin 5632) : EReal :=
  if h : r < 8 then C (ix2 ⟨r, h⟩ j)
  else if h : r - 8 < 512 then upRow (lane x1) (tileRow x0 ⟨r - 8, h⟩) (mat x2) j else 0

/-- The convolved columns of a tile whose convolution runs over the rows `S`. -/
def convTile (x3 : FVec Ideal S3x5632 .f32) (x4 : FVec Ideal S1x5632 .f32) (S : ℕ → Fin 5632 → EReal) (r : Fin 512) (j : Fin 5632) : EReal :=
  conv3 (x4 (ix2 0 j)) (x3 (ix2 0 j)) (x3 (ix2 1 j)) (x3 (ix2 2 j)) (S (6 + r.val) j) (S (7 + r.val) j) (S (8 + r.val) j)

/-- The gated column `k` of row `r` of the tile. -/
def gateTile (x3 : FVec Ideal S3x5632 .f32) (x4 : FVec Ideal S1x5632 .f32) (S : ℕ → Fin 5632 → EReal) (r : Fin 512) (k : Fin 2816) : EReal :=
  gateRow (convTile x3 x4 S r) k

/-- The normalised tile, read at a row and a lane. -/
theorem pay4_at (x0 : FVec Ideal S1x512x1024 .f32) (x1 : FVec Ideal S1x1024 .f32) (r : Fin 512) (k : Fin 1024) :
    k0_pay4 (F := Ideal) x0 x1 (ix2 r k) = normRow (lane x1) (tileRow x0 r) k := by
  pointwise [k0_pay4, k0_pay3, normRow]

variable {sig' : RefSig} {κ : Kind} {sp : Space}

/-- The scratch of the up-projection read back: a load of `n` rows from row `f` on, of one slot and one half, after the
    carried rows and the block's rows were stored there, over any earlier stores. `G` is the column block, by row. -/
theorem read_pair (v : View sig' κ sp S2x520x512 .f32) (s o f n : ℕ)
    (i1 : ∀ a, (![s, 8, o] : Fin 3 → ℕ) a + S1x512x256.size a ≤ S2x520x512.size a)
    (i2 : ∀ a, (![s, 0, o] : Fin 3 → ℕ) a + S1x8x256.size a ≤ S2x520x512.size a)
    (i3 : ∀ a, (![s, f, o] : Fin 3 → ℕ) a + (![1, n, 256] : Fin 3 → ℕ) a ≤ S2x520x512.size a)
    (P : S1x512x256.Idx → EReal) (Q : S1x8x256.Idx → EReal) (L : List (View.Piece (Elt Ideal) S2x520x512 .f32)) (G : ℕ → Fin 256 → EReal)
    (hP : ∀ (r : Fin 512) (j : Fin 256), P (ix3 0 r j) = G (8 + r.val) j) (hQ : ∀ (r : Fin 8) (j : Fin 256), Q (ix3 0 r j) = G r.val j)
    (z : Fin 1) (r : Fin n) (j : Fin 256) :
    v.readCov (⟨Rect.unit (s := S2x520x512) ![s, 8, o] S1x512x256.size i1, P⟩ :: ⟨Rect.unit (s := S2x520x512) ![s, 0, o] S1x8x256.size i2, Q⟩ :: L)
      (Rect.unit (s := S2x520x512) ![s, f, o] ![1, n, 256] i3).toLoadRect
      (ix3 z r j : (⟨3, ![1, n, 256]⟩ : Shape).Idx) = G (f + r.val) j := by
  have hn : f + n ≤ 520 := i3 1
  have hr := r.isLt
  have hz : z.val = 0 := by omega
  rw [View.readCov_eq_canon']
  by_cases h : f + r.val < 8
  · have e1 : (Rect.unit (s := S2x520x512) ![s, f, o] ![1, n, 256] i3).toLoadRect.idx (ix3 z r j : (⟨3, ![1, n, 256]⟩ : Shape).Idx)
        = (Rect.unit (s := S2x520x512) ![s, 0, o] S1x8x256.size i2).emb (ix3 0 ⟨f + r.val, h⟩ j) := by
      funext a; apply Fin.ext
      match a with
      | ⟨0, _⟩ => rw [Rect.emb_apply, LoadRect.idx_apply]; simp [hz]
      | ⟨1, _⟩ => rw [Rect.emb_apply, LoadRect.idx_apply]; simp
      | ⟨2, _⟩ => rw [Rect.emb_apply, LoadRect.idx_apply]; simp
    refine (View.canon_cons_of_not_mem _ _ ?_).trans ?_
    · intro hm
      obtain ⟨k, _, hk⟩ := (LoadRect.mem_set _).1 hm 1
      simp [LoadRect.idx] at hk
      omega
    · beta_reduce
      rw [e1]
      exact (View.canon_cons_emb _ _ _ _).trans (hQ _ _)
  · have e1 : (Rect.unit (s := S2x520x512) ![s, f, o] ![1, n, 256] i3).toLoadRect.idx (ix3 z r j : (⟨3, ![1, n, 256]⟩ : Shape).Idx)
        = (Rect.unit (s := S2x520x512) ![s, 8, o] S1x512x256.size i1).emb (ix3 0 ⟨f + r.val - 8, by omega⟩ j) := by
      funext a; apply Fin.ext
      match a with
      | ⟨0, _⟩ => rw [Rect.emb_apply, LoadRect.idx_apply]; simp [hz]
      | ⟨1, _⟩ => rw [Rect.emb_apply, LoadRect.idx_apply]; simp; omega
      | ⟨2, _⟩ => rw [Rect.emb_apply, LoadRect.idx_apply]; simp
    beta_reduce
    rw [e1]
    refine (View.canon_cons_emb _ _ _ _).trans ((hP _ _).trans ?_)
    congr 1
    show 8 + (f + r.val - 8) = _
    omega

/-- A load of a rectangle of a whole two-axis memref holding `x`. -/
theorem ld2 {a b : ℕ} {e : EltTy} {arg : Memref sig' κ sp ⟨2, ![a, b]⟩ e} (h : arg.IsWhole) (x : (⟨2, ![a, b]⟩ : Shape).Idx → Elt Ideal e)
    {o p m n : ℕ} (i : ∀ k, (![o, p] : Fin 2 → ℕ) k + (![m, n] : Fin 2 → ℕ) k ≤ (⟨2, ![a, b]⟩ : Shape).size k) (r : Fin m) (j : Fin n)
    (hr : o + r.val < a) (hj : p + j.val < b) :
    View.readAt (Elt Ideal) arg.view (Rect.unit (s := ⟨2, ![a, b]⟩) ![o, p] ![m, n] i).toLoadRect (h.unread x)
      (ix2 r j : (⟨2, ![m, n]⟩ : Shape).Idx) = x (ix2 ⟨o + r.val, hr⟩ ⟨p + j.val, hj⟩) := by
  rw [View.readAt_apply, h.read_unread]
  congr 1
  funext k; apply Fin.ext
  match k with
  | ⟨0, _⟩ => rw [LoadRect.idx_apply]; simp
  | ⟨1, _⟩ => rw [LoadRect.idx_apply]; simp

/-- A load of a rectangle of a whole three-axis memref holding `x`. -/
theorem ld3 {a b d : ℕ} {e : EltTy} {arg : Memref sig' κ sp ⟨3, ![a, b, d]⟩ e} (h : arg.IsWhole) (x : (⟨3, ![a, b, d]⟩ : Shape).Idx → Elt Ideal e)
    (i : ∀ k, (![0, 0, 0] : Fin 3 → ℕ) k + (![a, b, d] : Fin 3 → ℕ) k ≤ (⟨3, ![a, b, d]⟩ : Shape).size k) :
    View.readAt (Elt Ideal) arg.view (Rect.unit (s := ⟨3, ![a, b, d]⟩) ![0, 0, 0] ![a, b, d] i).toLoadRect (h.unread x) = x := by
  funext y
  rw [View.readAt_apply, h.read_unread]
  congr 1
  funext k; apply Fin.ext
  match k with
  | ⟨0, _⟩ => rw [LoadRect.idx_apply]; simp
  | ⟨1, _⟩ => rw [LoadRect.idx_apply]; simp
  | ⟨2, _⟩ => rw [LoadRect.idx_apply]; simp

/-- A load of all of a whole two-axis memref holding `x`. -/
theorem ldw {a b : ℕ} {e : EltTy} {arg : Memref sig' κ sp ⟨2, ![a, b]⟩ e} (h : arg.IsWhole) (x : (⟨2, ![a, b]⟩ : Shape).Idx → Elt Ideal e)
    (i : ∀ k, (![0, 0] : Fin 2 → ℕ) k + (![a, b] : Fin 2 → ℕ) k ≤ (⟨2, ![a, b]⟩ : Shape).size k) :
    View.readAt (Elt Ideal) arg.view (Rect.unit (s := ⟨2, ![a, b]⟩) ![0, 0] ![a, b] i).toLoadRect (h.unread x) = x := by
  funext y
  rw [View.readAt_apply, h.read_unread]
  congr 1
  funext k; apply Fin.ext
  match k with
  | ⟨0, _⟩ => rw [LoadRect.idx_apply]; simp
  | ⟨1, _⟩ => rw [LoadRect.idx_apply]; simp

/-- The stores `L` of the up-projection's scratch hold the rows `S` of the 256 columns from `oc` on, in slot `s` at column `o`:
    whatever rows of that slot are loaded, they are those rows. -/
def Holds (v : View sig' κ sp S2x520x512 .f32) (L : List (View.Piece (Elt Ideal) S2x520x512 .f32)) (s o oc : ℕ) (S : ℕ → Fin 5632 → EReal) : Prop :=
  ∀ (f n : ℕ) (i : ∀ a, (![s, f, o] : Fin 3 → ℕ) a + (![1, n, 256] : Fin 3 → ℕ) a ≤ S2x520x512.size a) (z : Fin 1) (r : Fin n) (j : Fin 256)
    (h : oc + j.val < 5632),
    v.readCov L (Rect.unit (s := S2x520x512) ![s, f, o] ![1, n, 256] i).toLoadRect (ix3 z r j : (⟨3, ![1, n, 256]⟩ : Shape).Idx)
      = S (f + r.val) ⟨oc + j.val, h⟩

/-- The carried rows and the block's rows, stored one after the other, are held. -/
theorem holds_cons (v : View sig' κ sp S2x520x512 .f32) (s o oc : ℕ) (S : ℕ → Fin 5632 → EReal) (L : List (View.Piece (Elt Ideal) S2x520x512 .f32))
    (H : FVec Ideal S512x1024 .bf16) (W : FVec Ideal S1024x256 .bf16) (q : FVec Ideal S8x256 .f32) (hoc : oc + 256 ≤ 5632)
    (i1 : ∀ a, (![s, 8, o] : Fin 3 → ℕ) a + S1x512x256.size a ≤ S2x520x512.size a)
    (i2 : ∀ a, (![s, 0, o] : Fin 3 → ℕ) a + S1x8x256.size a ≤ S2x520x512.size a)
    (hP : ∀ (r : Fin 512) (j : Fin 256), ∑ k : Fin 1024, H (ix2 r k) * W (ix2 k j) = S (8 + r.val) ⟨oc + j.val, by omega⟩)
    (hQ : ∀ (r : Fin 8) (j : Fin 256), q (ix2 r j) = S r.val ⟨oc + j.val, by omega⟩) :
    Holds v (⟨Rect.unit (s := S2x520x512) ![s, 8, o] S1x512x256.size i1, k0_pay11 (F := Ideal) H W⟩
      :: ⟨Rect.unit (s := S2x520x512) ![s, 0, o] S1x8x256.size i2, k0_pay10 (F := Ideal) q⟩ :: L) s o oc S := by
  intro f n i z r j h
  refine read_pair v s o f n i1 i2 i _ _ L (fun a j => S a ⟨oc + j.val, by omega⟩) (fun r j => ?_) (fun r j => ?_) z r j
  · rw [← hP]
    generalize (0 : Fin 1) = z
    pointwise [k0_pay11]
  · rw [← hQ]
    generalize (0 : Fin 1) = z
    pointwise [k0_pay10]

/-- One block of the convolution at a row and a column: its loads are the bias, the taps and the rows held. -/
theorem conv_at (b w0 w1 w2 : FVec Ideal S1x256 .f32) (u0 u1 u2 : FVec Ideal S1x512x256 .f32) (r : Fin 512) (j : Fin 256) :
    k0_pay12 (F := Ideal) b w0 u0 w1 u1 w2 u2 (ix2 r j)
      = conv3 (b (ix2 0 j)) (w0 (ix2 0 j)) (w1 (ix2 0 j)) (w2 (ix2 0 j)) (u0 (ix3 0 r j)) (u1 (ix3 0 r j)) (u2 (ix3 0 r j)) := by
  pointwise [k0_pay12, conv3]

/-- The gate at a row and a column. -/
theorem gate_at (g u : FVec Ideal S512x256 .f32) (r : Fin 512) (j : Fin 256) :
    k0_pay15 (F := Ideal) g u (ix2 r j) = g (ix2 r j) * Ideal.div 1 (1 + Ideal.exp (0 - g (ix2 r j))) * u (ix2 r j) := by
  pointwise [k0_pay15]

end Cert.Kernel2Ideal.Ffn

end
-- ==== Proof.FfnBlock.lean ====
/- One block of 256 gate columns and its block of up columns, at a symbolic offset: the rows stored to the scratch, the gated
   columns stored beside them and the carried rows stored after them; and the final product of the tile. -/
module

public import proofs.«01_k».proof.Proof.FfnTile

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen Cert.FfnRow

variable {sig' : RefSig} {κ : Kind} {sp : Space}

/-- A two-axis rectangle in range, from the two bounds. -/
theorem inb2 {a b o p m n : ℕ} (h1 : o + m ≤ a) (h2 : p + n ≤ b) :
    ∀ k, (![o, p] : Fin 2 → ℕ) k + (![m, n] : Fin 2 → ℕ) k ≤ (⟨2, ![a, b]⟩ : Shape).size k
  | ⟨0, _⟩ => h1
  | ⟨1, _⟩ => h2

/-- A three-axis rectangle in range, from the three bounds. -/
theorem inb3 {a b d o p q l m n : ℕ} (h1 : o + l ≤ a) (h2 : p + m ≤ b) (h3 : q + n ≤ d) :
    ∀ k, (![o, p, q] : Fin 3 → ℕ) k + (![l, m, n] : Fin 3 → ℕ) k ≤ (⟨3, ![a, b, d]⟩ : Shape).size k
  | ⟨0, _⟩ => h1
  | ⟨1, _⟩ => h2
  | ⟨2, _⟩ => h3

/-- The tile's own rows of the up-projection are the rows of `seq` from the eighth on. -/
theorem up_rows {a2 : Memref sig' κ sp S1x512x1024 .f32} (h2 : a2.IsWhole) {a3 : Memref sig' κ sp S1x1024 .f32} (h3 : a3.IsWhole)
    {a4 : Memref sig' κ sp S1024x5632 .bf16} (h4 : a4.IsWhole)
    (x0 : FVec Ideal S1x512x1024 .f32) (x1 : FVec Ideal S1x1024 .f32) (x2 : FVec Ideal S1024x5632 .bf16) (C : FVec Ideal S8x5632 .f32)
    (oc : ℕ) (hoc : oc + 256 ≤ 5632) (i2 i3 i4) (r : Fin 512) (j : Fin 256) :
    ∑ k : Fin 1024, k0_pay4 (F := Ideal)
        (View.readAt (Elt Ideal) a2.view (Rect.unit (s := S1x512x1024) ![0, 0, 0] S1x512x1024.size i2).toLoadRect (h2.unread x0))
        (View.readAt (Elt Ideal) a3.view (Rect.unit (s := S1x1024) ![0, 0] S1x1024.size i3).toLoadRect (h3.unread x1)) (ix2 r k)
      * View.readAt (Elt Ideal) a4.view (Rect.unit (s := S1024x5632) ![0, oc] S1024x256.size i4).toLoadRect (h4.unread x2)
          (ix2 k j : (⟨2, ![1024, 256]⟩ : Shape).Idx)
      = seq x0 x1 x2 C (8 + r.val) ⟨oc + j.val, by omega⟩ := by
  have hr := r.isLt
  rw [seq, dif_neg (by omega), dif_pos (by omega), upRow]
  refine Finset.sum_congr rfl fun k _ => Ideal.mul_congr ?_ ?_
  · refine (congrArg₂ (fun u v => k0_pay4 (F := Ideal) u v (ix2 r k)) (ld3 h2 x0 i2) (ldw h3 x1 i3)).trans ((pay4_at x0 x1 r k).trans ?_)
    exact congrArg (fun q => normRow (lane x1) (tileRow x0 q) k) (Fin.ext (by simp))
  · refine (ld2 h4 x2 i4 k j (by omega) (by omega)).trans ?_
    exact congrArg (fun q => x2 (ix2 q _)) (Fin.ext (by simp))

/-- A block of carried rows, loaded from the carry's memref, is the first rows of `seq`. -/
theorem carry_rows {a11 : Memref sig' κ sp S8x5632 .f32} (h11 : a11.IsWhole)
    (x0 : FVec Ideal S1x512x1024 .f32) (x1 : FVec Ideal S1x1024 .f32) (x2 : FVec Ideal S1024x5632 .bf16) (C : FVec Ideal S8x5632 .f32)
    (oc : ℕ) (hoc : oc + 256 ≤ 5632) (i) (r : Fin 8) (j : Fin 256) :
    View.readAt (Elt Ideal) a11.view (Rect.unit (s := S8x5632) ![0, oc] S8x256.size i).toLoadRect (h11.unread C)
        (ix2 r j : (⟨2, ![8, 256]⟩ : Shape).Idx)
      = seq x0 x1 x2 C r.val ⟨oc + j.val, by omega⟩ := by
  rw [seq, dif_pos r.isLt]
  refine (ld2 h11 C i r j (by omega) (by omega)).trans ?_
  exact congrArg (fun q => C (ix2 q _)) (Fin.ext (by simp))

/-- The normalised tile, its operands the loads the body makes. -/
abbrev ldH {a2 : Memref sig' κ sp S1x512x1024 .f32} (h2 : a2.IsWhole) {a3 : Memref sig' κ sp S1x1024 .f32} (h3 : a3.IsWhole)
    (x0 : FVec Ideal S1x512x1024 .f32) (x1 : FVec Ideal S1x1024 .f32) : FVec Ideal S512x1024 .bf16 :=
  k0_pay4 (F := Ideal)
    (View.readAt (Elt Ideal) a2.view (Rect.unit (s := S1x512x1024) ![0, 0, 0] S1x512x1024.size inb_S1x512x1024_S1x512x1024_0_0_0).toLoadRect (h2.unread x0))
    (View.readAt (Elt Ideal) a3.view (Rect.unit (s := S1x1024) ![0, 0] S1x1024.size inb_S1x1024_S1x1024_0_0).toLoadRect (h3.unread x1))

/-- The 256 columns from `oc` on of the up-projection's weights. -/
abbrev ldW {a4 : Memref sig' κ sp S1024x5632 .bf16} (h4 : a4.IsWhole) (x2 : FVec Ideal S1024x5632 .bf16) (oc : ℕ) (hoc : oc + 256 ≤ 5632) :
    FVec Ideal S1024x256 .bf16 :=
  View.readAt (Elt Ideal) a4.view (Rect.unit (s := S1024x5632) ![0, oc] S1024x256.size (inb2 (by omega) (by omega))).toLoadRect (h4.unread x2)

/-- A block of rows stored after its carried rows, when these are loaded from the carry's memref. -/
theorem holds_carry {a2 : Memref sig' κ sp S1x512x1024 .f32} (h2 : a2.IsWhole) {a3 : Memref sig' κ sp S1x1024 .f32} (h3 : a3.IsWhole)
    {a4 : Memref sig' κ sp S1024x5632 .bf16} (h4 : a4.IsWhole) {a11 : Memref sig' κ sp S8x5632 .f32} (h11 : a11.IsWhole)
    (x0 : FVec Ideal S1x512x1024 .f32) (x1 : FVec Ideal S1x1024 .f32) (x2 : FVec Ideal S1024x5632 .bf16) (C : FVec Ideal S8x5632 .f32)
    (v : View sig' κ sp S2x520x512 .f32) (s o oc : ℕ) (hs : s < 2) (ho : o + 256 ≤ 512) (hoc : oc + 256 ≤ 5632)
    (L : List (View.Piece (Elt Ideal) S2x520x512 .f32)) :
    Holds v (⟨Rect.unit (s := S2x520x512) ![s, 8, o] S1x512x256.size (inb3 (by omega) (by omega) (by omega)),
        k0_pay11 (F := Ideal) (ldH h2 h3 x0 x1) (ldW h4 x2 oc hoc)⟩
      :: ⟨Rect.unit (s := S2x520x512) ![s, 0, o] S1x8x256.size (inb3 (by omega) (by omega) (by omega)),
        k0_pay10 (F := Ideal) (View.readAt (Elt Ideal) a11.view
          (Rect.unit (s := S8x5632) ![0, oc] S8x256.size (inb2 (by omega) (by omega))).toLoadRect (h11.unread C))⟩ :: L) s o oc (seq x0 x1 x2 C) :=
  holds_cons v s o oc _ L _ _ _ hoc _ _ (fun r j => up_rows h2 h3 h4 x0 x1 x2 C oc hoc _ _ _ r j) (fun r j => carry_rows h11 x0 x1 x2 C oc hoc _ r j)

/-- One block of the convolution, its operands the loads the body makes. -/
def convLd {a5 : Memref sig' κ sp S3x5632 .f32} (h5 : a5.IsWhole) {a6 : Memref sig' κ sp S1x5632 .f32} (h6 : a6.IsWhole)
    (v : View sig' κ sp S2x520x512 .f32) (x3 : FVec Ideal S3x5632 .f32) (x4 : FVec Ideal S1x5632 .f32)
    (L : List (View.Piece (Elt Ideal) S2x520x512 .f32)) (s o oc : ℕ) (hs : s < 2) (ho : o + 256 ≤ 512) (hoc : oc + 256 ≤ 5632) :
    FVec Ideal S512x256 .f32 :=
  k0_pay12 (F := Ideal)
    (View.readAt (Elt Ideal) a6.view (Rect.unit (s := S1x5632) ![0, oc] S1x256.size (inb2 (by omega) (by omega))).toLoadRect (h6.unread x4))
    (View.readAt (Elt Ideal) a5.view (Rect.unit (s := S3x5632) ![0, oc] S1x256.size (inb2 (by omega) (by omega))).toLoadRect (h5.unread x3))
    (v.readCov L (Rect.unit (s := S2x520x512) ![s, 6, o] S1x512x256.size (inb3 (by omega) (by omega) (by omega))).toLoadRect)
    (View.readAt (Elt Ideal) a5.view (Rect.unit (s := S3x5632) ![1, oc] S1x256.size (inb2 (by omega) (by omega))).toLoadRect (h5.unread x3))
    (v.readCov L (Rect.unit (s := S2x520x512) ![s, 7, o] S1x512x256.size (inb3 (by omega) (by omega) (by omega))).toLoadRect)
    (View.readAt (Elt Ideal) a5.view (Rect.unit (s := S3x5632) ![2, oc] S1x256.size (inb2 (by omega) (by omega))).toLoadRect (h5.unread x3))
    (v.readCov L (Rect.unit (s := S2x520x512) ![s, 8, o] S1x512x256.size (inb3 (by omega) (by omega) (by omega))).toLoadRect)

/-- It is the convolution of the rows held. -/
theorem convLd_at {a5 : Memref sig' κ sp S3x5632 .f32} (h5 : a5.IsWhole) {a6 : Memref sig' κ sp S1x5632 .f32} (h6 : a6.IsWhole)
    (v : View sig' κ sp S2x520x512 .f32) (x3 : FVec Ideal S3x5632 .f32) (x4 : FVec Ideal S1x5632 .f32)
    (L : List (View.Piece (Elt Ideal) S2x520x512 .f32)) (s o oc : ℕ) (hs : s < 2) (ho : o + 256 ≤ 512) (hoc : oc + 256 ≤ 5632)
    (S : ℕ → Fin 5632 → EReal) (hL : Holds v L s o oc S) (r : Fin 512) (j : Fin 256) :
    convLd h5 h6 v x3 x4 L s o oc hs ho hoc (ix2 r j) = convTile x3 x4 S r ⟨oc + j.val, by omega⟩ := by
  rw [convLd, conv_at, convTile]
  have hb : ∀ (i) (z : Fin 1), View.readAt (Elt Ideal) a6.view (Rect.unit (s := S1x5632) ![0, oc] S1x256.size i).toLoadRect (h6.unread x4)
      (ix2 z j : (⟨2, ![1, 256]⟩ : Shape).Idx) = x4 (ix2 0 ⟨oc + j.val, by omega⟩) := fun i z =>
    (ld2 h6 x4 i z j (by omega) (by omega)).trans (congrArg (fun q => x4 (ix2 q _)) (Subsingleton.elim _ _))
  have hw : ∀ (k : Fin 3) (i) (z : Fin 1), View.readAt (Elt Ideal) a5.view (Rect.unit (s := S3x5632) ![k.val, oc] S1x256.size i).toLoadRect (h5.unread x3)
      (ix2 z j : (⟨2, ![1, 256]⟩ : Shape).Idx) = x3 (ix2 k ⟨oc + j.val, by omega⟩) := fun k i z =>
    (ld2 h5 x3 i z j (by omega) (by omega)).trans (congrArg (fun q => x3 (ix2 q _)) (Fin.ext (by simp [Fin.val_eq_zero z])))
  have e0 := hL 6 512 (inb3 (by omega) (by omega) (by omega)) 0 r j (by omega)
  have e1 := hL 7 512 (inb3 (by omega) (by omega) (by omega)) 0 r j (by omega)
  have e2 := hL 8 512 (inb3 (by omega) (by omega) (by omega)) 0 r j (by omega)
  have w0 := hw 0 (inb2 (by omega) (by omega)) 0
  have w1 := hw 1 (inb2 (by omega) (by omega)) 0
  have w2 := hw 2 (inb2 (by omega) (by omega)) 0
  have c0 := hb (inb2 (by omega) (by omega)) 0
  unfold conv3
  exact congrArg₂ (· + ·) (congrArg₂ (· + ·) (congrArg₂ (· + ·) c0 (congrArg₂ (· * ·) w0 e0)) (congrArg₂ (· * ·) w1 e1)) (congrArg₂ (· * ·) w2 e2)

/-- The gated columns before `a` are stored. -/
def Acted (L : List (View.Piece (Elt Ideal) S512x2816 .bf16)) (a : ℕ) (G : Fin 512 → Fin 2816 → EReal) : Prop :=
  ∀ (r : Fin 512) (k : Fin 2816), k.val < a → View.canon L (ix2 r k) = G r k

theorem acted_nil (G : Fin 512 → Fin 2816 → EReal) : Acted [] 0 G := fun _ _ h => absurd h (Nat.not_lt_zero _)

/-- One more block of gated columns. -/
theorem acted_cons {a5 : Memref sig' κ sp S3x5632 .f32} (h5 : a5.IsWhole) {a6 : Memref sig' κ sp S1x5632 .f32} (h6 : a6.IsWhole)
    (v : View sig' κ sp S2x520x512 .f32) (x3 : FVec Ideal S3x5632 .f32) (x4 : FVec Ideal S1x5632 .f32)
    (Lg Lu : List (View.Piece (Elt Ideal) S2x520x512 .f32)) (s oc : ℕ) (hs : s < 2) (hoc : oc + 256 ≤ 2816) (S : ℕ → Fin 5632 → EReal)
    (hg : Holds v Lg s 0 oc S) (hu : Holds v Lu s 256 (2816 + oc) S) (L : List (View.Piece (Elt Ideal) S512x2816 .bf16)) (i)
    (hL : Acted L oc (gateTile x3 x4 S)) :
    Acted (⟨Rect.unit (s := S512x2816) ![0, oc] S512x256.size i,
      k0_pay15 (F := Ideal) (convLd h5 h6 v x3 x4 Lg s 0 oc hs (by omega) (by omega)) (convLd h5 h6 v x3 x4 Lu s 256 (2816 + oc) hs (by omega) (by omega))⟩ :: L)
      (oc + 256) (gateTile x3 x4 S) := by
  intro r k hk
  by_cases h : k.val < oc
  · refine (View.canon_cons_of_not_mem _ _ ?_).trans (hL r k h)
    intro hm
    obtain ⟨q, _, hq⟩ := (LoadRect.mem_set _).1 hm 1
    simp at hq
    omega
  · have e : ix2 r k = (Rect.unit (s := S512x2816) ![0, oc] S512x256.size i).emb (ix2 r ⟨k.val - oc, by omega⟩ : (⟨2, ![512, 256]⟩ : Shape).Idx) := by
      funext a; apply Fin.ext
      match a with
      | ⟨0, _⟩ => rw [Rect.emb_apply]; simp
      | ⟨1, _⟩ => rw [Rect.emb_apply]; simp; omega
    rw [e]
    refine (View.canon_cons_emb _ _ _ _).trans ((gate_at _ _ _ _).trans ?_)
    rw [convLd_at h5 h6 v x3 x4 Lg s 0 oc hs _ _ S hg, convLd_at h5 h6 v x3 x4 Lu s 256 (2816 + oc) hs _ _ S hu]
    unfold gateTile gateRow
    have e1 : (⟨oc + (k.val - oc), by omega⟩ : Fin 5632) = ⟨k.val, by omega⟩ := Fin.ext (by show oc + (k.val - oc) = k.val; omega)
    have e2 : (⟨2816 + oc + (k.val - oc), by omega⟩ : Fin 5632) = ⟨2816 + k.val, by omega⟩ := Fin.ext (by show 2816 + oc + (k.val - oc) = 2816 + k.val; omega)
    simp only [e1, e2]

/-- The carry's stores so far: the gate columns before `a` and the up columns before `b` hold the last rows of `S`. -/
def Carried (L : List (View.Piece (Elt Ideal) S8x5632 .f32)) (a b : ℕ) (S : ℕ → Fin 5632 → EReal) : Prop :=
  ∀ (r : Fin 8) (j : Fin 5632), (j.val < a ∨ (2816 ≤ j.val ∧ j.val < 2816 + b)) → View.canon L (ix2 r j) = S (512 + r.val) j

/-- The columns from `a` and from `2816 + b` on are as cleared. -/
def Clear (L : List (View.Piece (Elt Ideal) S8x5632 .f32)) (a b : ℕ) : Prop :=
  ∀ (r : Fin 8) (j : Fin 5632), ((a ≤ j.val ∧ j.val < 2816) ∨ 2816 + b ≤ j.val) → View.canon L (ix2 r j) = 0

theorem carried_nil (L : List (View.Piece (Elt Ideal) S8x5632 .f32)) (S : ℕ → Fin 5632 → EReal) : Carried L 0 0 S := by
  intro r j h; omega

theorem clear_nil (i) : Clear [⟨Rect.unit (s := S8x5632) ![0, 0] S8x5632.size i, k0_pay2 (F := Ideal)⟩] 0 0 := by
  intro r j h
  have e : ix2 r j = (Rect.unit (s := S8x5632) ![0, 0] S8x5632.size i).emb (ix2 r j : (⟨2, ![8, 5632]⟩ : Shape).Idx) := by
    funext a; apply Fin.ext
    match a with
    | ⟨0, _⟩ => rw [Rect.emb_apply]; simp
    | ⟨1, _⟩ => rw [Rect.emb_apply]; simp
  rw [e]
  refine (View.canon_cons_emb _ _ _ _).trans ?_
  show k0_pay2 (F := Ideal) (ix2 r j) = 0
  pointwise [k0_pay2]

/-- Off a block of the carry's columns the store does nothing. -/
theorem canon_off (o : ℕ) (i) (P : S8x256.Idx → EReal) (L : List (View.Piece (Elt Ideal) S8x5632 .f32)) (r : Fin 8) (j : Fin 5632)
    (h : j.val < o ∨ o + 256 ≤ j.val) :
    View.canon (⟨Rect.unit (s := S8x5632) ![0, o] S8x256.size i, P⟩ :: L) (ix2 r j) = View.canon L (ix2 r j) := by
  refine View.canon_cons_of_not_mem _ _ ?_
  intro hm
  obtain ⟨q, hq1, hq⟩ := (LoadRect.mem_set _).1 hm 1
  simp at hq hq1
  omega

/-- On it the store's rows are the last rows of the block held. -/
theorem canon_on (v : View sig' κ sp S2x520x512 .f32) (Lb : List (View.Piece (Elt Ideal) S2x520x512 .f32)) (s o oc : ℕ) (S : ℕ → Fin 5632 → EReal)
    (hb : Holds v Lb s o oc S) (i i') (L : List (View.Piece (Elt Ideal) S8x5632 .f32)) (r : Fin 8) (j : Fin 5632)
    (h : oc ≤ j.val ∧ j.val < oc + 256) :
    View.canon (⟨Rect.unit (s := S8x5632) ![0, oc] S8x256.size i,
      k0_pay9 (F := Ideal) (v.readCov Lb (Rect.unit (s := S2x520x512) ![s, 512, o] S1x8x256.size i').toLoadRect)⟩ :: L) (ix2 r j) = S (512 + r.val) j := by
  have e : ix2 r j = (Rect.unit (s := S8x5632) ![0, oc] S8x256.size i).emb (ix2 r ⟨j.val - oc, by omega⟩ : (⟨2, ![8, 256]⟩ : Shape).Idx) := by
    funext a; apply Fin.ext
    match a with
    | ⟨0, _⟩ => rw [Rect.emb_apply]; simp
    | ⟨1, _⟩ => rw [Rect.emb_apply]; simp; omega
  have ej : (⟨oc + (j.val - oc), by omega⟩ : Fin 5632) = j := Fin.ext (by show oc + (j.val - oc) = _; omega)
  have eh := hb 512 8 i' 0 r ⟨j.val - oc, by omega⟩ (by show oc + (j.val - oc) < 5632; omega)
  rw [e]
  refine (View.canon_cons_emb _ _ _ _).trans ?_
  have e9 : ∀ (u : FVec Ideal S1x8x256 .f32) (r : Fin 8) (j : Fin 256), k0_pay9 (F := Ideal) u (ix2 r j) = u (ix3 0 r j) := by
    intro u r j
    pointwise [k0_pay9]
  refine (e9 _ _ _).trans (eh.trans ?_)
  exact congrArg (S (512 + r.val)) ej

/-- One more block of the carry's gate columns. -/
theorem carried_gate (v : View sig' κ sp S2x520x512 .f32) (Lb : List (View.Piece (Elt Ideal) S2x520x512 .f32)) (s o a b : ℕ) (S : ℕ → Fin 5632 → EReal)
    (hb : Holds v Lb s o a S) (i i') (ha : a + 256 ≤ 2816) (L : List (View.Piece (Elt Ideal) S8x5632 .f32)) (hL : Carried L a b S) :
    Carried (⟨Rect.unit (s := S8x5632) ![0, a] S8x256.size i,
      k0_pay9 (F := Ideal) (v.readCov Lb (Rect.unit (s := S2x520x512) ![s, 512, o] S1x8x256.size i').toLoadRect)⟩ :: L) (a + 256) b S := by
  intro r j h
  by_cases h1 : a ≤ j.val ∧ j.val < a + 256
  · exact canon_on v Lb s o a S hb i i' L r j h1
  · exact (canon_off a i _ L r j (by omega)).trans (hL r j (by omega))

/-- One more block of the carry's up columns. -/
theorem carried_up (v : View sig' κ sp S2x520x512 .f32) (Lb : List (View.Piece (Elt Ideal) S2x520x512 .f32)) (s o a b : ℕ) (S : ℕ → Fin 5632 → EReal)
    (hb : Holds v Lb s o (2816 + b) S) (i i') (ha : a ≤ 2816) (L : List (View.Piece (Elt Ideal) S8x5632 .f32)) (hL : Carried L a b S) :
    Carried (⟨Rect.unit (s := S8x5632) ![0, 2816 + b] S8x256.size i,
      k0_pay9 (F := Ideal) (v.readCov Lb (Rect.unit (s := S2x520x512) ![s, 512, o] S1x8x256.size i').toLoadRect)⟩ :: L) a (b + 256) S := by
  intro r j h
  by_cases h1 : 2816 + b ≤ j.val ∧ j.val < 2816 + b + 256
  · exact canon_on v Lb s o (2816 + b) S hb i i' L r j h1
  · exact (canon_off (2816 + b) i _ L r j (by omega)).trans (hL r j (by omega))

/-- A store of gate columns leaves the later ones cleared. -/
theorem clear_gate (a b : ℕ) (i) (ha : a + 256 ≤ 2816) (P : S8x256.Idx → EReal) (L : List (View.Piece (Elt Ideal) S8x5632 .f32)) (hL : Clear L a b) :
    Clear (⟨Rect.unit (s := S8x5632) ![0, a] S8x256.size i, P⟩ :: L) (a + 256) b :=
  fun r j h => (canon_off a i P L r j (by omega)).trans (hL r j (by omega))

/-- A store of up columns leaves the later ones cleared. -/
theorem clear_up (a b : ℕ) (i) (P : S8x256.Idx → EReal) (L : List (View.Piece (Elt Ideal) S8x5632 .f32)) (hL : Clear L a b) :
    Clear (⟨Rect.unit (s := S8x5632) ![0, 2816 + b] S8x256.size i, P⟩ :: L) a (b + 256) :=
  fun r j h => (canon_off (2816 + b) i P L r j (by omega)).trans (hL r j (by omega))

/-- A block of the carry read while still cleared is the first rows of `seq` over nothing. -/
theorem clear_rows (v : View sig' κ sp S8x5632 .f32) (L : List (View.Piece (Elt Ideal) S8x5632 .f32)) (a b oc : ℕ) (hL : Clear L a b)
    (x0 : FVec Ideal S1x512x1024 .f32) (x1 : FVec Ideal S1x1024 .f32) (x2 : FVec Ideal S1024x5632 .bf16) (hoc : oc + 256 ≤ 5632)
    (h : (a ≤ oc ∧ oc + 256 ≤ 2816) ∨ 2816 + b ≤ oc) (i) (r : Fin 8) (j : Fin 256) :
    v.readCov L (Rect.unit (s := S8x5632) ![0, oc] S8x256.size i).toLoadRect (ix2 r j : (⟨2, ![8, 256]⟩ : Shape).Idx)
      = seq x0 x1 x2 (fun _ => 0) r.val ⟨oc + j.val, by omega⟩ := by
  rw [seq, dif_pos r.isLt, View.readCov_eq_canon']
  have e : (Rect.unit (s := S8x5632) ![0, oc] S8x256.size i).toLoadRect.idx (ix2 r j : (⟨2, ![8, 256]⟩ : Shape).Idx) = ix2 r ⟨oc + j.val, by omega⟩ := by
    funext a; apply Fin.ext
    match a with
    | ⟨0, _⟩ => rw [LoadRect.idx_apply]; simp
    | ⟨1, _⟩ => rw [LoadRect.idx_apply]; simp
  beta_reduce
  rw [e]
  exact hL r _ (by show (a ≤ oc + j.val ∧ oc + j.val < 2816) ∨ 2816 + b ≤ oc + j.val; omega)

/-- A block of rows stored after its carried rows, when these are read from the carry just cleared. -/
theorem holds_clear {a2 : Memref sig' κ sp S1x512x1024 .f32} (h2 : a2.IsWhole) {a3 : Memref sig' κ sp S1x1024 .f32} (h3 : a3.IsWhole)
    {a4 : Memref sig' κ sp S1024x5632 .bf16} (h4 : a4.IsWhole)
    (x0 : FVec Ideal S1x512x1024 .f32) (x1 : FVec Ideal S1x1024 .f32) (x2 : FVec Ideal S1024x5632 .bf16)
    (v : View sig' κ sp S2x520x512 .f32) (v' : View sig' κ sp S8x5632 .f32) (s o oc : ℕ) (hs : s < 2) (ho : o + 256 ≤ 512) (hoc : oc + 256 ≤ 5632)
    (L : List (View.Piece (Elt Ideal) S2x520x512 .f32)) (Lc : List (View.Piece (Elt Ideal) S8x5632 .f32)) (a b : ℕ) (hc : Clear Lc a b)
    (hab : (a ≤ oc ∧ oc + 256 ≤ 2816) ∨ 2816 + b ≤ oc) :
    Holds v (⟨Rect.unit (s := S2x520x512) ![s, 8, o] S1x512x256.size (inb3 (by omega) (by omega) (by omega)),
        k0_pay11 (F := Ideal) (ldH h2 h3 x0 x1) (ldW h4 x2 oc hoc)⟩
      :: ⟨Rect.unit (s := S2x520x512) ![s, 0, o] S1x8x256.size (inb3 (by omega) (by omega) (by omega)),
        k0_pay10 (F := Ideal) (v'.readCov Lc (Rect.unit (s := S8x5632) ![0, oc] S8x256.size (inb2 (by omega) (by omega))).toLoadRect)⟩ :: L)
      s o oc (seq x0 x1 x2 fun _ => 0) :=
  holds_cons v s o oc _ L _ _ _ hoc _ _ (fun r j => up_rows h2 h3 h4 x0 x1 x2 _ oc hoc _ _ _ r j)
    (fun r j => clear_rows v' Lc a b oc hc x0 x1 x2 hoc hab _ r j)

/-- The tile's result at a row and a lane, from the gated columns loaded. -/
theorem out_at (x0 : FVec Ideal S1x512x1024 .f32) (g : FVec Ideal S512x2816 .bf16) (x5 : FVec Ideal S2816x1024 .bf16) (x6 : FVec Ideal S1x1024 .f32)
    (z : Fin 1) (r : Fin 512) (d : Fin 1024) :
    k0_pay1 (F := Ideal) (k0_pay3 x0) (k0_pay130 g x5 x6) (ix3 z r d)
      = tileRow x0 r d + normRow (lane x6) (fun e => ∑ k : Fin 2816, g (ix2 r k) * x5 (ix2 k e)) d := by
  pointwise [k0_pay1, k0_pay3, k0_pay130, normRow]

end Cert.Kernel2Ideal.Ffn

end
-- ==== Proof.FfnCaseA.lean ====
/- The feed-forward kernel's body on a tile that is the first of its batch row, the carried rows cleared: each of the eleven column blocks, by the block lemmas. -/
module

public import proofs.«01_k».proof.Proof.FfnBlock

@[expose] public section

set_option maxRecDepth 16384

noncomputable section

open Idealize.ShloMosaic Idealize.ShloMosaic.TcCoe Idealize.SL.Sem

namespace Cert.Kernel2Ideal.Ffn.First

open Cert.Kernel2Ideal Cert.Kernel2Ideal.Gen Cert.FfnRow

/-- The carry just cleared. -/
theorem clear_1 : Clear (kernelRun0_A.sl.HS1_1 (F := Ideal) ) 0 0 := clear_nil _

/-- The gate columns from 0 on, in slot 0. -/
theorem holds_0 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_2 (F := Ideal) c arg2 harg2 arg3 harg3 arg4 harg4 arg11 x0 x1 x2) 0 0 0 (seq x0 x1 x2 fun _ => 0) :=
  holds_clear harg2 harg3 harg4 x0 x1 x2 arg10.view arg11.view 0 0 0 (by decide) (by decide) (by decide) _ _ 0 0 clear_1 (by decide)

theorem clear_2 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_2 (F := Ideal) c arg2 harg2 arg3 harg3 arg4 harg4 arg10 arg11 x0 x1 x2) 256 0 :=
  clear_gate 0 0 _ (by decide) _ _ clear_1

theorem carried_2 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_2 (F := Ideal) c arg2 harg2 arg3 harg3 arg4 harg4 arg10 arg11 x0 x1 x2) 256 0 (seq x0 x1 x2 fun _ => 0) :=
  carried_gate arg10.view _ 0 0 0 0 _ (holds_0 c arg2 harg2 arg3 harg3 arg4 harg4 arg10 arg11 x0 x1 x2) _ _ (by decide) _ (carried_nil _ _)

/-- The up columns from 2816 on, in slot 0. -/
theorem holds_1 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_4 (F := Ideal) c arg2 harg2 arg3 harg3 arg4 harg4 arg10 arg11 x0 x1 x2) 0 256 2816 (seq x0 x1 x2 fun _ => 0) :=
  holds_clear harg2 harg3 harg4 x0 x1 x2 arg10.view arg11.view 0 256 2816 (by decide) (by decide) (by decide) _ _ 256 0 (clear_2 c arg2 harg2 arg3 harg3 arg4 harg4 arg10 arg11 x0 x1 x2) (by decide)

theorem clear_3 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_3 (F := Ideal) c arg2 harg2 arg3 harg3 arg4 harg4 arg10 arg11 x0 x1 x2) 256 256 :=
  clear_up 256 0 _ _ _ (clear_2 c arg2 harg2 arg3 harg3 arg4 harg4 arg10 arg11 x0 x1 x2)

theorem carried_3 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_3 (F := Ideal) c arg2 harg2 arg3 harg3 arg4 harg4 arg10 arg11 x0 x1 x2) 256 256 (seq x0 x1 x2 fun _ => 0) :=
  carried_up arg10.view _ 0 256 256 0 _ (holds_1 c arg2 harg2 arg3 harg3 arg4 harg4 arg10 arg11 x0 x1 x2) _ _ (by decide) _ (carried_2 c arg2 harg2 arg3 harg3 arg4 harg4 arg10 arg11 x0 x1 x2)

/-- The gate columns from 256 on, in slot 1. -/
theorem holds_2 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_6 (F := Ideal) c arg2 harg2 arg3 harg3 arg4 harg4 arg10 arg11 x0 x1 x2) 1 0 256 (seq x0 x1 x2 fun _ => 0) :=
  holds_clear harg2 harg3 harg4 x0 x1 x2 arg10.view arg11.view 1 0 256 (by decide) (by decide) (by decide) _ _ 256 256 (clear_3 c arg2 harg2 arg3 harg3 arg4 harg4 arg10 arg11 x0 x1 x2) (by decide)

theorem clear_4 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_4 (F := Ideal) c arg2 harg2 arg3 harg3 arg4 harg4 arg10 arg11 x0 x1 x2) 512 256 :=
  clear_gate 256 256 _ (by decide) _ _ (clear_3 c arg2 harg2 arg3 harg3 arg4 harg4 arg10 arg11 x0 x1 x2)

theorem carried_4 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_4 (F := Ideal) c arg2 harg2 arg3 harg3 arg4 harg4 arg10 arg11 x0 x1 x2) 512 256 (seq x0 x1 x2 fun _ => 0) :=
  carried_gate arg10.view _ 1 0 256 256 _ (holds_2 c arg2 harg2 arg3 harg3 arg4 harg4 arg10 arg11 x0 x1 x2) _ _ (by decide) _ (carried_3 c arg2 harg2 arg3 harg3 arg4 harg4 arg10 arg11 x0 x1 x2)

/-- The up columns from 3072 on, in slot 1. -/
theorem holds_3 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_8 (F := Ideal) c arg2 harg2 arg3 harg3 arg4 harg4 arg10 arg11 x0 x1 x2) 1 256 3072 (seq x0 x1 x2 fun _ => 0) :=
  holds_clear harg2 harg3 harg4 x0 x1 x2 arg10.view arg11.view 1 256 3072 (by decide) (by decide) (by decide) _ _ 512 256 (clear_4 c arg2 harg2 arg3 harg3 arg4 harg4 arg10 arg11 x0 x1 x2) (by decide)

theorem clear_5 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_5 (F := Ideal) c arg2 harg2 arg3 harg3 arg4 harg4 arg10 arg11 x0 x1 x2) 512 512 :=
  clear_up 512 256 _ _ _ (clear_4 c arg2 harg2 arg3 harg3 arg4 harg4 arg10 arg11 x0 x1 x2)

theorem carried_5 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_5 (F := Ideal) c arg2 harg2 arg3 harg3 arg4 harg4 arg10 arg11 x0 x1 x2) 512 512 (seq x0 x1 x2 fun _ => 0) :=
  carried_up arg10.view _ 1 256 512 256 _ (holds_3 c arg2 harg2 arg3 harg3 arg4 harg4 arg10 arg11 x0 x1 x2) _ _ (by decide) _ (carried_4 c arg2 harg2 arg3 harg3 arg4 harg4 arg10 arg11 x0 x1 x2)

/-- The gate columns from 512 on, in slot 0. -/
theorem holds_4 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_10 (F := Ideal) c arg2 harg2 arg3 harg3 arg4 harg4 arg10 arg11 x0 x1 x2) 0 0 512 (seq x0 x1 x2 fun _ => 0) :=
  holds_clear harg2 harg3 harg4 x0 x1 x2 arg10.view arg11.view 0 0 512 (by decide) (by decide) (by decide) _ _ 512 512 (clear_5 c arg2 harg2 arg3 harg3 arg4 harg4 arg10 arg11 x0 x1 x2) (by decide)

theorem clear_6 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_6 (F := Ideal) c arg2 harg2 arg3 harg3 arg4 harg4 arg10 arg11 x0 x1 x2) 768 512 :=
  clear_gate 512 512 _ (by decide) _ _ (clear_5 c arg2 harg2 arg3 harg3 arg4 harg4 arg10 arg11 x0 x1 x2)

theorem carried_6 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_6 (F := Ideal) c arg2 harg2 arg3 harg3 arg4 harg4 arg10 arg11 x0 x1 x2) 768 512 (seq x0 x1 x2 fun _ => 0) :=
  carried_gate arg10.view _ 0 0 512 512 _ (holds_4 c arg2 harg2 arg3 harg3 arg4 harg4 arg10 arg11 x0 x1 x2) _ _ (by decide) _ (carried_5 c arg2 harg2 arg3 harg3 arg4 harg4 arg10 arg11 x0 x1 x2)

/-- The up columns from 3328 on, in slot 0. -/
theorem holds_5 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_12 (F := Ideal) c arg2 harg2 arg3 harg3 arg4 harg4 arg10 arg11 x0 x1 x2) 0 256 3328 (seq x0 x1 x2 fun _ => 0) :=
  holds_clear harg2 harg3 harg4 x0 x1 x2 arg10.view arg11.view 0 256 3328 (by decide) (by decide) (by decide) _ _ 768 512 (clear_6 c arg2 harg2 arg3 harg3 arg4 harg4 arg10 arg11 x0 x1 x2) (by decide)

theorem clear_7 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_7 (F := Ideal) c arg2 harg2 arg3 harg3 arg4 harg4 arg10 arg11 x0 x1 x2) 768 768 :=
  clear_up 768 512 _ _ _ (clear_6 c arg2 harg2 arg3 harg3 arg4 harg4 arg10 arg11 x0 x1 x2)

theorem carried_7 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_7 (F := Ideal) c arg2 harg2 arg3 harg3 arg4 harg4 arg10 arg11 x0 x1 x2) 768 768 (seq x0 x1 x2 fun _ => 0) :=
  carried_up arg10.view _ 0 256 768 512 _ (holds_5 c arg2 harg2 arg3 harg3 arg4 harg4 arg10 arg11 x0 x1 x2) _ _ (by decide) _ (carried_6 c arg2 harg2 arg3 harg3 arg4 harg4 arg10 arg11 x0 x1 x2)

/-- The gate columns from 768 on, in slot 1. -/
theorem holds_6 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_14 (F := Ideal) c arg2 harg2 arg3 harg3 arg4 harg4 arg10 arg11 x0 x1 x2) 1 0 768 (seq x0 x1 x2 fun _ => 0) :=
  holds_clear harg2 harg3 harg4 x0 x1 x2 arg10.view arg11.view 1 0 768 (by decide) (by decide) (by decide) _ _ 768 768 (clear_7 c arg2 harg2 arg3 harg3 arg4 harg4 arg10 arg11 x0 x1 x2) (by decide)

theorem clear_8 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_8 (F := Ideal) c arg2 harg2 arg3 harg3 arg4 harg4 arg10 arg11 x0 x1 x2) 1024 768 :=
  clear_gate 768 768 _ (by decide) _ _ (clear_7 c arg2 harg2 arg3 harg3 arg4 harg4 arg10 arg11 x0 x1 x2)

theorem carried_8 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_8 (F := Ideal) c arg2 harg2 arg3 harg3 arg4 harg4 arg10 arg11 x0 x1 x2) 1024 768 (seq x0 x1 x2 fun _ => 0) :=
  carried_gate arg10.view _ 1 0 768 768 _ (holds_6 c arg2 harg2 arg3 harg3 arg4 harg4 arg10 arg11 x0 x1 x2) _ _ (by decide) _ (carried_7 c arg2 harg2 arg3 harg3 arg4 harg4 arg10 arg11 x0 x1 x2)

/-- The up columns from 3584 on, in slot 1. -/
theorem holds_7 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_16 (F := Ideal) c arg2 harg2 arg3 harg3 arg4 harg4 arg10 arg11 x0 x1 x2) 1 256 3584 (seq x0 x1 x2 fun _ => 0) :=
  holds_clear harg2 harg3 harg4 x0 x1 x2 arg10.view arg11.view 1 256 3584 (by decide) (by decide) (by decide) _ _ 1024 768 (clear_8 c arg2 harg2 arg3 harg3 arg4 harg4 arg10 arg11 x0 x1 x2) (by decide)

theorem clear_9 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_9 (F := Ideal) c arg2 harg2 arg3 harg3 arg4 harg4 arg10 arg11 x0 x1 x2) 1024 1024 :=
  clear_up 1024 768 _ _ _ (clear_8 c arg2 harg2 arg3 harg3 arg4 harg4 arg10 arg11 x0 x1 x2)

theorem carried_9 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_9 (F := Ideal) c arg2 harg2 arg3 harg3 arg4 harg4 arg10 arg11 x0 x1 x2) 1024 1024 (seq x0 x1 x2 fun _ => 0) :=
  carried_up arg10.view _ 1 256 1024 768 _ (holds_7 c arg2 harg2 arg3 harg3 arg4 harg4 arg10 arg11 x0 x1 x2) _ _ (by decide) _ (carried_8 c arg2 harg2 arg3 harg3 arg4 harg4 arg10 arg11 x0 x1 x2)

/-- The gate columns from 1024 on, in slot 0. -/
theorem holds_8 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_18 (F := Ideal) c arg2 harg2 arg3 harg3 arg4 harg4 arg10 arg11 x0 x1 x2) 0 0 1024 (seq x0 x1 x2 fun _ => 0) :=
  holds_clear harg2 harg3 harg4 x0 x1 x2 arg10.view arg11.view 0 0 1024 (by decide) (by decide) (by decide) _ _ 1024 1024 (clear_9 c arg2 harg2 arg3 harg3 arg4 harg4 arg10 arg11 x0 x1 x2) (by decide)

theorem clear_10 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_10 (F := Ideal) c arg2 harg2 arg3 harg3 arg4 harg4 arg10 arg11 x0 x1 x2) 1280 1024 :=
  clear_gate 1024 1024 _ (by decide) _ _ (clear_9 c arg2 harg2 arg3 harg3 arg4 harg4 arg10 arg11 x0 x1 x2)

theorem carried_10 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_10 (F := Ideal) c arg2 harg2 arg3 harg3 arg4 harg4 arg10 arg11 x0 x1 x2) 1280 1024 (seq x0 x1 x2 fun _ => 0) :=
  carried_gate arg10.view _ 0 0 1024 1024 _ (holds_8 c arg2 harg2 arg3 harg3 arg4 harg4 arg10 arg11 x0 x1 x2) _ _ (by decide) _ (carried_9 c arg2 harg2 arg3 harg3 arg4 harg4 arg10 arg11 x0 x1 x2)

/-- The up columns from 3840 on, in slot 0. -/
theorem holds_9 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_20 (F := Ideal) c arg2 harg2 arg3 harg3 arg4 harg4 arg10 arg11 x0 x1 x2) 0 256 3840 (seq x0 x1 x2 fun _ => 0) :=
  holds_clear harg2 harg3 harg4 x0 x1 x2 arg10.view arg11.view 0 256 3840 (by decide) (by decide) (by decide) _ _ 1280 1024 (clear_10 c arg2 harg2 arg3 harg3 arg4 harg4 arg10 arg11 x0 x1 x2) (by decide)

theorem clear_11 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_11 (F := Ideal) c arg2 harg2 arg3 harg3 arg4 harg4 arg10 arg11 x0 x1 x2) 1280 1280 :=
  clear_up 1280 1024 _ _ _ (clear_10 c arg2 harg2 arg3 harg3 arg4 harg4 arg10 arg11 x0 x1 x2)

theorem carried_11 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_11 (F := Ideal) c arg2 harg2 arg3 harg3 arg4 harg4 arg10 arg11 x0 x1 x2) 1280 1280 (seq x0 x1 x2 fun _ => 0) :=
  carried_up arg10.view _ 0 256 1280 1024 _ (holds_9 c arg2 harg2 arg3 harg3 arg4 harg4 arg10 arg11 x0 x1 x2) _ _ (by decide) _ (carried_10 c arg2 harg2 arg3 harg3 arg4 harg4 arg10 arg11 x0 x1 x2)

/-- The gate columns from 1280 on, in slot 1. -/
theorem holds_10 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_22 (F := Ideal) c arg2 harg2 arg3 harg3 arg4 harg4 arg10 arg11 x0 x1 x2) 1 0 1280 (seq x0 x1 x2 fun _ => 0) :=
  holds_clear harg2 harg3 harg4 x0 x1 x2 arg10.view arg11.view 1 0 1280 (by decide) (by decide) (by decide) _ _ 1280 1280 (clear_11 c arg2 harg2 arg3 harg3 arg4 harg4 arg10 arg11 x0 x1 x2) (by decide)

theorem clear_12 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_12 (F := Ideal) c arg2 harg2 arg3 harg3 arg4 harg4 arg10 arg11 x0 x1 x2) 1536 1280 :=
  clear_gate 1280 1280 _ (by decide) _ _ (clear_11 c arg2 harg2 arg3 harg3 arg4 harg4 arg10 arg11 x0 x1 x2)

theorem carried_12 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_12 (F := Ideal) c arg2 harg2 arg3 harg3 arg4 harg4 arg10 arg11 x0 x1 x2) 1536 1280 (seq x0 x1 x2 fun _ => 0) :=
  carried_gate arg10.view _ 1 0 1280 1280 _ (holds_10 c arg2 harg2 arg3 harg3 arg4 harg4 arg10 arg11 x0 x1 x2) _ _ (by decide) _ (carried_11 c arg2 harg2 arg3 harg3 arg4 harg4 arg10 arg11 x0 x1 x2)

/-- The up columns from 4096 on, in slot 1. -/
theorem holds_11 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_24 (F := Ideal) c arg2 harg2 arg3 harg3 arg4 harg4 arg10 arg11 x0 x1 x2) 1 256 4096 (seq x0 x1 x2 fun _ => 0) :=
  holds_clear harg2 harg3 harg4 x0 x1 x2 arg10.view arg11.view 1 256 4096 (by decide) (by decide) (by decide) _ _ 1536 1280 (clear_12 c arg2 harg2 arg3 harg3 arg4 harg4 arg10 arg11 x0 x1 x2) (by decide)

theorem clear_13 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_13 (F := Ideal) c arg2 harg2 arg3 harg3 arg4 harg4 arg10 arg11 x0 x1 x2) 1536 1536 :=
  clear_up 1536 1280 _ _ _ (clear_12 c arg2 harg2 arg3 harg3 arg4 harg4 arg10 arg11 x0 x1 x2)

theorem carried_13 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_13 (F := Ideal) c arg2 harg2 arg3 harg3 arg4 harg4 arg10 arg11 x0 x1 x2) 1536 1536 (seq x0 x1 x2 fun _ => 0) :=
  carried_up arg10.view _ 1 256 1536 1280 _ (holds_11 c arg2 harg2 arg3 harg3 arg4 harg4 arg10 arg11 x0 x1 x2) _ _ (by decide) _ (carried_12 c arg2 harg2 arg3 harg3 arg4 harg4 arg10 arg11 x0 x1 x2)

/-- The gate columns from 1536 on, in slot 0. -/
theorem holds_12 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_26 (F := Ideal) c arg2 harg2 arg3 harg3 arg4 harg4 arg10 arg11 x0 x1 x2) 0 0 1536 (seq x0 x1 x2 fun _ => 0) :=
  holds_clear harg2 harg3 harg4 x0 x1 x2 arg10.view arg11.view 0 0 1536 (by decide) (by decide) (by decide) _ _ 1536 1536 (clear_13 c arg2 harg2 arg3 harg3 arg4 harg4 arg10 arg11 x0 x1 x2) (by decide)

theorem clear_14 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_14 (F := Ideal) c arg2 harg2 arg3 harg3 arg4 harg4 arg10 arg11 x0 x1 x2) 1792 1536 :=
  clear_gate 1536 1536 _ (by decide) _ _ (clear_13 c arg2 harg2 arg3 harg3 arg4 harg4 arg10 arg11 x0 x1 x2)

theorem carried_14 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_14 (F := Ideal) c arg2 harg2 arg3 harg3 arg4 harg4 arg10 arg11 x0 x1 x2) 1792 1536 (seq x0 x1 x2 fun _ => 0) :=
  carried_gate arg10.view _ 0 0 1536 1536 _ (holds_12 c arg2 harg2 arg3 harg3 arg4 harg4 arg10 arg11 x0 x1 x2) _ _ (by decide) _ (carried_13 c arg2 harg2 arg3 harg3 arg4 harg4 arg10 arg11 x0 x1 x2)

/-- The up columns from 4352 on, in slot 0. -/
theorem holds_13 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_28 (F := Ideal) c arg2 harg2 arg3 harg3 arg4 harg4 arg10 arg11 x0 x1 x2) 0 256 4352 (seq x0 x1 x2 fun _ => 0) :=
  holds_clear harg2 harg3 harg4 x0 x1 x2 arg10.view arg11.view 0 256 4352 (by decide) (by decide) (by decide) _ _ 1792 1536 (clear_14 c arg2 harg2 arg3 harg3 arg4 harg4 arg10 arg11 x0 x1 x2) (by decide)

theorem clear_15 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_15 (F := Ideal) c arg2 harg2 arg3 harg3 arg4 harg4 arg10 arg11 x0 x1 x2) 1792 1792 :=
  clear_up 1792 1536 _ _ _ (clear_14 c arg2 harg2 arg3 harg3 arg4 harg4 arg10 arg11 x0 x1 x2)

theorem carried_15 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_15 (F := Ideal) c arg2 harg2 arg3 harg3 arg4 harg4 arg10 arg11 x0 x1 x2) 1792 1792 (seq x0 x1 x2 fun _ => 0) :=
  carried_up arg10.view _ 0 256 1792 1536 _ (holds_13 c arg2 harg2 arg3 harg3 arg4 harg4 arg10 arg11 x0 x1 x2) _ _ (by decide) _ (carried_14 c arg2 harg2 arg3 harg3 arg4 harg4 arg10 arg11 x0 x1 x2)

/-- The gate columns from 1792 on, in slot 1. -/
theorem holds_14 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_30 (F := Ideal) c arg2 harg2 arg3 harg3 arg4 harg4 arg10 arg11 x0 x1 x2) 1 0 1792 (seq x0 x1 x2 fun _ => 0) :=
  holds_clear harg2 harg3 harg4 x0 x1 x2 arg10.view arg11.view 1 0 1792 (by decide) (by decide) (by decide) _ _ 1792 1792 (clear_15 c arg2 harg2 arg3 harg3 arg4 harg4 arg10 arg11 x0 x1 x2) (by decide)

theorem clear_16 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_16 (F := Ideal) c arg2 harg2 arg3 harg3 arg4 harg4 arg10 arg11 x0 x1 x2) 2048 1792 :=
  clear_gate 1792 1792 _ (by decide) _ _ (clear_15 c arg2 harg2 arg3 harg3 arg4 harg4 arg10 arg11 x0 x1 x2)

theorem carried_16 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_16 (F := Ideal) c arg2 harg2 arg3 harg3 arg4 harg4 arg10 arg11 x0 x1 x2) 2048 1792 (seq x0 x1 x2 fun _ => 0) :=
  carried_gate arg10.view _ 1 0 1792 1792 _ (holds_14 c arg2 harg2 arg3 harg3 arg4 harg4 arg10 arg11 x0 x1 x2) _ _ (by decide) _ (carried_15 c arg2 harg2 arg3 harg3 arg4 harg4 arg10 arg11 x0 x1 x2)

/-- The up columns from 4608 on, in slot 1. -/
theorem holds_15 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_32 (F := Ideal) c arg2 harg2 arg3 harg3 arg4 harg4 arg10 arg11 x0 x1 x2) 1 256 4608 (seq x0 x1 x2 fun _ => 0) :=
  holds_clear harg2 harg3 harg4 x0 x1 x2 arg10.view arg11.view 1 256 4608 (by decide) (by decide) (by decide) _ _ 2048 1792 (clear_16 c arg2 harg2 arg3 harg3 arg4 harg4 arg10 arg11 x0 x1 x2) (by decide)

theorem clear_17 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_17 (F := Ideal) c arg2 harg2 arg3 harg3 arg4 harg4 arg10 arg11 x0 x1 x2) 2048 2048 :=
  clear_up 2048 1792 _ _ _ (clear_16 c arg2 harg2 arg3 harg3 arg4 harg4 arg10 arg11 x0 x1 x2)

theorem carried_17 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_17 (F := Ideal) c arg2 harg2 arg3 harg3 arg4 harg4 arg10 arg11 x0 x1 x2) 2048 2048 (seq x0 x1 x2 fun _ => 0) :=
  carried_up arg10.view _ 1 256 2048 1792 _ (holds_15 c arg2 harg2 arg3 harg3 arg4 harg4 arg10 arg11 x0 x1 x2) _ _ (by decide) _ (carried_16 c arg2 harg2 arg3 harg3 arg4 harg4 arg10 arg11 x0 x1 x2)

/-- The gate columns from 2048 on, in slot 0. -/
theorem holds_16 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_34 (F := Ideal) c arg2 harg2 arg3 harg3 arg4 harg4 arg10 arg11 x0 x1 x2) 0 0 2048 (seq x0 x1 x2 fun _ => 0) :=
  holds_clear harg2 harg3 harg4 x0 x1 x2 arg10.view arg11.view 0 0 2048 (by decide) (by decide) (by decide) _ _ 2048 2048 (clear_17 c arg2 harg2 arg3 harg3 arg4 harg4 arg10 arg11 x0 x1 x2) (by decide)

theorem clear_18 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_18 (F := Ideal) c arg2 harg2 arg3 harg3 arg4 harg4 arg10 arg11 x0 x1 x2) 2304 2048 :=
  clear_gate 2048 2048 _ (by decide) _ _ (clear_17 c arg2 harg2 arg3 harg3 arg4 harg4 arg10 arg11 x0 x1 x2)

theorem carried_18 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_18 (F := Ideal) c arg2 harg2 arg3 harg3 arg4 harg4 arg10 arg11 x0 x1 x2) 2304 2048 (seq x0 x1 x2 fun _ => 0) :=
  carried_gate arg10.view _ 0 0 2048 2048 _ (holds_16 c arg2 harg2 arg3 harg3 arg4 harg4 arg10 arg11 x0 x1 x2) _ _ (by decide) _ (carried_17 c arg2 harg2 arg3 harg3 arg4 harg4 arg10 arg11 x0 x1 x2)

/-- The up columns from 4864 on, in slot 0. -/
theorem holds_17 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_36 (F := Ideal) c arg2 harg2 arg3 harg3 arg4 harg4 arg10 arg11 x0 x1 x2) 0 256 4864 (seq x0 x1 x2 fun _ => 0) :=
  holds_clear harg2 harg3 harg4 x0 x1 x2 arg10.view arg11.view 0 256 4864 (by decide) (by decide) (by decide) _ _ 2304 2048 (clear_18 c arg2 harg2 arg3 harg3 arg4 harg4 arg10 arg11 x0 x1 x2) (by decide)

theorem clear_19 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_19 (F := Ideal) c arg2 harg2 arg3 harg3 arg4 harg4 arg10 arg11 x0 x1 x2) 2304 2304 :=
  clear_up 2304 2048 _ _ _ (clear_18 c arg2 harg2 arg3 harg3 arg4 harg4 arg10 arg11 x0 x1 x2)

theorem carried_19 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_19 (F := Ideal) c arg2 harg2 arg3 harg3 arg4 harg4 arg10 arg11 x0 x1 x2) 2304 2304 (seq x0 x1 x2 fun _ => 0) :=
  carried_up arg10.view _ 0 256 2304 2048 _ (holds_17 c arg2 harg2 arg3 harg3 arg4 harg4 arg10 arg11 x0 x1 x2) _ _ (by decide) _ (carried_18 c arg2 harg2 arg3 harg3 arg4 harg4 arg10 arg11 x0 x1 x2)

/-- The gate columns from 2304 on, in slot 1. -/
theorem holds_18 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_38 (F := Ideal) c arg2 harg2 arg3 harg3 arg4 harg4 arg10 arg11 x0 x1 x2) 1 0 2304 (seq x0 x1 x2 fun _ => 0) :=
  holds_clear harg2 harg3 harg4 x0 x1 x2 arg10.view arg11.view 1 0 2304 (by decide) (by decide) (by decide) _ _ 2304 2304 (clear_19 c arg2 harg2 arg3 harg3 arg4 harg4 arg10 arg11 x0 x1 x2) (by decide)

theorem clear_20 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_20 (F := Ideal) c arg2 harg2 arg3 harg3 arg4 harg4 arg10 arg11 x0 x1 x2) 2560 2304 :=
  clear_gate 2304 2304 _ (by decide) _ _ (clear_19 c arg2 harg2 arg3 harg3 arg4 harg4 arg10 arg11 x0 x1 x2)

theorem carried_20 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_20 (F := Ideal) c arg2 harg2 arg3 harg3 arg4 harg4 arg10 arg11 x0 x1 x2) 2560 2304 (seq x0 x1 x2 fun _ => 0) :=
  carried_gate arg10.view _ 1 0 2304 2304 _ (holds_18 c arg2 harg2 arg3 harg3 arg4 harg4 arg10 arg11 x0 x1 x2) _ _ (by decide) _ (carried_19 c arg2 harg2 arg3 harg3 arg4 harg4 arg10 arg11 x0 x1 x2)

/-- The up columns from 5120 on, in slot 1. -/
theorem holds_19 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_40 (F := Ideal) c arg2 harg2 arg3 harg3 arg4 harg4 arg10 arg11 x0 x1 x2) 1 256 5120 (seq x0 x1 x2 fun _ => 0) :=
  holds_clear harg2 harg3 harg4 x0 x1 x2 arg10.view arg11.view 1 256 5120 (by decide) (by decide) (by decide) _ _ 2560 2304 (clear_20 c arg2 harg2 arg3 harg3 arg4 harg4 arg10 arg11 x0 x1 x2) (by decide)

theorem clear_21 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_21 (F := Ideal) c arg2 harg2 arg3 harg3 arg4 harg4 arg10 arg11 x0 x1 x2) 2560 2560 :=
  clear_up 2560 2304 _ _ _ (clear_20 c arg2 harg2 arg3 harg3 arg4 harg4 arg10 arg11 x0 x1 x2)

theorem carried_21 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_21 (F := Ideal) c arg2 harg2 arg3 harg3 arg4 harg4 arg10 arg11 x0 x1 x2) 2560 2560 (seq x0 x1 x2 fun _ => 0) :=
  carried_up arg10.view _ 1 256 2560 2304 _ (holds_19 c arg2 harg2 arg3 harg3 arg4 harg4 arg10 arg11 x0 x1 x2) _ _ (by decide) _ (carried_20 c arg2 harg2 arg3 harg3 arg4 harg4 arg10 arg11 x0 x1 x2)

/-- The gate columns from 2560 on, in slot 0. -/
theorem holds_20 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_42 (F := Ideal) c arg2 harg2 arg3 harg3 arg4 harg4 arg10 arg11 x0 x1 x2) 0 0 2560 (seq x0 x1 x2 fun _ => 0) :=
  holds_clear harg2 harg3 harg4 x0 x1 x2 arg10.view arg11.view 0 0 2560 (by decide) (by decide) (by decide) _ _ 2560 2560 (clear_21 c arg2 harg2 arg3 harg3 arg4 harg4 arg10 arg11 x0 x1 x2) (by decide)

theorem clear_22 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Clear (kernelRun0_A.sl.HS1_22 (F := Ideal) c arg2 harg2 arg3 harg3 arg4 harg4 arg10 arg11 x0 x1 x2) 2816 2560 :=
  clear_gate 2560 2560 _ (by decide) _ _ (clear_21 c arg2 harg2 arg3 harg3 arg4 harg4 arg10 arg11 x0 x1 x2)

theorem carried_22 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Carried (kernelRun0_A.sl.HS1_22 (F := Ideal) c arg2 harg2 arg3 harg3 arg4 harg4 arg10 arg11 x0 x1 x2) 2816 2560 (seq x0 x1 x2 fun _ => 0) :=
  carried_gate arg10.view _ 0 0 2560 2560 _ (holds_20 c arg2 harg2 arg3 harg3 arg4 harg4 arg10 arg11 x0 x1 x2) _ _ (by decide) _ (carried_21 c arg2 harg2 arg3 harg3 arg4 harg4 arg10 arg11 x0 x1 x2)

/-- The up columns from 5376 on, in slot 0. -/
theorem holds_21 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) :
    Holds arg10.view (kernelRun0_A.sl.HS0_44 (F := Ideal) c arg2 harg2 arg3 harg3 arg4 harg4 arg10 arg11 x0 x1 x2) 0 256 5376 (seq x0 x1 x2 fun _ => 0) :=
  holds_clear harg2 harg3 harg4 x0 x1 x2 arg10.view arg11.view 0 256 5376 (by decide) (by decide) (by decide) _ _ 2816 2560 (clear_22 c arg2 harg2 arg3 harg3 arg4 harg4 arg10 arg11 x0 x1 x2) (by decide)

/-- All the gated columns are stored. -/
theorem acted (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg10 : Memref sig .tc .vmem S2x520x512 .f32) (arg11 : Memref sig .tc .vmem S8x5632 .f32) (x0 : FVec Ideal S1x512x1024 .f32) (x1 : FVec Ideal S1x1024 .f32) (x2 : FVec Ideal S1024x5632 .bf16) (x3 : FVec Ideal S3x5632 .f32) (x4 : FVec Ideal S1x5632 .f32) :
    Acted (kernelRun0_A.sl.HS2_11 (F := Ideal) c arg2 harg2 arg3 harg3 arg4 harg4 arg5 harg5 arg6 harg6 arg10 arg11 x0 x1 x2 x3 x4) 2816 (gateTile x3 x4 (seq x0 x1 x2 fun _ => 0)) :=
  (acted_cons harg5 harg6 arg10.view x3 x4 _ _ 0 2560 (by decide) (by decide) _ (holds_20 c arg2 harg2 arg3 harg3 arg4 harg4 arg10 arg11 x0 x1 x2) (holds_21 c arg2 harg2 arg3 harg3 arg4 harg4 arg10 arg11 x0 x1 x2) _ _
    (acted_cons harg5 harg6 arg10.view x3 x4 _ _ 1 2304 (by decide) (by decide) _ (holds_18 c arg2 harg2 arg3 harg3 arg4 harg4 arg10 arg11 x0 x1 x2) (holds_19 c arg2 harg2 arg3 harg3 arg4 harg4 arg10 arg11 x0 x1 x2) _ _
    (acted_cons harg5 harg6 arg10.view x3 x4 _ _ 0 2048 (by decide) (by decide) _ (holds_16 c arg2 harg2 arg3 harg3 arg4 harg4 arg10 arg11 x0 x1 x2) (holds_17 c arg2 harg2 arg3 harg3 arg4 harg4 arg10 arg11 x0 x1 x2) _ _
    (acted_cons harg5 harg6 arg10.view x3 x4 _ _ 1 1792 (by decide) (by decide) _ (holds_14 c arg2 harg2 arg3 harg3 arg4 harg4 arg10 arg11 x0 x1 x2) (holds_15 c arg2 harg2 arg3 harg3 arg4 harg4 arg10 arg11 x0 x1 x2) _ _
    (acted_cons harg5 harg6 arg10.view x3 x4 _ _ 0 1536 (by decide) (by decide) _ (holds_12 c arg2 harg2 arg3 harg3 arg4 harg4 arg10 arg11 x0 x1 x2) (holds_13 c arg2 harg2 arg3 harg3 arg4 harg4 arg10 arg11 x0 x1 x2) _ _
    (acted_cons harg5 harg6 arg10.view x3 x4 _ _ 1 1280 (by decide) (by decide) _ (holds_10 c arg2 harg2 arg3 harg3 arg4 harg4 arg10 arg11 x0 x1 x2) (holds_11 c arg2 harg2 arg3 harg3 arg4 harg4 arg10 arg11 x0 x1 x2) _ _
    (acted_cons harg5 harg6 arg10.view x3 x4 _ _ 0 1024 (by decide) (by decide) _ (holds_8 c arg2 harg2 arg3 harg3 arg4 harg4 arg10 arg11 x0 x1 x2) (holds_9 c arg2 harg2 arg3 harg3 arg4 harg4 arg10 arg11 x0 x1 x2) _ _
    (acted_cons harg5 harg6 arg10.view x3 x4 _ _ 1 768 (by decide) (by decide) _ (holds_6 c arg2 harg2 arg3 harg3 arg4 harg4 arg10 arg11 x0 x1 x2) (holds_7 c arg2 harg2 arg3 harg3 arg4 harg4 arg10 arg11 x0 x1 x2) _ _
    (acted_cons harg5 harg6 arg10.view x3 x4 _ _ 0 512 (by decide) (by decide) _ (holds_4 c arg2 harg2 arg3 harg3 arg4 harg4 arg10 arg11 x0 x1 x2) (holds_5 c arg2 harg2 arg3 harg3 arg4 harg4 arg10 arg11 x0 x1 x2) _ _
    (acted_cons harg5 harg6 arg10.view x3 x4 _ _ 1 256 (by decide) (by decide) _ (holds_2 c arg2 harg2 arg3 harg3 arg4 harg4 arg10 arg11 x0 x1 x2) (holds_3 c arg2 harg2 arg3 harg3 arg4 harg4 arg10 arg11 x0 x1 x2) _ _
    (acted_cons harg5 harg6 arg10.view x3 x4 _ _ 0 0 (by decide) (by decide) _ (holds_0 c arg2 harg2 arg3 harg3 arg4 harg4 arg10 arg11 x0 x1 x2) (holds_1 c arg2 harg2 arg3 harg3 arg4 harg4 arg10 arg11 x0 x1 x2) _ _
    (acted_nil _))))))))))))

end Cert.Kernel2Ideal.Ffn.First

end
-- ==== Proof.FfnCaseB.lean ====
/- The feed-forward kernel's body on a tile after the first of its batch row, the carried rows loaded: each of the eleven column blocks, by the block lemmas. -/
module

public import proofs.«01_k».proof.Proof.FfnBlock

@[expose] public section

set_option maxRecDepth 16384

noncomputable section

open Idealize.ShloMosaic Idealize.ShloMosaic.TcCoe Idealize.SL.Sem

namespace Cert.Kernel2Ideal.Ffn.Later

open Cert.Kernel2Ideal Cert.Kernel2Ideal.Gen Cert.FfnRow

/-- The gate columns from 0 on, in slot 0. -/
theorem holds_0 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_2 (F := Ideal) c arg2 harg2 arg3 harg3 arg4 harg4 arg11 harg11 x0 x1 x2 xs1) 0 0 0 (seq x0 x1 x2 xs1) :=
  holds_carry harg2 harg3 harg4 harg11 x0 x1 x2 xs1 arg10.view 0 0 0 (by decide) (by decide) (by decide) _

/-- The up columns from 2816 on, in slot 0. -/
theorem holds_1 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_4 (F := Ideal) c arg2 harg2 arg3 harg3 arg4 harg4 arg11 harg11 x0 x1 x2 xs1) 0 256 2816 (seq x0 x1 x2 xs1) :=
  holds_carry harg2 harg3 harg4 harg11 x0 x1 x2 xs1 arg10.view 0 256 2816 (by decide) (by decide) (by decide) _

/-- The gate columns from 256 on, in slot 1. -/
theorem holds_2 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_6 (F := Ideal) c arg2 harg2 arg3 harg3 arg4 harg4 arg11 harg11 x0 x1 x2 xs1) 1 0 256 (seq x0 x1 x2 xs1) :=
  holds_carry harg2 harg3 harg4 harg11 x0 x1 x2 xs1 arg10.view 1 0 256 (by decide) (by decide) (by decide) _

/-- The up columns from 3072 on, in slot 1. -/
theorem holds_3 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_8 (F := Ideal) c arg2 harg2 arg3 harg3 arg4 harg4 arg11 harg11 x0 x1 x2 xs1) 1 256 3072 (seq x0 x1 x2 xs1) :=
  holds_carry harg2 harg3 harg4 harg11 x0 x1 x2 xs1 arg10.view 1 256 3072 (by decide) (by decide) (by decide) _

/-- The gate columns from 512 on, in slot 0. -/
theorem holds_4 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_10 (F := Ideal) c arg2 harg2 arg3 harg3 arg4 harg4 arg11 harg11 x0 x1 x2 xs1) 0 0 512 (seq x0 x1 x2 xs1) :=
  holds_carry harg2 harg3 harg4 harg11 x0 x1 x2 xs1 arg10.view 0 0 512 (by decide) (by decide) (by decide) _

/-- The up columns from 3328 on, in slot 0. -/
theorem holds_5 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_12 (F := Ideal) c arg2 harg2 arg3 harg3 arg4 harg4 arg11 harg11 x0 x1 x2 xs1) 0 256 3328 (seq x0 x1 x2 xs1) :=
  holds_carry harg2 harg3 harg4 harg11 x0 x1 x2 xs1 arg10.view 0 256 3328 (by decide) (by decide) (by decide) _

/-- The gate columns from 768 on, in slot 1. -/
theorem holds_6 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_14 (F := Ideal) c arg2 harg2 arg3 harg3 arg4 harg4 arg11 harg11 x0 x1 x2 xs1) 1 0 768 (seq x0 x1 x2 xs1) :=
  holds_carry harg2 harg3 harg4 harg11 x0 x1 x2 xs1 arg10.view 1 0 768 (by decide) (by decide) (by decide) _

/-- The up columns from 3584 on, in slot 1. -/
theorem holds_7 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_16 (F := Ideal) c arg2 harg2 arg3 harg3 arg4 harg4 arg11 harg11 x0 x1 x2 xs1) 1 256 3584 (seq x0 x1 x2 xs1) :=
  holds_carry harg2 harg3 harg4 harg11 x0 x1 x2 xs1 arg10.view 1 256 3584 (by decide) (by decide) (by decide) _

/-- The gate columns from 1024 on, in slot 0. -/
theorem holds_8 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_18 (F := Ideal) c arg2 harg2 arg3 harg3 arg4 harg4 arg11 harg11 x0 x1 x2 xs1) 0 0 1024 (seq x0 x1 x2 xs1) :=
  holds_carry harg2 harg3 harg4 harg11 x0 x1 x2 xs1 arg10.view 0 0 1024 (by decide) (by decide) (by decide) _

/-- The up columns from 3840 on, in slot 0. -/
theorem holds_9 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_20 (F := Ideal) c arg2 harg2 arg3 harg3 arg4 harg4 arg11 harg11 x0 x1 x2 xs1) 0 256 3840 (seq x0 x1 x2 xs1) :=
  holds_carry harg2 harg3 harg4 harg11 x0 x1 x2 xs1 arg10.view 0 256 3840 (by decide) (by decide) (by decide) _

/-- The gate columns from 1280 on, in slot 1. -/
theorem holds_10 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_22 (F := Ideal) c arg2 harg2 arg3 harg3 arg4 harg4 arg11 harg11 x0 x1 x2 xs1) 1 0 1280 (seq x0 x1 x2 xs1) :=
  holds_carry harg2 harg3 harg4 harg11 x0 x1 x2 xs1 arg10.view 1 0 1280 (by decide) (by decide) (by decide) _

/-- The up columns from 4096 on, in slot 1. -/
theorem holds_11 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_24 (F := Ideal) c arg2 harg2 arg3 harg3 arg4 harg4 arg11 harg11 x0 x1 x2 xs1) 1 256 4096 (seq x0 x1 x2 xs1) :=
  holds_carry harg2 harg3 harg4 harg11 x0 x1 x2 xs1 arg10.view 1 256 4096 (by decide) (by decide) (by decide) _

/-- The gate columns from 1536 on, in slot 0. -/
theorem holds_12 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_26 (F := Ideal) c arg2 harg2 arg3 harg3 arg4 harg4 arg11 harg11 x0 x1 x2 xs1) 0 0 1536 (seq x0 x1 x2 xs1) :=
  holds_carry harg2 harg3 harg4 harg11 x0 x1 x2 xs1 arg10.view 0 0 1536 (by decide) (by decide) (by decide) _

/-- The up columns from 4352 on, in slot 0. -/
theorem holds_13 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_28 (F := Ideal) c arg2 harg2 arg3 harg3 arg4 harg4 arg11 harg11 x0 x1 x2 xs1) 0 256 4352 (seq x0 x1 x2 xs1) :=
  holds_carry harg2 harg3 harg4 harg11 x0 x1 x2 xs1 arg10.view 0 256 4352 (by decide) (by decide) (by decide) _

/-- The gate columns from 1792 on, in slot 1. -/
theorem holds_14 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_30 (F := Ideal) c arg2 harg2 arg3 harg3 arg4 harg4 arg11 harg11 x0 x1 x2 xs1) 1 0 1792 (seq x0 x1 x2 xs1) :=
  holds_carry harg2 harg3 harg4 harg11 x0 x1 x2 xs1 arg10.view 1 0 1792 (by decide) (by decide) (by decide) _

/-- The up columns from 4608 on, in slot 1. -/
theorem holds_15 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_32 (F := Ideal) c arg2 harg2 arg3 harg3 arg4 harg4 arg11 harg11 x0 x1 x2 xs1) 1 256 4608 (seq x0 x1 x2 xs1) :=
  holds_carry harg2 harg3 harg4 harg11 x0 x1 x2 xs1 arg10.view 1 256 4608 (by decide) (by decide) (by decide) _

/-- The gate columns from 2048 on, in slot 0. -/
theorem holds_16 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_34 (F := Ideal) c arg2 harg2 arg3 harg3 arg4 harg4 arg11 harg11 x0 x1 x2 xs1) 0 0 2048 (seq x0 x1 x2 xs1) :=
  holds_carry harg2 harg3 harg4 harg11 x0 x1 x2 xs1 arg10.view 0 0 2048 (by decide) (by decide) (by decide) _

/-- The up columns from 4864 on, in slot 0. -/
theorem holds_17 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_36 (F := Ideal) c arg2 harg2 arg3 harg3 arg4 harg4 arg11 harg11 x0 x1 x2 xs1) 0 256 4864 (seq x0 x1 x2 xs1) :=
  holds_carry harg2 harg3 harg4 harg11 x0 x1 x2 xs1 arg10.view 0 256 4864 (by decide) (by decide) (by decide) _

/-- The gate columns from 2304 on, in slot 1. -/
theorem holds_18 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_38 (F := Ideal) c arg2 harg2 arg3 harg3 arg4 harg4 arg11 harg11 x0 x1 x2 xs1) 1 0 2304 (seq x0 x1 x2 xs1) :=
  holds_carry harg2 harg3 harg4 harg11 x0 x1 x2 xs1 arg10.view 1 0 2304 (by decide) (by decide) (by decide) _

/-- The up columns from 5120 on, in slot 1. -/
theorem holds_19 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_40 (F := Ideal) c arg2 harg2 arg3 harg3 arg4 harg4 arg11 harg11 x0 x1 x2 xs1) 1 256 5120 (seq x0 x1 x2 xs1) :=
  holds_carry harg2 harg3 harg4 harg11 x0 x1 x2 xs1 arg10.view 1 256 5120 (by decide) (by decide) (by decide) _

/-- The gate columns from 2560 on, in slot 0. -/
theorem holds_20 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_42 (F := Ideal) c arg2 harg2 arg3 harg3 arg4 harg4 arg11 harg11 x0 x1 x2 xs1) 0 0 2560 (seq x0 x1 x2 xs1) :=
  holds_carry harg2 harg3 harg4 harg11 x0 x1 x2 xs1 arg10.view 0 0 2560 (by decide) (by decide) (by decide) _

/-- The up columns from 5376 on, in slot 0. -/
theorem holds_21 (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (xs1 : FVec Ideal S8x5632 .f32) :
    Holds arg10.view (kernelRun0_B.sl.HS0_44 (F := Ideal) c arg2 harg2 arg3 harg3 arg4 harg4 arg11 harg11 x0 x1 x2 xs1) 0 256 5376 (seq x0 x1 x2 xs1) :=
  holds_carry harg2 harg3 harg4 harg11 x0 x1 x2 xs1 arg10.view 0 256 5376 (by decide) (by decide) (by decide) _

/-- All the gated columns are stored. -/
theorem acted (c : Dev nD) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg10 : Memref sig .tc .vmem S2x520x512 .f32) (arg11 : Memref sig .tc .vmem S8x5632 .f32) (harg11 : arg11.IsWhole) (x0 : FVec Ideal S1x512x1024 .f32) (x1 : FVec Ideal S1x1024 .f32) (x2 : FVec Ideal S1024x5632 .bf16) (x3 : FVec Ideal S3x5632 .f32) (x4 : FVec Ideal S1x5632 .f32) (xs1 : FVec Ideal S8x5632 .f32) :
    Acted (kernelRun0_B.sl.HS2_11 (F := Ideal) c arg2 harg2 arg3 harg3 arg4 harg4 arg5 harg5 arg6 harg6 arg10 arg11 harg11 x0 x1 x2 x3 x4 xs1) 2816 (gateTile x3 x4 (seq x0 x1 x2 xs1)) :=
  (acted_cons harg5 harg6 arg10.view x3 x4 _ _ 0 2560 (by decide) (by decide) _ (holds_20 c arg2 harg2 arg3 harg3 arg4 harg4 arg10 arg11 harg11 x0 x1 x2 xs1) (holds_21 c arg2 harg2 arg3 harg3 arg4 harg4 arg10 arg11 harg11 x0 x1 x2 xs1) _ _
    (acted_cons harg5 harg6 arg10.view x3 x4 _ _ 1 2304 (by decide) (by decide) _ (holds_18 c arg2 harg2 arg3 harg3 arg4 harg4 arg10 arg11 harg11 x0 x1 x2 xs1) (holds_19 c arg2 harg2 arg3 harg3 arg4 harg4 arg10 arg11 harg11 x0 x1 x2 xs1) _ _
    (acted_cons harg5 harg6 arg10.view x3 x4 _ _ 0 2048 (by decide) (by decide) _ (holds_16 c arg2 harg2 arg3 harg3 arg4 harg4 arg10 arg11 harg11 x0 x1 x2 xs1) (holds_17 c arg2 harg2 arg3 harg3 arg4 harg4 arg10 arg11 harg11 x0 x1 x2 xs1) _ _
    (acted_cons harg5 harg6 arg10.view x3 x4 _ _ 1 1792 (by decide) (by decide) _ (holds_14 c arg2 harg2 arg3 harg3 arg4 harg4 arg10 arg11 harg11 x0 x1 x2 xs1) (holds_15 c arg2 harg2 arg3 harg3 arg4 harg4 arg10 arg11 harg11 x0 x1 x2 xs1) _ _
    (acted_cons harg5 harg6 arg10.view x3 x4 _ _ 0 1536 (by decide) (by decide) _ (holds_12 c arg2 harg2 arg3 harg3 arg4 harg4 arg10 arg11 harg11 x0 x1 x2 xs1) (holds_13 c arg2 harg2 arg3 harg3 arg4 harg4 arg10 arg11 harg11 x0 x1 x2 xs1) _ _
    (acted_cons harg5 harg6 arg10.view x3 x4 _ _ 1 1280 (by decide) (by decide) _ (holds_10 c arg2 harg2 arg3 harg3 arg4 harg4 arg10 arg11 harg11 x0 x1 x2 xs1) (holds_11 c arg2 harg2 arg3 harg3 arg4 harg4 arg10 arg11 harg11 x0 x1 x2 xs1) _ _
    (acted_cons harg5 harg6 arg10.view x3 x4 _ _ 0 1024 (by decide) (by decide) _ (holds_8 c arg2 harg2 arg3 harg3 arg4 harg4 arg10 arg11 harg11 x0 x1 x2 xs1) (holds_9 c arg2 harg2 arg3 harg3 arg4 harg4 arg10 arg11 harg11 x0 x1 x2 xs1) _ _
    (acted_cons harg5 harg6 arg10.view x3 x4 _ _ 1 768 (by decide) (by decide) _ (holds_6 c arg2 harg2 arg3 harg3 arg4 harg4 arg10 arg11 harg11 x0 x1 x2 xs1) (holds_7 c arg2 harg2 arg3 harg3 arg4 harg4 arg10 arg11 harg11 x0 x1 x2 xs1) _ _
    (acted_cons harg5 harg6 arg10.view x3 x4 _ _ 0 512 (by decide) (by decide) _ (holds_4 c arg2 harg2 arg3 harg3 arg4 harg4 arg10 arg11 harg11 x0 x1 x2 xs1) (holds_5 c arg2 harg2 arg3 harg3 arg4 harg4 arg10 arg11 harg11 x0 x1 x2 xs1) _ _
    (acted_cons harg5 harg6 arg10.view x3 x4 _ _ 1 256 (by decide) (by decide) _ (holds_2 c arg2 harg2 arg3 harg3 arg4 harg4 arg10 arg11 harg11 x0 x1 x2 xs1) (holds_3 c arg2 harg2 arg3 harg3 arg4 harg4 arg10 arg11 harg11 x0 x1 x2 xs1) _ _
    (acted_cons harg5 harg6 arg10.view x3 x4 _ _ 0 0 (by decide) (by decide) _ (holds_0 c arg2 harg2 arg3 harg3 arg4 harg4 arg10 arg11 harg11 x0 x1 x2 xs1) (holds_1 c arg2 harg2 arg3 harg3 arg4 harg4 arg10 arg11 harg11 x0 x1 x2 xs1) _ _
    (acted_nil _))))))))))))

end Cert.Kernel2Ideal.Ffn.Later

end
-- ==== Proof.FfnOut.lean ====
/- What the feed-forward kernel's body leaves in its output block and in the carried rows, entry by entry, for both cases. -/
module

public import proofs.«01_k».proof.Proof.FfnCaseA
public import proofs.«01_k».proof.Proof.FfnCaseB

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen Cert.FfnRow

/-- The output block: its one store covers it, and its payload is the tile's result over the gated columns stored. -/
theorem block_at {κ : Kind} {sp : Space} {sg : RefSig} {a2 : Memref sg κ sp S1x512x1024 .f32} (h2 : a2.IsWhole)
    {a7 : Memref sg κ sp S2816x1024 .bf16} (h7 : a7.IsWhole) {a8 : Memref sg κ sp S1x1024 .f32} (h8 : a8.IsWhole)
    (x0 : FVec Ideal S1x512x1024 .f32) (x5 : FVec Ideal S2816x1024 .bf16) (x6 : FVec Ideal S1x1024 .f32)
    (v : View sg κ sp S512x2816 .bf16) (L : List (View.Piece (Elt Ideal) S512x2816 .bf16)) (x3 : FVec Ideal S3x5632 .f32) (x4 : FVec Ideal S1x5632 .f32)
    (S : ℕ → Fin 5632 → EReal) (hL : Acted L 2816 (gateTile x3 x4 S)) (i i2 i7 i8 i12) (z : Fin 1) (r : Fin 512) (d : Fin 1024) :
    View.canon [(⟨Rect.unit (s := S1x512x1024) ![0, 0, 0] S1x512x1024.size i,
      k0_pay1 (F := Ideal)
        (k0_pay3 (View.readAt (Elt Ideal) a2.view (Rect.unit (s := S1x512x1024) ![0, 0, 0] S1x512x1024.size i2).toLoadRect (h2.unread x0)))
        (k0_pay130 (v.readCov L (Rect.unit (s := S512x2816) ![0, 0] S512x2816.size i12).toLoadRect)
          (View.readAt (Elt Ideal) a7.view (Rect.unit (s := S2816x1024) ![0, 0] S2816x1024.size i7).toLoadRect (h7.unread x5))
          (View.readAt (Elt Ideal) a8.view (Rect.unit (s := S1x1024) ![0, 0] S1x1024.size i8).toLoadRect (h8.unread x6)))⟩ :
        View.Piece (Elt Ideal) S1x512x1024 .f32)] (ix3 z r d)
      = outRow (tileRow x0 r) (convTile x3 x4 S r) (mat x5) (lane x6) d := by
  have e : ix3 z r d = (Rect.unit (s := S1x512x1024) ![0, 0, 0] S1x512x1024.size i).emb (ix3 z r d : (⟨3, ![1, 512, 1024]⟩ : Shape).Idx) := by
    funext a; apply Fin.ext
    match a with
    | ⟨0, _⟩ => rw [Rect.emb_apply]; simp
    | ⟨1, _⟩ => rw [Rect.emb_apply]; simp
    | ⟨2, _⟩ => rw [Rect.emb_apply]; simp
  rw [e]
  refine (View.canon_cons_emb _ _ _ _).trans ?_
  rw [View.readCov_eq_canon']
  have eg : (fun y => View.canon L ((Rect.unit (s := S512x2816) ![0, 0] S512x2816.size i12).toLoadRect.idx y)) = View.canon L := by
    funext y
    congr 1
    funext a; apply Fin.ext
    match a with
    | ⟨0, _⟩ => rw [LoadRect.idx_apply]; simp
    | ⟨1, _⟩ => rw [LoadRect.idx_apply]; simp
  rw [eg]
  refine (congrArg₂ (fun u (w : _ × _) => k0_pay1 (F := Ideal) (k0_pay3 u) (k0_pay130 (View.canon L) w.1 w.2) (ix3 z r d)) (ld3 h2 x0 i2)
    (congrArg₂ Prod.mk (ldw h7 x5 i7) (ldw h8 x6 i8))).trans ((out_at x0 _ x5 x6 z r d).trans ?_)
  unfold outRow
  refine congrArg (fun q => tileRow x0 r d + normRow (lane x6) q d) (funext fun e => Finset.sum_congr rfl fun k _ => ?_)
  rw [hL r k k.isLt]
  rfl

/-- The output block in this case, at a row and a lane. -/
theorem First.out_at (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S2x520x512 .f32) (harg10 : arg10.IsWhole) (arg11 : Memref sig .tc .vmem S8x5632 .f32) (harg11 : arg11.IsWhole) (arg12 : Memref sig .tc .vmem S512x2816 .bf16) (harg12 : arg12.IsWhole) (hc0 : cond0_0 i) (x0 : FVec Ideal S1x512x1024 .f32) (x1 : FVec Ideal S1x1024 .f32) (x2 : FVec Ideal S1024x5632 .bf16) (x3 : FVec Ideal S3x5632 .f32) (x4 : FVec Ideal S1x5632 .f32) (x5 : FVec Ideal S2816x1024 .bf16) (x6 : FVec Ideal S1x1024 .f32) (z : Fin 1) (r : Fin 512) (d : Fin 1024) :
    out0_A_7 (F := Ideal) c i arg2 harg2 arg3 harg3 arg4 harg4 arg5 harg5 arg6 harg6 arg7 harg7 arg8 harg8 arg9 harg9 arg10 harg10 arg11 harg11 arg12 harg12 hc0 x0 x1 x2 x3 x4 x5 x6 (ix3 z r d)
      = outRow (tileRow x0 r) (convTile x3 x4 (seq x0 x1 x2 fun _ => 0) r) (mat x5) (lane x6) d :=
  (congrFun (View.read_writes_junk_eq_canon VO0_7 _) (ix3 z r d)).trans
    (block_at harg2 harg7 harg8 x0 x5 x6 arg12.view _ x3 x4 _ (First.acted c arg2 harg2 arg3 harg3 arg4 harg4 arg5 harg5 arg6 harg6 arg10 arg11 x0 x1 x2 x3 x4) _ _ _ _ _ z r d)

/-- The carried rows this case leaves: the last eight rows the convolution ran over. -/
theorem First.carry_at (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S2x520x512 .f32) (harg10 : arg10.IsWhole) (arg11 : Memref sig .tc .vmem S8x5632 .f32) (harg11 : arg11.IsWhole) (arg12 : Memref sig .tc .vmem S512x2816 .bf16) (harg12 : arg12.IsWhole) (hc0 : cond0_0 i) (x0 : FVec Ideal S1x512x1024 .f32) (x1 : FVec Ideal S1x1024 .f32) (x2 : FVec Ideal S1024x5632 .bf16) (x3 : FVec Ideal S3x5632 .f32) (x4 : FVec Ideal S1x5632 .f32) (x5 : FVec Ideal S2816x1024 .bf16) (x6 : FVec Ideal S1x1024 .f32) (r : Fin 8) (j : Fin 5632) :
    sout0_A_1 (F := Ideal) c i arg2 harg2 arg3 harg3 arg4 harg4 arg5 harg5 arg6 harg6 arg7 harg7 arg8 harg8 arg9 harg9 arg10 harg10 arg11 harg11 arg12 harg12 hc0 x0 x1 x2 x3 x4 x5 x6 (ix2 r j) = (seq x0 x1 x2 fun _ => 0) (512 + r.val) j :=
  (congrFun (View.read_writes_junk_eq_canon VS0_1 _) (ix2 r j)).trans
    (carried_up arg10.view _ 0 256 2816 2560 _ (First.holds_21 c arg2 harg2 arg3 harg3 arg4 harg4 arg10 arg11 x0 x1 x2) _ _ (by decide) _ (First.carried_22 c arg2 harg2 arg3 harg3 arg4 harg4 arg10 arg11 x0 x1 x2) r j (by omega))

/-- The output block in this case, at a row and a lane. -/
theorem Later.out_at (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S2x520x512 .f32) (harg10 : arg10.IsWhole) (arg11 : Memref sig .tc .vmem S8x5632 .f32) (harg11 : arg11.IsWhole) (arg12 : Memref sig .tc .vmem S512x2816 .bf16) (harg12 : arg12.IsWhole) (hc0 : ¬cond0_0 i) (x0 : FVec Ideal S1x512x1024 .f32) (x1 : FVec Ideal S1x1024 .f32) (x2 : FVec Ideal S1024x5632 .bf16) (x3 : FVec Ideal S3x5632 .f32) (x4 : FVec Ideal S1x5632 .f32) (x5 : FVec Ideal S2816x1024 .bf16) (x6 : FVec Ideal S1x1024 .f32) (xs1 : FVec Ideal S8x5632 .f32) (z : Fin 1) (r : Fin 512) (d : Fin 1024) :
    out0_B_7 (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs1 (ix3 z r d)
      = outRow (tileRow x0 r) (convTile x3 x4 (seq x0 x1 x2 xs1) r) (mat x5) (lane x6) d :=
  (congrFun (View.read_writes_junk_eq_canon VO0_7 _) (ix3 z r d)).trans
    (block_at harg2 harg7 harg8 x0 x5 x6 arg12.view _ x3 x4 _ (Later.acted c arg2 harg2 arg3 harg3 arg4 harg4 arg5 harg5 arg6 harg6 arg10 arg11 harg11 x0 x1 x2 x3 x4 xs1) _ _ _ _ _ z r d)

/-- The carried rows this case leaves: the last eight rows the convolution ran over. -/
theorem Later.carry_at (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S2x520x512 .f32) (harg10 : arg10.IsWhole) (arg11 : Memref sig .tc .vmem S8x5632 .f32) (harg11 : arg11.IsWhole) (arg12 : Memref sig .tc .vmem S512x2816 .bf16) (harg12 : arg12.IsWhole) (hc0 : ¬cond0_0 i) (x0 : FVec Ideal S1x512x1024 .f32) (x1 : FVec Ideal S1x1024 .f32) (x2 : FVec Ideal S1024x5632 .bf16) (x3 : FVec Ideal S3x5632 .f32) (x4 : FVec Ideal S1x5632 .f32) (x5 : FVec Ideal S2816x1024 .bf16) (x6 : FVec Ideal S1x1024 .f32) (xs1 : FVec Ideal S8x5632 .f32) (r : Fin 8) (j : Fin 5632) :
    sout0_B_1 (F := Ideal) c i arg2 harg2 arg3 harg3 arg4 harg4 arg5 harg5 arg6 harg6 arg7 harg7 arg8 harg8 arg9 harg9 arg10 harg10 arg11 harg11 arg12 harg12 hc0 x0 x1 x2 x3 x4 x5 x6 xs1 (ix2 r j) = (seq x0 x1 x2 xs1) (512 + r.val) j :=
  (congrFun (View.read_writes_junk_eq_canon VS0_1 _) (ix2 r j)).trans
    (carried_up arg10.view _ 0 256 2816 2560 _ (Later.holds_21 c arg2 harg2 arg3 harg3 arg4 harg4 arg10 arg11 harg11 x0 x1 x2 xs1) _ _ (by decide) _
      (carried_gate arg10.view _ 0 0 2560 2560 _ (Later.holds_20 c arg2 harg2 arg3 harg3 arg4 harg4 arg10 arg11 harg11 x0 x1 x2 xs1) _ _ (by decide) _
      (carried_up arg10.view _ 1 256 2560 2304 _ (Later.holds_19 c arg2 harg2 arg3 harg3 arg4 harg4 arg10 arg11 harg11 x0 x1 x2 xs1) _ _ (by decide) _
      (carried_gate arg10.view _ 1 0 2304 2304 _ (Later.holds_18 c arg2 harg2 arg3 harg3 arg4 harg4 arg10 arg11 harg11 x0 x1 x2 xs1) _ _ (by decide) _
      (carried_up arg10.view _ 0 256 2304 2048 _ (Later.holds_17 c arg2 harg2 arg3 harg3 arg4 harg4 arg10 arg11 harg11 x0 x1 x2 xs1) _ _ (by decide) _
      (carried_gate arg10.view _ 0 0 2048 2048 _ (Later.holds_16 c arg2 harg2 arg3 harg3 arg4 harg4 arg10 arg11 harg11 x0 x1 x2 xs1) _ _ (by decide) _
      (carried_up arg10.view _ 1 256 2048 1792 _ (Later.holds_15 c arg2 harg2 arg3 harg3 arg4 harg4 arg10 arg11 harg11 x0 x1 x2 xs1) _ _ (by decide) _
      (carried_gate arg10.view _ 1 0 1792 1792 _ (Later.holds_14 c arg2 harg2 arg3 harg3 arg4 harg4 arg10 arg11 harg11 x0 x1 x2 xs1) _ _ (by decide) _
      (carried_up arg10.view _ 0 256 1792 1536 _ (Later.holds_13 c arg2 harg2 arg3 harg3 arg4 harg4 arg10 arg11 harg11 x0 x1 x2 xs1) _ _ (by decide) _
      (carried_gate arg10.view _ 0 0 1536 1536 _ (Later.holds_12 c arg2 harg2 arg3 harg3 arg4 harg4 arg10 arg11 harg11 x0 x1 x2 xs1) _ _ (by decide) _
      (carried_up arg10.view _ 1 256 1536 1280 _ (Later.holds_11 c arg2 harg2 arg3 harg3 arg4 harg4 arg10 arg11 harg11 x0 x1 x2 xs1) _ _ (by decide) _
      (carried_gate arg10.view _ 1 0 1280 1280 _ (Later.holds_10 c arg2 harg2 arg3 harg3 arg4 harg4 arg10 arg11 harg11 x0 x1 x2 xs1) _ _ (by decide) _
      (carried_up arg10.view _ 0 256 1280 1024 _ (Later.holds_9 c arg2 harg2 arg3 harg3 arg4 harg4 arg10 arg11 harg11 x0 x1 x2 xs1) _ _ (by decide) _
      (carried_gate arg10.view _ 0 0 1024 1024 _ (Later.holds_8 c arg2 harg2 arg3 harg3 arg4 harg4 arg10 arg11 harg11 x0 x1 x2 xs1) _ _ (by decide) _
      (carried_up arg10.view _ 1 256 1024 768 _ (Later.holds_7 c arg2 harg2 arg3 harg3 arg4 harg4 arg10 arg11 harg11 x0 x1 x2 xs1) _ _ (by decide) _
      (carried_gate arg10.view _ 1 0 768 768 _ (Later.holds_6 c arg2 harg2 arg3 harg3 arg4 harg4 arg10 arg11 harg11 x0 x1 x2 xs1) _ _ (by decide) _
      (carried_up arg10.view _ 0 256 768 512 _ (Later.holds_5 c arg2 harg2 arg3 harg3 arg4 harg4 arg10 arg11 harg11 x0 x1 x2 xs1) _ _ (by decide) _
      (carried_gate arg10.view _ 0 0 512 512 _ (Later.holds_4 c arg2 harg2 arg3 harg3 arg4 harg4 arg10 arg11 harg11 x0 x1 x2 xs1) _ _ (by decide) _
      (carried_up arg10.view _ 1 256 512 256 _ (Later.holds_3 c arg2 harg2 arg3 harg3 arg4 harg4 arg10 arg11 harg11 x0 x1 x2 xs1) _ _ (by decide) _
      (carried_gate arg10.view _ 1 0 256 256 _ (Later.holds_2 c arg2 harg2 arg3 harg3 arg4 harg4 arg10 arg11 harg11 x0 x1 x2 xs1) _ _ (by decide) _
      (carried_up arg10.view _ 0 256 256 0 _ (Later.holds_1 c arg2 harg2 arg3 harg3 arg4 harg4 arg10 arg11 harg11 x0 x1 x2 xs1) _ _ (by decide) _
      (carried_gate arg10.view _ 0 0 0 0 _ (Later.holds_0 c arg2 harg2 arg3 harg3 arg4 harg4 arg10 arg11 harg11 x0 x1 x2 xs1) _ _ (by decide) _
      (carried_nil _ _)))))))))))))))))))))) r j (by omega))

end Cert.Kernel2Ideal.Ffn

end
-- ==== Proof.FfnArray.lean ====
/- From the tiles to the whole array: the blocks staged at a grid point are the arguments' rows, the carried rows are the last rows
   of the tile before, so every tile's result is the block's result at its own rows of the sequence. -/
module

public import proofs.«01_k».proof.Proof.FfnOut
public import proofs.«01_k».proof.Proof.Gen.Kernel2Ideal.Value
public import Idealize.ShloMosaic.Lib.Claim

@[expose] public section

set_option maxRecDepth 16384

noncomputable section

open Idealize.ShloMosaic Idealize.ShloMosaic.TcCoe Idealize.SL.Sem

namespace Cert.Kernel2Ideal.Ffn

open Cert.Kernel2Ideal Cert.Kernel2Ideal.Gen Cert.FfnRow

variable (m : (ℓ : Loc nD τ sig) → Buf (Elt Ideal) ℓ) (c : Dev nD)

/-- The arguments, by coordinates. -/
abbrev X (b : Fin 32) : Fin 2048 → Fin 1024 → EReal := fun s k => (m ((c : Thread nD τ).loc main_arg0) : FVec Ideal S32x2048x1024 .f32) (ix3 b s k)
abbrev W1 : Fin 1024 → EReal := fun k => (m ((c : Thread nD τ).loc main_arg1) : FVec Ideal S1x1024 .f32) (ix2 0 k)
abbrev W2 : Fin 1024 → Fin 5632 → EReal := fun k j => (m ((c : Thread nD τ).loc main_arg2) : FVec Ideal S1x1024x5632 .f32) (ix3 0 k j)
abbrev T3 : Fin 3 → Fin 5632 → EReal := fun i j => (m ((c : Thread nD τ).loc main_arg3) : FVec Ideal S1x3x5632 .f32) (ix3 0 i j)
abbrev B4 : Fin 5632 → EReal := fun j => (m ((c : Thread nD τ).loc main_arg4) : FVec Ideal S1x5632 .f32) (ix2 0 j)
abbrev W5 : Fin 2816 → Fin 1024 → EReal := fun k e => (m ((c : Thread nD τ).loc main_arg5) : FVec Ideal S1x2816x1024 .f32) (ix3 0 k e)
abbrev W6 : Fin 1024 → EReal := fun k => (m ((c : Thread nD τ).loc main_arg6) : FVec Ideal S1x1024 .f32) (ix2 0 k)

/-- The blocks' places at every grid point. -/
theorem idx : ∀ t : Fin cfg0.N, win0_0.index t = ![t.val / 4, t.val % 4, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val / 4, t.val % 4, 0] :=
  (by decide +kernel : ∀ t : Fin grid0.N, _)

theorem ptlt (t : Fin cfg0.N) : t.val < 128 := lt_of_lt_of_eq t.isLt N_0

theorem blk0 (t : Fin cfg0.N) (z : Fin 1) (r : Fin 512) (l : Fin 1024) :
    (iblk (F := Ideal) m c 0 t : FVec Ideal S1x512x1024 .f32) (ix3 z r l)
      = X m c ⟨t.val / 4, by have := ptlt t; omega⟩ ⟨t.val % 4 * 512 + r.val, by have := ptlt t; omega⟩ l := by
  have := ptlt t
  blk_point [iblk, V, idx t]

theorem blk1 (t : Fin cfg0.N) (z : Fin 1) (l : Fin 1024) :
    (iblk (F := Ideal) m c 1 t : FVec Ideal S1x1024 .f32) (ix2 z l) = W1 m c l := by
  blk_simp [iblk]
  entry_read
  pointwise!
  blk_ext [idx t]

theorem blk2 (t : Fin cfg0.N) (k : Fin 1024) (j : Fin 5632) :
    (iblk (F := Ideal) m c 2 t : FVec Ideal S1024x5632 .bf16) (ix2 k j) = W2 m c k j := by
  blk_point [iblk, V, idx t]

theorem blk3 (t : Fin cfg0.N) (k : Fin 3) (j : Fin 5632) :
    (iblk (F := Ideal) m c 3 t : FVec Ideal S3x5632 .f32) (ix2 k j) = T3 m c k j := by
  blk_point [iblk, V, idx t]

theorem blk4 (t : Fin cfg0.N) (z : Fin 1) (j : Fin 5632) :
    (iblk (F := Ideal) m c 4 t : FVec Ideal S1x5632 .f32) (ix2 z j) = B4 m c j := by
  blk_point [iblk, V, idx t]

theorem blk5 (t : Fin cfg0.N) (k : Fin 2816) (e : Fin 1024) :
    (iblk (F := Ideal) m c 5 t : FVec Ideal S2816x1024 .bf16) (ix2 k e) = W5 m c k e := by
  blk_point [iblk, V, idx t]

theorem blk6 (t : Fin cfg0.N) (z : Fin 1) (l : Fin 1024) :
    (iblk (F := Ideal) m c 6 t : FVec Ideal S1x1024 .f32) (ix2 z l) = W6 m c l := by
  blk_point [iblk, V, idx t]

/-- The batch element and the tile of a grid point. -/
abbrev bat (t : Fin cfg0.N) : Fin 32 := ⟨t.val / 4, by have := ptlt t; omega⟩

/-- A row of the tile staged at a grid point is the sequence's row there. -/
theorem tile_eq (t : Fin cfg0.N) (r : Fin 512) :
    tileRow (iblk (F := Ideal) m c 0 t) r = X m c (bat t) ⟨t.val % 4 * 512 + r.val, by have := ptlt t; omega⟩ :=
  funext fun l => blk0 m c t 0 r l

/-- The tile's own rows of the convolution are the up-projection at their places. -/
theorem seq_own (t : Fin cfg0.N) (C : FVec Ideal S8x5632 .f32) (q : ℕ) (h8 : 8 ≤ q) (hq : q < 520) (j : Fin 5632) :
    seq (iblk (F := Ideal) m c 0 t) (iblk (F := Ideal) m c 1 t) (iblk (F := Ideal) m c 2 t) C q j
      = past (X m c (bat t)) (W1 m c) (W2 m c) (t.val % 4 * 512 + (q - 6)) j := by
  have := ptlt t
  unfold seq past
  rw [dif_neg (by omega), dif_pos (by omega), dif_pos (by omega)]
  rw [tile_eq, show lane (iblk (F := Ideal) m c 1 t) = W1 m c from funext fun l => blk1 m c t 0 l,
    show mat (φ := .bf16) (iblk (F := Ideal) m c 2 t) = W2 m c from funext fun k => funext fun j => blk2 m c t k j]
  congr 2
  apply Fin.ext
  simp only
  omega

/-- All the rows the convolution of a tile reads, once the two carried ones it reads are known. -/
theorem seq_all (t : Fin cfg0.N) (C : FVec Ideal S8x5632 .f32)
    (hC : ∀ (q : Fin 8) (j : Fin 5632), 6 ≤ q.val → C (ix2 q j) = past (X m c (bat t)) (W1 m c) (W2 m c) (t.val % 4 * 512 + (q.val - 6)) j)
    (q : ℕ) (h6 : 6 ≤ q) (hq : q < 520) (j : Fin 5632) :
    seq (iblk (F := Ideal) m c 0 t) (iblk (F := Ideal) m c 1 t) (iblk (F := Ideal) m c 2 t) C q j
      = past (X m c (bat t)) (W1 m c) (W2 m c) (t.val % 4 * 512 + (q - 6)) j := by
  by_cases h : q < 8
  · refine Eq.trans ?_ (hC ⟨q, h⟩ j h6)
    unfold seq
    rw [dif_pos h]
  · exact seq_own m c t C q (by omega) hq j

/-- The rows carried out of a grid point: the last eight of its tile. -/
theorem carry_eq (t : Fin cfg0.N) (r : Fin 8) (j : Fin 5632) :
    (outsAt0 (F := Ideal) m c t.val t.isLt).2 (ix2 r j)
      = past (X m c (bat t)) (W1 m c) (W2 m c) (t.val % 4 * 512 + (512 + r.val - 6)) j := by
  by_cases h : t.val % 4 = 0
  · have e : (outsAt0 (F := Ideal) m c t.val t.isLt).2 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t) (iblk m c 4 t) (iblk m c 5 t) (iblk m c 6 t) := by
      rw [outsAt0_A m c t h]
    rw [e]
    exact (First.carry_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t) (iblk m c 4 t) (iblk m c 5 t) (iblk m c 6 t) r j).trans (seq_own m c t _ (512 + r.val) (by omega) (by omega) j)
  · have e : (outsAt0 (F := Ideal) m c t.val t.isLt).2 = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun q => h ((hcond0_0 t).mp q)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 := by
      rw [outsAt0_B m c t h]
    rw [e]
    exact (Later.carry_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun q => h ((hcond0_0 t).mp q)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 r j).trans (seq_own m c t _ (512 + r.val) (by omega) (by omega) j)

/-- A tile's result is the block's, once the rows its convolution reads are the up-projection at their places. -/
theorem tile_result (t : Fin cfg0.N) (S : ℕ → Fin 5632 → EReal)
    (hS : ∀ (q : ℕ) (_ : 6 ≤ q) (_ : q < 520) (j : Fin 5632), S q j = past (X m c (bat t)) (W1 m c) (W2 m c) (t.val % 4 * 512 + (q - 6)) j)
    (r : Fin 512) (d : Fin 1024) :
    outRow (tileRow (iblk (F := Ideal) m c 0 t) r) (convTile (iblk (F := Ideal) m c 3 t) (iblk (F := Ideal) m c 4 t) S r)
        (mat (φ := .bf16) (iblk (F := Ideal) m c 5 t)) (lane (iblk (F := Ideal) m c 6 t)) d
      = result (X m c (bat t)) (W1 m c) (W2 m c) (T3 m c) (B4 m c) (W5 m c) (W6 m c) ⟨t.val % 4 * 512 + r.val, by have := ptlt t; omega⟩ d := by
  have := ptlt t
  unfold result
  rw [tile_eq, show lane (iblk (F := Ideal) m c 6 t) = W6 m c from funext fun l => blk6 m c t 0 l,
    show mat (φ := .bf16) (iblk (F := Ideal) m c 5 t) = W5 m c from funext fun k => funext fun e => blk5 m c t k e]
  refine congrArg (fun cv => outRow _ cv _ _ d) (funext fun j => ?_)
  unfold convTile convAt
  rw [hS (6 + r.val) (by omega) (by omega), hS (7 + r.val) (by omega) (by omega), hS (8 + r.val) (by omega) (by omega),
    blk4 m c t 0 j, blk3 m c t 0 j, blk3 m c t 1 j, blk3 m c t 2 j,
    show t.val % 4 * 512 + (6 + r.val - 6) = t.val % 4 * 512 + r.val by omega,
    show t.val % 4 * 512 + (7 + r.val - 6) = t.val % 4 * 512 + r.val + 1 by omega,
    show t.val % 4 * 512 + (8 + r.val - 6) = t.val % 4 * 512 + r.val + 2 by omega]

/-- What a grid point leaves in its output block. -/
theorem point_eq (t : Fin cfg0.N) (z : Fin 1) (r : Fin 512) (d : Fin 1024) :
    (outsAt0 (F := Ideal) m c t.val t.isLt).1 (ix3 z r d)
      = result (X m c (bat t)) (W1 m c) (W2 m c) (T3 m c) (B4 m c) (W5 m c) (W6 m c) ⟨t.val % 4 * 512 + r.val, by have := ptlt t; omega⟩ d := by
  have := ptlt t
  by_cases h : t.val % 4 = 0
  · have e : (outsAt0 (F := Ideal) m c t.val t.isLt).1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t) (iblk m c 4 t) (iblk m c 5 t) (iblk m c 6 t) := by
      rw [outsAt0_A m c t h]
    rw [e]
    refine (First.out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t) (iblk m c 4 t) (iblk m c 5 t) (iblk m c 6 t) z r d).trans (tile_result m c t _ (seq_all m c t _ fun q j h6 => ?_) r d)
    unfold past
    rw [dif_neg (by omega)]
  · have e : (outsAt0 (F := Ideal) m c t.val t.isLt).1 = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun q => h ((hcond0_0 t).mp q)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 := by
      rw [outsAt0_B m c t h]
    rw [e]
    refine (Later.out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun q => h ((hcond0_0 t).mp q)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2 z r d).trans (tile_result m c t _ (seq_all m c t _ fun q j h6 => ?_) r d)
    refine (carry_eq m c ⟨t.val - 1, Nat.lt_of_le_of_lt (Nat.sub_le _ _) t.isLt⟩ q j).trans ?_
    rw [show bat ⟨t.val - 1, Nat.lt_of_le_of_lt (Nat.sub_le _ _) t.isLt⟩ = bat t from Fin.ext (by simp only; omega),
      show (t.val - 1) % 4 * 512 + (512 + q.val - 6) = t.val % 4 * 512 + (q.val - 6) by omega]

/-- The whole result of the kernel, as one function of the arguments. -/
def whole : FVec Ideal S32x2048x1024 .f32 := fun i =>
  result (X m c (i 0)) (W1 m c) (W2 m c) (T3 m c) (B4 m c) (W5 m c) (W6 m c) (i 1) (i 2)

theorem array_eq : ((dats (F := Ideal) m 0 c).arrAt 7 cfg0.N : FVec Ideal S32x2048x1024 .f32) = whole m c := by
  refine (dats m 0 c).arrAt_eq_of_covers 7 (whole m c) (by decide +kernel) fun t hf y => ?_
  blk_simp
  rw [after0_7]
  obtain ⟨z, r, d, rfl⟩ : ∃ (z : Fin 1) (r : Fin 512) (d : Fin 1024), y = ix3 z r d := ⟨y 0, y 1, y 2, eq_ix3 y⟩
  refine (point_eq m c t z r d).trans ?_
  have e : (win0_7.blk t).view.emb (ix3 z r d : (⟨3, ![1, 512, 1024]⟩ : Shape).Idx)
      = ix3 (bat t) ⟨t.val % 4 * 512 + r.val, by have := ptlt t; omega⟩ d := by
    blk_ext [idx t]
  rw [e]
  rfl

end Cert.Kernel2Ideal.Ffn

end
-- ==== Proof.FfnRef.lean ====
/- The reference's value of the feed-forward block, entry by entry: its term cut into the up-projection, the convolution, the
   down-projection of the gated columns and the closing normalisation, each read at an index. -/
module

public import proofs.«01_k».proof.Proof.Gen.Reference2Ideal.Run
public import proofs.«01_k».proof.Proof.FfnRow
public import Idealize.ShloMosaic.Lib.Pipeline.ValueKit

@[expose] public section

set_option maxRecDepth 16384

noncomputable section

open Idealize.ShloMosaic Idealize.ShloMosaic.TcCoe Idealize.SL.Sem

namespace Cert.Reference2Ideal.Ffn

open Cert.Reference2Ideal Cert.Reference2Ideal.Gen Cert.Reference2Ideal.Value Cert.FfnRow

/-- The up-projection of the normalised input. -/
def refUp (a0 : FVec Ideal S32x2048x1024 .f32) (a1 : FVec Ideal S1x1024 .f32) (a2 : FVec Ideal S1x1024x5632 .f32) : FVec Ideal S32x2048x5632 .f32 :=
  Host.dotGeneral dot_S32x2048x1024_S1024x5632_S32x2048x5632_2_0_01_1_n_n none (mulf (mulf a0 (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf a0 a0) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ a1 shapeCasts_S1x1024_S1024)))) (shapeCast _ a2 shapeCasts_S1x1024x5632_S1024x5632)

/-- The causal convolution of `u`. -/
def refConv (a3 : FVec Ideal S1x3x5632 .f32) (a4 : FVec Ideal S1x5632 .f32) (u : FVec Ideal S32x2048x5632 .f32) : FVec Ideal S32x2048x5632 .f32 :=
  addf (addf (addf (addf (broadcastInDim S32x2048x5632 ![] bcast_S_S32x2048x5632 (constant S_ .f32 0x00000000#32)) (mulf (broadcastInDim S32x2048x5632 ![0, 1, 2] bcast_S1x1x5632_S32x2048x5632_0_1_2 (broadcastInDim S1x1x5632 ![2] bcast_S5632_S1x1x5632_2 (shapeCast _ (extractStridedSlice S1x5632 ![0, 0] (shapeCast _ a3 shapeCasts_S1x3x5632_S3x5632) slices_S3x5632_S1x5632_0_0) shapeCasts_S1x5632_S5632))) (extractStridedSlice S32x2048x5632 ![0, 0, 0] (pad S32x2050x5632 ![0, 2, 0] ![0, 0, 0] ![0, 0, 0] u (sitofp .f32 (constantI S_ 32 0#32)) pads_S32x2048x5632_S32x2050x5632_000_200_000 h_S_) slices_S32x2050x5632_S32x2048x5632_0_0_0))) (mulf (broadcastInDim S32x2048x5632 ![0, 1, 2] bcast_S1x1x5632_S32x2048x5632_0_1_2 (broadcastInDim S1x1x5632 ![2] bcast_S5632_S1x1x5632_2 (shapeCast _ (extractStridedSlice S1x5632 ![1, 0] (shapeCast _ a3 shapeCasts_S1x3x5632_S3x5632) slices_S3x5632_S1x5632_1_0) shapeCasts_S1x5632_S5632))) (extractStridedSlice S32x2048x5632 ![0, 1, 0] (pad S32x2050x5632 ![0, 2, 0] ![0, 0, 0] ![0, 0, 0] u (sitofp .f32 (constantI S_ 32 0#32)) pads_S32x2048x5632_S32x2050x5632_000_200_000 h_S_) slices_S32x2050x5632_S32x2048x5632_0_1_0))) (mulf (broadcastInDim S32x2048x5632 ![0, 1, 2] bcast_S1x1x5632_S32x2048x5632_0_1_2 (broadcastInDim S1x1x5632 ![2] bcast_S5632_S1x1x5632_2 (shapeCast _ (extractStridedSlice S1x5632 ![2, 0] (shapeCast _ a3 shapeCasts_S1x3x5632_S3x5632) slices_S3x5632_S1x5632_2_0) shapeCasts_S1x5632_S5632))) (extractStridedSlice S32x2048x5632 ![0, 2, 0] (pad S32x2050x5632 ![0, 2, 0] ![0, 0, 0] ![0, 0, 0] u (sitofp .f32 (constantI S_ 32 0#32)) pads_S32x2048x5632_S32x2050x5632_000_200_000 h_S_) slices_S32x2050x5632_S32x2048x5632_0_2_0))) (broadcastInDim S32x2048x5632 ![0, 1, 2] bcast_S1x1x5632_S32x2048x5632_0_1_2 (broadcastInDim S1x1x5632 ![2] bcast_S5632_S1x1x5632_2 (shapeCast _ a4 shapeCasts_S1x5632_S5632)))

/-- The down-projection of the gated columns of `v`. -/
def refDown (a5 : FVec Ideal S1x2816x1024 .f32) (v : FVec Ideal S32x2048x5632 .f32) : FVec Ideal S32x2048x1024 .f32 :=
  Host.dotGeneral dot_S32x2048x2816_S2816x1024_S32x2048x1024_2_0_01_1_n_n none (mulf (mulf (extractStridedSlice S32x2048x2816 ![0, 0, 0] v slices_S32x2048x5632_S32x2048x2816_0_0_0) (Host.divf (broadcastInDim S32x2048x2816 ![] bcast_S_S32x2048x2816 (constant S_ .f32 0x3F800000#32)) (addf (broadcastInDim S32x2048x2816 ![] bcast_S_S32x2048x2816 (constant S_ .f32 0x3F800000#32)) (Host.exp (Host.negf (extractStridedSlice S32x2048x2816 ![0, 0, 0] v slices_S32x2048x5632_S32x2048x2816_0_0_0)))))) (extractStridedSlice S32x2048x2816 ![0, 0, 2816] v slices_S32x2048x5632_S32x2048x2816_0_0_2816)) (shapeCast _ a5 shapeCasts_S1x2816x1024_S2816x1024)

/-- The normalisation of `y` and the residual. -/
def refOut (a0 : FVec Ideal S32x2048x1024 .f32) (a6 : FVec Ideal S1x1024 .f32) (y : FVec Ideal S32x2048x1024 .f32) : FVec Ideal S32x2048x1024 .f32 :=
  addf a0 (mulf (mulf y (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf y y) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ a6 shapeCasts_S1x1024_S1024))))

/-- The reference's term is these four. -/
theorem res_eq (m : (ℓ : Loc nD τ sig) → Buf (Elt Ideal) ℓ) (c : Dev nD) :
    res_main_v64 (F := Ideal) m c
      = refOut (m ((c.tc : Thread nD τ).loc main_arg0)) (m ((c.tc : Thread nD τ).loc main_arg6))
          (refDown (m ((c.tc : Thread nD τ).loc main_arg5))
            (refConv (m ((c.tc : Thread nD τ).loc main_arg3)) (m ((c.tc : Thread nD τ).loc main_arg4))
              (refUp (m ((c.tc : Thread nD τ).loc main_arg0)) (m ((c.tc : Thread nD τ).loc main_arg1)) (m ((c.tc : Thread nD τ).loc main_arg2))))) := rfl

variable (a0 : FVec Ideal S32x2048x1024 .f32) (a1 : FVec Ideal S1x1024 .f32) (a2 : FVec Ideal S1x1024x5632 .f32)
  (a3 : FVec Ideal S1x3x5632 .f32) (a4 : FVec Ideal S1x5632 .f32) (a5 : FVec Ideal S1x2816x1024 .f32) (a6 : FVec Ideal S1x1024 .f32)

theorem refUp_at (b : Fin 32) (s : Fin 2048) (j : Fin 5632) :
    refUp a0 a1 a2 (ix3 b s j) = upRow (fun k => a1 (ix2 0 k)) (fun k => a0 (ix3 b s k)) (fun k j => a2 (ix3 0 k j)) j := by
  pointwise [refUp, upRow, normRow]

/-- The padding's fill is zero. -/
theorem fill_zero : (FloatOps.sitofp FTy.f32 (0#32 : BitVec 32) : Ideal .f32) = 0 := by
  show ((((0#32 : BitVec 32).toInt : ℝ)) : EReal) = 0
  simp

theorem refConv_at (u : FVec Ideal S32x2048x5632 .f32) (b : Fin 32) (s : Fin 2048) (j : Fin 5632) :
    refConv a3 a4 u (ix3 b s j) = conv3 (a4 (ix2 0 j)) (a3 (ix3 0 0 j)) (a3 (ix3 0 1 j)) (a3 (ix3 0 2 j))
      (if h : 2 ≤ s.val ∧ s.val - 2 < 2048 then u (ix3 b ⟨s.val - 2, h.2⟩ j) else 0)
      (if h : 2 ≤ 1 + s.val ∧ 1 + s.val - 2 < 2048 then u (ix3 b ⟨1 + s.val - 2, h.2⟩ j) else 0) (u (ix3 b s j)) := by
  have e : ∀ b w0 w1 w2 p0 p1 p2 : EReal, w0 * p0 + w1 * p1 + w2 * p2 + b = conv3 b w0 w1 w2 p0 p1 p2 := by
    intros; unfold conv3; ac_rfl
  rw [← e]
  pointwise! [refConv]
  rw [fill_zero]

theorem refDown_at (v : FVec Ideal S32x2048x5632 .f32) (b : Fin 32) (s : Fin 2048) (d : Fin 1024) :
    refDown a5 v (ix3 b s d) = ∑ k : Fin 2816, gateRow (fun j => v (ix3 b s j)) k * a5 (ix3 0 k d) := by
  pointwise! [refDown, gateRow]
  simp only [zero_sub]

theorem refOut_at (y : FVec Ideal S32x2048x1024 .f32) (b : Fin 32) (s : Fin 2048) (d : Fin 1024) :
    refOut a0 a6 y (ix3 b s d) = a0 (ix3 b s d) + normRow (fun k => a6 (ix2 0 k)) (fun k => y (ix3 b s k)) d := by
  pointwise [refOut, normRow]

/-- The reference's result at an entry: the block's result on the sequence of that batch row. -/
theorem res_at (m : (ℓ : Loc nD τ sig) → Buf (Elt Ideal) ℓ) (c : Dev nD) (b : Fin 32) (s : Fin 2048) (d : Fin 1024)
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5)
    (h6 : m ((c.tc : Thread nD τ).loc main_arg6) = a6) :
    res_main_v64 (F := Ideal) m c (ix3 b s d)
      = result (fun s k => a0 (ix3 b s k)) (fun k => a1 (ix2 0 k)) (fun k j => a2 (ix3 0 k j)) (fun i j => a3 (ix3 0 i j))
          (fun j => a4 (ix2 0 j)) (fun k e => a5 (ix3 0 k e)) (fun k => a6 (ix2 0 k)) s d := by
  rw [res_eq, h0, h1, h2, h3, h4, h5, h6]
  refine (refOut_at a0 a6 _ b s d).trans ?_
  have hc : ∀ j : Fin 5632, refConv a3 a4 (refUp a0 a1 a2) (ix3 b s j)
      = convAt (fun s k => a0 (ix3 b s k)) (fun k => a1 (ix2 0 k)) (fun k j => a2 (ix3 0 k j)) (fun i j => a3 (ix3 0 i j)) (fun j => a4 (ix2 0 j)) s.val j := by
    intro j
    rw [refConv_at, convAt]
    have p0 : ∀ t : ℕ, (if h : 2 ≤ t ∧ t - 2 < 2048 then refUp a0 a1 a2 (ix3 b ⟨t - 2, h.2⟩ j) else 0)
        = past (fun s k => a0 (ix3 b s k)) (fun k => a1 (ix2 0 k)) (fun k j => a2 (ix3 0 k j)) t j := by
      intro t
      rw [past]
      exact dite_congr rfl (fun h => refUp_at a0 a1 a2 b _ j) fun _ => rfl
    rw [p0, p0, ← Nat.add_comm s.val 1]
    congr 1
    rw [past, dif_pos (by omega), refUp_at]
    rfl
  simp only [refDown_at, hc]
  rfl

end Cert.Reference2Ideal.Ffn

end
-- ==== Proof.FfnAlgebraic.lean ====
/- The feed-forward call against its reference over the extended reals: the kernel's array is the block's result at every entry,
   the reference's result is the same function of the same arguments. -/
module

public import proofs.«01_k».proof.Defs
public import proofs.«01_k».proof.Proof.FfnArray
public import proofs.«01_k».proof.Proof.FfnRef

@[expose] public section

noncomputable section

namespace Cert.Proof

open Idealize.ShloMosaic Idealize.SL.Sem

/-- Run on equal arguments, the two programs give equal results. -/
theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  rw [(h c).1]
  obtain ⟨h0, h1, h2, h3, h4, h5, h6⟩ := hagree c
  refine Eq.trans ?_ (Cert.Kernel2Ideal.Ffn.array_eq m c).symm
  funext i
  rw [eq_ix3 i]
  exact Cert.Reference2Ideal.Ffn.res_at _ _ _ _ _ _ _ m' c (i 0) (i 1) (i 2) h0 h1 h2 h3 h4 h5 h6

end Cert.Proof

end
-- ==== Proof.FrontRow.lean ====
/- The token mixers' front, one row at a time: the projection of the normalised row, the causal convolution of width four
   through the SiLU, the heads of the queries and keys over their norms. Nothing here speaks of a tile, of a buffer or of
   either program. -/
module

public import proofs.«01_k».proof.Proof.FfnRow

@[expose] public section

noncomputable section

open Idealize.ShloMosaic

namespace Cert.FrontRow

open Cert.FfnRow (normRow)

/-- Column `j` of the projection of the normalised row. -/
def projRow {n : ℕ} (w x : Fin 1024 → EReal) (W : Fin 1024 → Fin n → EReal) (j : Fin n) : EReal :=
  ∑ k : Fin 1024, normRow w x k * W k j

/-- Width-four convolution at one place: bias, and taps over the three rows before and the row itself. -/
def conv4 (b w0 w1 w2 w3 a0 a1 a2 a3 : EReal) : EReal := b + w0 * a0 + w1 * a1 + w2 * a2 + w3 * a3

/-- The SiLU. -/
def silu (y : EReal) : EReal := y * Ideal.div 1 (1 + Ideal.exp (0 - y))

/-- The projection three places before place `s` of a sequence `x`: nothing before its start. -/
def past (x : Fin 2048 → Fin 1024 → EReal) (w : Fin 1024 → EReal) (W : Fin 1024 → Fin 4608 → EReal) (s : ℕ) (j : Fin 4608) : EReal :=
  if h : 3 ≤ s ∧ s - 3 < 2048 then projRow w (x ⟨s - 3, h.2⟩) W j else 0

/-- The convolved columns at place `s`, through the SiLU. -/
def actAt (x : Fin 2048 → Fin 1024 → EReal) (w : Fin 1024 → EReal) (W : Fin 1024 → Fin 4608 → EReal) (t : Fin 4 → Fin 4608 → EReal)
    (b : Fin 4608 → EReal) (s : ℕ) (j : Fin 4608) : EReal :=
  silu (conv4 (b j) (t 0 j) (t 1 j) (t 2 j) (t 3 j) (past x w W s j) (past x w W (s + 1) j) (past x w W (s + 2) j) (past x w W (s + 3) j))

/-- A head over its norm, times `c`. -/
def headNorm (c : EReal) (v : Fin 128 → EReal) (l : Fin 128) : EReal :=
  v l * (Ideal.rsqrt ((∑ m : Fin 128, v m * v m) + Ideal.ofBits .f32 0x358637BD#32) * c)

/-- The head that column `j` lies in. -/
def head (f : Fin 4608 → EReal) (j : Fin 4608) (l : Fin 128) : EReal :=
  f ⟨j.val / 128 * 128 + l.val, by have := j.isLt; have := l.isLt; omega⟩

/-- The queries (the first eight heads) and the keys (the next eight) over their norms, the rest as it is. -/
def units (f : Fin 4608 → EReal) (j : Fin 4608) : EReal :=
  if j.val < 1024 then headNorm (Ideal.ofBits .f32 0x3DB504F3#32) (head f j) ⟨j.val % 128, Nat.mod_lt _ (by decide)⟩
  else if j.val < 2048 then headNorm 1 (head f j) ⟨j.val % 128, Nat.mod_lt _ (by decide)⟩
  else f j

/-- The columns of the projection that the convolution runs over: queries, keys, values, then the scan's three. -/
def convCol (j : Fin 4608) : Fin 6688 := if h : j.val < 3072 then ⟨j.val, by omega⟩ else ⟨j.val + 2064, by omega⟩

/-- The columns of the projection that gate the two mixers' outputs. -/
def gateCol (j : Fin 2048) : Fin 6688 := if h : j.val < 1024 then ⟨j.val + 3072, by omega⟩ else ⟨j.val + 3088, by omega⟩

/-- The taps of the two convolutions side by side. -/
def taps (t : Fin 4 → Fin 3072 → EReal) (u : Fin 4 → Fin 1536 → EReal) (i : Fin 4) (j : Fin 4608) : EReal :=
  if h : j.val < 3072 then t i ⟨j.val, h⟩ else u i ⟨j.val - 3072, by omega⟩

/-- Their biases: the first has none. -/
def bias (v : Fin 1536 → EReal) (j : Fin 4608) : EReal := if h : j.val < 3072 then 0 else v ⟨j.val - 3072, by omega⟩

/-- Queries, keys, values and the scan's columns at place `s`. -/
def actResult (x : Fin 2048 → Fin 1024 → EReal) (w : Fin 1024 → EReal) (W : Fin 1024 → Fin 6688 → EReal) (t : Fin 4 → Fin 3072 → EReal)
    (u : Fin 4 → Fin 1536 → EReal) (v : Fin 1536 → EReal) (s : Fin 2048) (j : Fin 4608) : EReal :=
  units (actAt x w (fun k j => W k (convCol j)) (taps t u) (bias v) s.val) j

/-- The output gates at place `s`. -/
def gateResult (x : Fin 2048 → Fin 1024 → EReal) (w : Fin 1024 → EReal) (W : Fin 1024 → Fin 6688 → EReal) (s : Fin 2048) (j : Fin 2048) : EReal :=
  projRow w (x s) W (gateCol j)

end Cert.FrontRow

end
-- ==== Proof.FrontTile.lean ====
/- The body of the token mixers' front on one tile of 256 rows, at a symbolic column block: what the scratch of the
   projection holds and what the convolution reads there, the activated columns, the heads over their norms. -/
module

public import proofs.«01_k».proof.Proof.Gen.Kernel3Ideal.Frame
public import proofs.«01_k».proof.Proof.FfnBlock
public import proofs.«01_k».proof.Proof.FrontRow

@[expose] public section

set_option maxRecDepth 16384

noncomputable section

open Idealize.ShloMosaic Idealize.ShloMosaic.TcCoe Idealize.SL.Sem

namespace Cert.Kernel3Ideal.Front

open Cert.Kernel3Ideal Cert.Kernel3Ideal.Gen Cert.FrontRow
open Cert.FfnRow (normRow)
open Cert.Kernel2Ideal.Ffn (ld2 ld3 ldw inb2 lane mat)

/-- Row `r` of a tile, by lane. -/
abbrev tileRow (x0 : FVec Ideal S1x256x1024 .f32) (r : Fin 256) : Fin 1024 → EReal := fun l => x0 (ix3 0 r l)

/-- The weights' columns from `o` on. -/
abbrev colsFrom (x2 : FVec Ideal S1024x6784 .bf16) (o n : ℕ) (h : o + n ≤ 6784) : Fin 1024 → Fin n → EReal :=
  fun k j => x2 (ix2 k ⟨o + j.val, by omega⟩)

/-- The rows the convolution runs over: eight carried rows `C`, then the tile's own 256 rows of the projection. -/
def seq (x0 : FVec Ideal S1x256x1024 .f32) (x1 : FVec Ideal S1x1024 .f32) (x2 : FVec Ideal S1024x6784 .bf16)
    (C : Fin 8 → Fin 4608 → EReal) (r : ℕ) (j : Fin 4608) : EReal :=
  if h : r < 8 then C ⟨r, h⟩ j
  else if h : r - 8 < 256 then projRow (lane x1) (tileRow x0 ⟨r - 8, h⟩) (colsFrom x2 0 4608 (by decide)) j else 0

/-- The activated columns of a tile whose convolution runs over the rows `S`. -/
def actTile (x3 : FVec Ideal S4x4608 .f32) (x4 : FVec Ideal S1x4608 .f32) (S : ℕ → Fin 4608 → EReal) (r : Fin 256) (j : Fin 4608) : EReal :=
  silu (conv4 (x4 (ix2 0 j)) (x3 (ix2 0 j)) (x3 (ix2 1 j)) (x3 (ix2 2 j)) (x3 (ix2 3 j))
    (S (5 + r.val) j) (S (6 + r.val) j) (S (7 + r.val) j) (S (8 + r.val) j))

/-! ## The payloads at an entry -/

theorem pay2_at (x0 : FVec Ideal S1x256x1024 .f32) (x1 : FVec Ideal S1x1024 .f32) (r : Fin 256) (k : Fin 1024) :
    k0_pay2 (F := Ideal) x0 x1 (ix2 r k) = normRow (lane x1) (tileRow x0 r) k := by
  pointwise [k0_pay2, normRow]

theorem pay9_at (H : FVec Ideal S256x1024 .bf16) (W : FVec Ideal S1024x512 .bf16) (r : Fin 256) (j : Fin 512) :
    k0_pay9 (F := Ideal) H W (ix2 r j) = ∑ k : Fin 1024, H (ix2 r k) * W (ix2 k j) := by
  pointwise [k0_pay9]

theorem pay67_at (H : FVec Ideal S256x1024 .bf16) (W : FVec Ideal S1024x1024 .bf16) (r : Fin 256) (j : Fin 1024) :
    k0_pay67 (F := Ideal) H W (ix2 r j) = ∑ k : Fin 1024, H (ix2 r k) * W (ix2 k j) := by
  pointwise [k0_pay67]

theorem pay18_at (u : FVec Ideal S8x512 .f32) (r : Fin 8) (j : Fin 512) : k0_pay18 (F := Ideal) u (ix2 r j) = u (ix2 r j) := by
  pointwise [k0_pay18]

theorem pay27_at (b w0 w1 w2 w3 : FVec Ideal S1x512 .f32) (u0 u1 u2 u3 : FVec Ideal S256x512 .f32) (r : Fin 256) (j : Fin 512) :
    k0_pay28 (F := Ideal) (k0_pay27 b w0 u0 w1 u1 w2 u2 w3 u3) (ix2 r j)
      = silu (conv4 (b (ix2 0 j)) (w0 (ix2 0 j)) (w1 (ix2 0 j)) (w2 (ix2 0 j)) (w3 (ix2 0 j))
          (u0 (ix2 r j)) (u1 (ix2 r j)) (u2 (ix2 r j)) (u3 (ix2 r j))) := by
  pointwise [k0_pay27, k0_pay28, silu, conv4]

theorem pay46_at (v : FVec Ideal S256x128 .f32) (r : Fin 256) (l : Fin 128) :
    k0_pay46 (F := Ideal) v (ix2 r l) = headNorm (Ideal.ofBits .f32 0x3DB504F3#32) (fun m => v (ix2 r m)) l := by
  pointwise [k0_pay46, headNorm]

theorem pay47_at (v : FVec Ideal S256x128 .f32) (r : Fin 256) (l : Fin 128) :
    k0_pay47 (F := Ideal) v (ix2 r l) = headNorm 1 (fun m => v (ix2 r m)) l := by
  pointwise [k0_pay47, headNorm]

theorem pay69_at (v : FVec Ideal S256x4608 .f32) (z : Fin 1) (r : Fin 256) (j : Fin 4608) :
    k0_pay69 (F := Ideal) v (ix3 z r j) = v (ix2 r j) := by
  pointwise [k0_pay69]

theorem pay70_at (v : FVec Ideal S256x2048 .f32) (z : Fin 1) (r : Fin 256) (j : Fin 2048) :
    k0_pay70 (F := Ideal) v (ix3 z r j) = v (ix2 r j) := by
  pointwise [k0_pay70]

end Cert.Kernel3Ideal.Front

end
-- ==== Proof.FrontBlock.lean ====
/- The stores of the front's body, one at a time: a block of the projection's rows, a block of activated columns with the rows
   carried after it, a head over its norm. A memref's contents are spoken of by what each store leaves elsewhere as it was. -/
module

public import proofs.«01_k».proof.Proof.FrontTile

@[expose] public section

set_option maxRecDepth 16384

noncomputable section

open Idealize.ShloMosaic Idealize.ShloMosaic.TcCoe Idealize.SL.Sem

namespace Cert.Kernel3Ideal.Front

open Cert.Kernel3Ideal Cert.Kernel3Ideal.Gen Cert.FrontRow
open Cert.FfnRow (normRow)
open Cert.Kernel2Ideal.Ffn (ld2 ld3 ldw inb2 lane mat)

variable {sig' : RefSig} {κ : Kind} {sp : Space}

/-- `R` says what stores leave: on the last store's rectangle its payload, elsewhere what the earlier ones leave. -/
structure Leaves {s : Shape} {e : EltTy} (R : List (View.Piece (Elt Ideal) s e) → s.Idx → Elt Ideal e) : Prop where
  on : ∀ (r : Rect s) (w : r.shape.Idx → Elt Ideal e) (L) (x : r.shape.Idx), R (⟨r, w⟩ :: L) (r.emb x) = w x
  off : ∀ (r : Rect s) (w : r.shape.Idx → Elt Ideal e) (L) (y : s.Idx), y ∉ r.set → R (⟨r, w⟩ :: L) y = R L y

theorem leaves_canon {s : Shape} {e : EltTy} : Leaves (View.canon (s := s) (e := e) (Val := Elt Ideal)) :=
  ⟨fun r w L x => View.canon_cons_emb r w L x, fun r w L y h => View.canon_cons_of_not_mem _ _ h⟩

theorem leaves_over {s : Shape} {e : EltTy} (v : View sig' κ sp s e) (f : BufTy.Contents (Elt Ideal) v.ty) :
    Leaves (fun L => View.read (Elt Ideal) v (v.writes (Elt Ideal) f L)) :=
  ⟨fun r w L x => View.read_writes_cons_emb v f r w L x, fun r w L y h => View.read_writes_cons_miss v f _ L y h⟩

/-- On a store into a two-axis memref. -/
theorem on2 {a b : ℕ} {e : EltTy} {R : List (View.Piece (Elt Ideal) ⟨2, ![a, b]⟩ e) → (⟨2, ![a, b]⟩ : Shape).Idx → Elt Ideal e} (hR : Leaves R)
    {o p m n : ℕ} (i : ∀ k, (![o, p] : Fin 2 → ℕ) k + (![m, n] : Fin 2 → ℕ) k ≤ (⟨2, ![a, b]⟩ : Shape).size k)
    (w : (⟨2, ![m, n]⟩ : Shape).Idx → Elt Ideal e) (L) (r : Fin a) (j : Fin b)
    (hr : o ≤ r.val ∧ r.val - o < m) (hj : p ≤ j.val ∧ j.val - p < n) :
    R (⟨Rect.unit (s := ⟨2, ![a, b]⟩) ![o, p] ![m, n] i, w⟩ :: L) (ix2 r j) = w (ix2 ⟨r.val - o, hr.2⟩ ⟨j.val - p, hj.2⟩) := by
  have e : ix2 r j = (Rect.unit (s := ⟨2, ![a, b]⟩) ![o, p] ![m, n] i).emb (ix2 ⟨r.val - o, hr.2⟩ ⟨j.val - p, hj.2⟩ : (⟨2, ![m, n]⟩ : Shape).Idx) := by
    funext k; apply Fin.ext
    match k with
    | ⟨0, _⟩ => rw [Rect.emb_apply]; simp; omega
    | ⟨1, _⟩ => rw [Rect.emb_apply]; simp; omega
  rw [e]
  exact hR.on _ _ _ _

/-- Off it. -/
theorem off2 {a b : ℕ} {e : EltTy} {R : List (View.Piece (Elt Ideal) ⟨2, ![a, b]⟩ e) → (⟨2, ![a, b]⟩ : Shape).Idx → Elt Ideal e} (hR : Leaves R)
    {o p m n : ℕ} (i : ∀ k, (![o, p] : Fin 2 → ℕ) k + (![m, n] : Fin 2 → ℕ) k ≤ (⟨2, ![a, b]⟩ : Shape).size k)
    (w : (⟨2, ![m, n]⟩ : Shape).Idx → Elt Ideal e) (L) (r : Fin a) (j : Fin b)
    (h : r.val < o ∨ o + m ≤ r.val ∨ j.val < p ∨ p + n ≤ j.val) :
    R (⟨Rect.unit (s := ⟨2, ![a, b]⟩) ![o, p] ![m, n] i, w⟩ :: L) (ix2 r j) = R L (ix2 r j) := by
  refine hR.off _ _ _ _ ?_
  intro hm
  obtain ⟨q, hq1, hq⟩ := (LoadRect.mem_set _).1 hm 0
  obtain ⟨q', hq1', hq'⟩ := (LoadRect.mem_set _).1 hm 1
  simp at hq hq1 hq' hq1'
  omega

/-- A load of a two-axis rectangle out of what was stored. -/
theorem cov2 {a b : ℕ} {e : EltTy} (v : View sig' κ sp ⟨2, ![a, b]⟩ e) (L : List (View.Piece (Elt Ideal) ⟨2, ![a, b]⟩ e))
    {o p m n : ℕ} (i : ∀ k, (![o, p] : Fin 2 → ℕ) k + (![m, n] : Fin 2 → ℕ) k ≤ (⟨2, ![a, b]⟩ : Shape).size k) (r : Fin m) (j : Fin n)
    (hr : o + r.val < a) (hj : p + j.val < b) :
    v.readCov L (Rect.unit (s := ⟨2, ![a, b]⟩) ![o, p] ![m, n] i).toLoadRect (ix2 r j : (⟨2, ![m, n]⟩ : Shape).Idx)
      = View.canon L (ix2 ⟨o + r.val, hr⟩ ⟨p + j.val, hj⟩) := by
  rw [View.readCov_eq_canon']
  beta_reduce
  congr 1
  funext k; apply Fin.ext
  match k with
  | ⟨0, _⟩ => rw [LoadRect.idx_apply]; simp
  | ⟨1, _⟩ => rw [LoadRect.idx_apply]; simp

/-- A load of a two-axis rectangle out of stores over earlier contents. -/
theorem over2 {a b : ℕ} {e : EltTy} (v : View sig' κ sp ⟨2, ![a, b]⟩ e) (f : BufTy.Contents (Elt Ideal) v.ty)
    (L : List (View.Piece (Elt Ideal) ⟨2, ![a, b]⟩ e))
    {o p m n : ℕ} (i : ∀ k, (![o, p] : Fin 2 → ℕ) k + (![m, n] : Fin 2 → ℕ) k ≤ (⟨2, ![a, b]⟩ : Shape).size k) (r : Fin m) (j : Fin n)
    (hr : o + r.val < a) (hj : p + j.val < b) :
    View.readAt (Elt Ideal) v (Rect.unit (s := ⟨2, ![a, b]⟩) ![o, p] ![m, n] i).toLoadRect (v.writes (Elt Ideal) f L)
        (ix2 r j : (⟨2, ![m, n]⟩ : Shape).Idx)
      = View.read (Elt Ideal) v (v.writes (Elt Ideal) f L) (ix2 ⟨o + r.val, hr⟩ ⟨p + j.val, hj⟩) := by
  rw [View.readAt_apply]
  congr 1
  funext k; apply Fin.ext
  match k with
  | ⟨0, _⟩ => rw [LoadRect.idx_apply]; simp
  | ⟨1, _⟩ => rw [LoadRect.idx_apply]; simp

abbrev Pieces := List (View.Piece (Elt Ideal) S264x4608 .f32)

/-! ## The scratch of the projection -/

/-- The tile's own rows of the columns before `a` are stored. -/
def Own (f : S264x4608.Idx → EReal) (a : ℕ) (S : ℕ → Fin 4608 → EReal) : Prop :=
  ∀ (r : Fin 264) (j : Fin 4608), 8 ≤ r.val → j.val < a → f (ix2 r j) = S r.val j

/-- The carried rows of the columns from `a` on are as they came. -/
def Came (f : S264x4608.Idx → EReal) (a : ℕ) (S : ℕ → Fin 4608 → EReal) : Prop :=
  ∀ (r : Fin 264) (j : Fin 4608), r.val < 8 → a ≤ j.val → f (ix2 r j) = S r.val j

/-- The carried rows of the columns before `a` are the tile's last rows. -/
def Gone (f : S264x4608.Idx → EReal) (a : ℕ) (S : ℕ → Fin 4608 → EReal) : Prop :=
  ∀ (r : Fin 264) (j : Fin 4608), r.val < 8 → j.val < a → f (ix2 r j) = S (256 + r.val) j

/-- What the loads of the scratch rely on, once `a` columns are done: `R` is how the rows as they came are read. -/
structure Pre (R : Pieces → S264x4608.Idx → EReal) (L : Pieces) (a : ℕ) (S : ℕ → Fin 4608 → EReal) : Prop where
  own : Own (View.canon L) 4608 S
  own' : Own (R L) 4608 S
  came : Came (R L) a S
  gone : Gone (View.canon L) a S

theorem own_block {R : Pieces → S264x4608.Idx → EReal} (hR : Leaves R) (L : Pieces) (a : ℕ) (S : ℕ → Fin 4608 → EReal) (ha : a + 512 ≤ 4608)
    (w : S256x512.Idx → EReal) (i) (hw : ∀ (r : Fin 256) (j : Fin 512), w (ix2 r j) = S (8 + r.val) ⟨a + j.val, by omega⟩) (h : Own (R L) a S) :
    Own (R (⟨Rect.unit (s := S264x4608) ![8, a] S256x512.size i, w⟩ :: L)) (a + 512) S := by
  intro r j hr hj
  by_cases h1 : a ≤ j.val
  · refine (on2 hR i w L r j ⟨hr, by omega⟩ ⟨h1, by omega⟩).trans ((hw _ _).trans ?_)
    congr 1
    · show 8 + (r.val - 8) = _; omega
    · apply Fin.ext; show a + (j.val - a) = _; omega
  · exact (off2 hR i w L r j (by omega)).trans (h r j hr (by omega))

theorem came_block {R : Pieces → S264x4608.Idx → EReal} (hR : Leaves R) (L : Pieces) (a : ℕ) (S : ℕ → Fin 4608 → EReal)
    (w : S256x512.Idx → EReal) (i) (h : Came (R L) 0 S) :
    Came (R (⟨Rect.unit (s := S264x4608) ![8, a] S256x512.size i, w⟩ :: L)) 0 S :=
  fun r j hr hj => (off2 hR i w L r j (by omega)).trans (h r j hr hj)

/-- The last rows of a block carried to its front. -/
theorem pre_carry {R : Pieces → S264x4608.Idx → EReal} (hR : Leaves R) (L : Pieces) (a : ℕ) (S : ℕ → Fin 4608 → EReal) (ha : a + 512 ≤ 4608)
    (v : View sig' κ sp S264x4608 .f32) (i i') (h : Pre R L a S) :
    Pre R (⟨Rect.unit (s := S264x4608) ![0, a] S8x512.size i,
      k0_pay18 (F := Ideal) (v.readCov L (Rect.unit (s := S264x4608) ![256, a] S8x512.size i').toLoadRect)⟩ :: L) (a + 512) S where
  own r j hr hj := (off2 leaves_canon i _ L r j (by omega)).trans (h.own r j hr hj)
  own' r j hr hj := (off2 hR i _ L r j (by omega)).trans (h.own' r j hr hj)
  came r j hr hj := (off2 hR i _ L r j (by omega)).trans (h.came r j hr (by omega))
  gone r j hr hj := by
    by_cases h1 : a ≤ j.val
    · refine (on2 leaves_canon i _ L r j ⟨by omega, by omega⟩ ⟨h1, by omega⟩).trans ((pay18_at _ _ _).trans ?_)
      refine (cov2 v L i' _ _ (by show 256 + (r.val - 0) < 264; omega) (by show a + (j.val - a) < 4608; omega)).trans ((h.own _ _ (by show 8 ≤ 256 + (r.val - 0); omega) (Fin.isLt _)).trans ?_)
      congr 1
      apply Fin.ext; show a + (j.val - a) = _; omega
    · exact (off2 leaves_canon i _ L r j (by omega)).trans (h.gone r j hr (by omega))

/-! ## The activated columns -/

abbrev Acts := List (View.Piece (Elt Ideal) S256x4608 .f32)

/-- The activated columns before `a` are stored. -/
def Acted (L : Acts) (a : ℕ) (G : Fin 256 → Fin 4608 → EReal) : Prop :=
  ∀ (r : Fin 256) (j : Fin 4608), j.val < a → View.canon L (ix2 r j) = G r j

theorem acted_nil (G : Fin 256 → Fin 4608 → EReal) : Acted [] 0 G := fun _ _ h => absurd h (Nat.not_lt_zero _)

/-- One more block of them: the bias, the taps, and the rows held. -/
theorem acted_cons {a5 : Memref sig' κ sp S4x4608 .f32} (h5 : a5.IsWhole) {a6 : Memref sig' κ sp S1x4608 .f32} (h6 : a6.IsWhole)
    (x3 : FVec Ideal S4x4608 .f32) (x4 : FVec Ideal S1x4608 .f32) (S : ℕ → Fin 4608 → EReal) (a : ℕ) (ha : a + 512 ≤ 4608)
    (u0 u1 u2 u3 : FVec Ideal S256x512 .f32)
    (e0 : ∀ (r : Fin 256) (j : Fin 512), u0 (ix2 r j) = S (5 + r.val) ⟨a + j.val, by omega⟩)
    (e1 : ∀ (r : Fin 256) (j : Fin 512), u1 (ix2 r j) = S (6 + r.val) ⟨a + j.val, by omega⟩)
    (e2 : ∀ (r : Fin 256) (j : Fin 512), u2 (ix2 r j) = S (7 + r.val) ⟨a + j.val, by omega⟩)
    (e3 : ∀ (r : Fin 256) (j : Fin 512), u3 (ix2 r j) = S (8 + r.val) ⟨a + j.val, by omega⟩)
    (L : Acts) (i ib i0 i1 i2 i3) (hL : Acted L a (actTile x3 x4 S)) :
    Acted (⟨Rect.unit (s := S256x4608) ![0, a] S256x512.size i,
      k0_pay28 (F := Ideal) (k0_pay27
        (View.readAt (Elt Ideal) a6.view (Rect.unit (s := S1x4608) ![0, a] S1x512.size ib).toLoadRect (h6.unread x4))
        (View.readAt (Elt Ideal) a5.view (Rect.unit (s := S4x4608) ![0, a] S1x512.size i0).toLoadRect (h5.unread x3)) u0
        (View.readAt (Elt Ideal) a5.view (Rect.unit (s := S4x4608) ![1, a] S1x512.size i1).toLoadRect (h5.unread x3)) u1
        (View.readAt (Elt Ideal) a5.view (Rect.unit (s := S4x4608) ![2, a] S1x512.size i2).toLoadRect (h5.unread x3)) u2
        (View.readAt (Elt Ideal) a5.view (Rect.unit (s := S4x4608) ![3, a] S1x512.size i3).toLoadRect (h5.unread x3)) u3)⟩ :: L)
      (a + 512) (actTile x3 x4 S) := by
  intro r j hj
  by_cases h1 : a ≤ j.val
  · refine (on2 leaves_canon i _ L r j ⟨by omega, by omega⟩ ⟨h1, by omega⟩).trans ((pay27_at _ _ _ _ _ _ _ _ _ _ _).trans ?_)
    have ej : (⟨a + (j.val - a), by omega⟩ : Fin 4608) = j := Fin.ext (by show a + (j.val - a) = _; omega)
    have er : (⟨r.val - 0, by omega⟩ : Fin 256) = r := Fin.ext (by simp)
    have hb : ∀ (i) (z : Fin 1), View.readAt (Elt Ideal) a6.view (Rect.unit (s := S1x4608) ![0, a] S1x512.size i).toLoadRect (h6.unread x4)
        (ix2 z ⟨j.val - a, by omega⟩ : (⟨2, ![1, 512]⟩ : Shape).Idx) = x4 (ix2 0 j) := fun i z =>
      (ld2 h6 x4 i z _ (by omega) (by show a + (j.val - a) < 4608; omega)).trans
        (congrArg₂ (fun p q => x4 (ix2 p q)) (Subsingleton.elim _ _) ej)
    have hw : ∀ (k : Fin 4) (i) (z : Fin 1), View.readAt (Elt Ideal) a5.view (Rect.unit (s := S4x4608) ![k.val, a] S1x512.size i).toLoadRect (h5.unread x3)
        (ix2 z ⟨j.val - a, by omega⟩ : (⟨2, ![1, 512]⟩ : Shape).Idx) = x3 (ix2 k j) := fun k i z =>
      (ld2 h5 x3 i z _ (by omega) (by show a + (j.val - a) < 4608; omega)).trans
        (congrArg₂ (fun p q => x3 (ix2 p q)) (Fin.ext (by simp [Fin.val_eq_zero z])) ej)
    have c := hb ib 0
    have w0 := hw 0 i0 0
    have w1 := hw 1 i1 0
    have w2 := hw 2 i2 0
    have w3 := hw 3 i3 0
    have f0 := e0 ⟨r.val - 0, by omega⟩ ⟨j.val - a, by omega⟩
    have f1 := e1 ⟨r.val - 0, by omega⟩ ⟨j.val - a, by omega⟩
    have f2 := e2 ⟨r.val - 0, by omega⟩ ⟨j.val - a, by omega⟩
    have f3 := e3 ⟨r.val - 0, by omega⟩ ⟨j.val - a, by omega⟩
    simp only [ej, er] at f0 f1 f2 f3
    unfold actTile conv4
    exact congrArg silu (congrArg₂ (· + ·) (congrArg₂ (· + ·) (congrArg₂ (· + ·) (congrArg₂ (· + ·) c (congrArg₂ (· * ·) w0 f0))
      (congrArg₂ (· * ·) w1 f1)) (congrArg₂ (· * ·) w2 f2)) (congrArg₂ (· * ·) w3 f3))
  · exact (off2 leaves_canon i _ L r j (by omega)).trans (hL r j (by omega))

/-! ## The heads over their norms -/

/-- The queries' columns before `a` and the keys' before `1024 + b` are over their norms, the rest as activated. -/
def Normed (L : Acts) (a b : ℕ) (G : Fin 256 → Fin 4608 → EReal) : Prop :=
  ∀ (r : Fin 256) (j : Fin 4608),
    View.canon L (ix2 r j) = if j.val < a ∨ (1024 ≤ j.val ∧ j.val < 1024 + b) then units (G r) j else G r j

theorem normed_start (L : Acts) (G : Fin 256 → Fin 4608 → EReal) (h : Acted L 4608 G) : Normed L 0 0 G := by
  intro r j
  rw [if_neg (by omega)]
  exact h r j j.isLt

/-- One more head of the queries. -/
theorem normed_q (v : View sig' κ sp S256x4608 .f32) (L : Acts) (a b : ℕ) (n : ℕ) (hn : a = 128 * n) (ha : a + 128 ≤ 1024) (hb : b ≤ 1024)
    (G : Fin 256 → Fin 4608 → EReal) (i i') (h : Normed L a b G) :
    Normed (⟨Rect.unit (s := S256x4608) ![0, a] S256x128.size i,
      k0_pay46 (F := Ideal) (v.readCov L (Rect.unit (s := S256x4608) ![0, a] S256x128.size i').toLoadRect)⟩ :: L) (a + 128) b G := by
  intro r j
  by_cases h1 : a ≤ j.val ∧ j.val < a + 128
  · refine (on2 leaves_canon i _ L r j ⟨by omega, by omega⟩ ⟨h1.1, by omega⟩).trans ((pay46_at _ _ _).trans ?_)
    rw [if_pos (by omega)]
    unfold units
    rw [if_pos (by omega)]
    refine congrArg₂ (headNorm _) (funext fun m => ?_) (Fin.ext (by show j.val - a = j.val % 128; omega))
    refine (cov2 v L i' _ _ (by show 0 + (r.val - 0) < 256; omega) (by omega)).trans ((h _ _).trans ?_)
    rw [if_neg (by show ¬(a + m.val < a ∨ (1024 ≤ a + m.val ∧ a + m.val < 1024 + b)); omega)]
    unfold head
    refine congrArg₂ G (Fin.ext ?_) (Fin.ext ?_)
    · show 0 + (r.val - 0) = r.val; omega
    · show a + m.val = j.val / 128 * 128 + m.val; omega
  · refine (off2 leaves_canon i _ L r j (by omega)).trans ((h r j).trans ?_)
    by_cases h2 : j.val < a ∨ (1024 ≤ j.val ∧ j.val < 1024 + b)
    · rw [if_pos h2, if_pos (by omega)]
    · rw [if_neg h2, if_neg (by omega)]

/-- One more head of the keys. -/
theorem normed_k (v : View sig' κ sp S256x4608 .f32) (L : Acts) (a b : ℕ) (n : ℕ) (hn : b = 128 * n) (ha : a ≤ 1024) (hb : b + 128 ≤ 1024)
    (G : Fin 256 → Fin 4608 → EReal) (i i') (h : Normed L a b G) :
    Normed (⟨Rect.unit (s := S256x4608) ![0, 1024 + b] S256x128.size i,
      k0_pay47 (F := Ideal) (v.readCov L (Rect.unit (s := S256x4608) ![0, 1024 + b] S256x128.size i').toLoadRect)⟩ :: L) a (b + 128) G := by
  intro r j
  by_cases h1 : 1024 + b ≤ j.val ∧ j.val < 1024 + b + 128
  · refine (on2 leaves_canon i _ L r j ⟨by omega, by omega⟩ ⟨h1.1, by omega⟩).trans ((pay47_at _ _ _).trans ?_)
    rw [if_pos (by omega)]
    unfold units
    rw [if_neg (by omega), if_pos (by omega)]
    refine congrArg₂ (headNorm _) (funext fun m => ?_) (Fin.ext (by show j.val - (1024 + b) = j.val % 128; omega))
    refine (cov2 v L i' _ _ (by show 0 + (r.val - 0) < 256; omega) (by omega)).trans ((h _ _).trans ?_)
    rw [if_neg (by show ¬(1024 + b + m.val < a ∨ (1024 ≤ 1024 + b + m.val ∧ 1024 + b + m.val < 1024 + b)); omega)]
    unfold head
    refine congrArg₂ G (Fin.ext ?_) (Fin.ext ?_)
    · show 0 + (r.val - 0) = r.val; omega
    · show 1024 + b + m.val = j.val / 128 * 128 + m.val; omega
  · refine (off2 leaves_canon i _ L r j (by omega)).trans ((h r j).trans ?_)
    by_cases h2 : j.val < a ∨ (1024 ≤ j.val ∧ j.val < 1024 + b)
    · rw [if_pos h2, if_pos (by omega)]
    · rw [if_neg h2, if_neg (by omega)]

/-- With all heads done. -/
theorem normed_end (L : Acts) (G : Fin 256 → Fin 4608 → EReal) (h : Normed L 1024 1024 G) (r : Fin 256) (j : Fin 4608) :
    View.canon L (ix2 r j) = units (G r) j := by
  rw [h r j]
  by_cases h2 : j.val < 1024 ∨ (1024 ≤ j.val ∧ j.val < 1024 + 1024)
  · rw [if_pos h2]
  · rw [if_neg h2]
    unfold units
    rw [if_neg (by omega), if_neg (by omega)]

end Cert.Kernel3Ideal.Front

end
-- ==== Proof.FrontCase.lean ====
/- The front's body on a whole tile: all its stores, as one list for each memref, for the first tile of a sequence (its carried
   rows zeroed) and for a later one (its carried rows left by the tile before). -/
module

public import proofs.«01_k».proof.Proof.FrontBlock

@[expose] public section

set_option maxRecDepth 16384

noncomputable section

open Idealize.ShloMosaic Idealize.ShloMosaic.TcCoe Idealize.SL.Sem

namespace Cert.Kernel3Ideal.Front

open Cert.Kernel3Ideal Cert.Kernel3Ideal.Gen Cert.FrontRow
open Cert.FfnRow (normRow)
open Cert.Kernel2Ideal.Ffn (ld2 ld3 ldw inb2 lane mat)

variable {sig' : RefSig} {κ : Kind} {sp : Space}
variable {a2 : Memref sig' κ sp S1x256x1024 .f32} (h2 : a2.IsWhole) {a3 : Memref sig' κ sp S1x1024 .f32} (h3 : a3.IsWhole)
  {a4 : Memref sig' κ sp S1024x6784 .bf16} (h4 : a4.IsWhole) {a5 : Memref sig' κ sp S4x4608 .f32} (h5 : a5.IsWhole)
  {a6 : Memref sig' κ sp S1x4608 .f32} (h6 : a6.IsWhole)
  (v : View sig' κ sp S264x4608 .f32) (vz : View sig' κ sp S256x4608 .f32)
  (x0 : FVec Ideal S1x256x1024 .f32) (x1 : FVec Ideal S1x1024 .f32) (x2 : FVec Ideal S1024x6784 .bf16)
  (x3 : FVec Ideal S4x4608 .f32) (x4 : FVec Ideal S1x4608 .f32)

/-- The normalised tile. -/
def ldH : FVec Ideal S256x1024 .bf16 :=
  k0_pay2 (F := Ideal)
    (View.readAt (Elt Ideal) a2.view (Rect.unit (s := S1x256x1024) ![0, 0, 0] S1x256x1024.size inb_S1x256x1024_S1x256x1024_0_0_0).toLoadRect (h2.unread x0))
    (View.readAt (Elt Ideal) a3.view (Rect.unit (s := S1x1024) ![0, 0] S1x1024.size inb_S1x1024_S1x1024_0_0).toLoadRect (h3.unread x1))

theorem ldH_at (r : Fin 256) (k : Fin 1024) : ldH h2 h3 x0 x1 (ix2 r k) = normRow (lane x1) (tileRow x0 r) k := by
  unfold ldH
  rw [ld3 h2 x0, ldw h3 x1, pay2_at]

/-! ## The projection's blocks of columns -/

/-- The stores of the first `n` blocks, over `B`. -/
def ups (B : Pieces) : (n : ℕ) → n ≤ 9 → Pieces
  | 0, _ => B
  | n + 1, h => ⟨Rect.unit (s := S264x4608) ![8, 512 * n] S256x512.size (inb2 (by omega) (by omega)),
      k0_pay9 (F := Ideal) (ldH h2 h3 x0 x1) (View.readAt (Elt Ideal) a4.view
        (Rect.unit (s := S1024x6784) ![0, 512 * n] S1024x512.size (inb2 (by omega) (by omega))).toLoadRect (h4.unread x2))⟩
    :: ups B n (by omega)

theorem ups_own {R : Pieces → S264x4608.Idx → EReal} (hR : Leaves R) (B : Pieces) (C : Fin 8 → Fin 4608 → EReal) (n : ℕ) (h : n ≤ 9) :
    Own (R (ups h2 h3 h4 x0 x1 x2 B n h)) (512 * n) (seq x0 x1 x2 C) := by
  induction n with
  | zero => exact fun r j _ hj => absurd hj (by omega)
  | succ n ih =>
    refine own_block hR _ (512 * n) _ (by omega) _ _ (fun r j => ?_) (ih (by omega))
    rw [pay9_at]
    unfold seq
    rw [dif_neg (by omega), dif_pos (by omega)]
    refine Finset.sum_congr rfl fun k _ => congrArg₂ (· * ·) ((ldH_at h2 h3 x0 x1 r k).trans ?_) ?_
    · exact congrArg (fun q => normRow (lane x1) (tileRow x0 q) k) (Fin.ext (by show r.val = 8 + r.val - 8; omega))
    · refine (ld2 h4 x2 _ k j (by omega) (by omega)).trans (congrArg₂ (fun p q => x2 (ix2 p q)) (Fin.ext ?_) (Fin.ext ?_))
      · show 0 + k.val = k.val; omega
      · show 512 * n + j.val = 0 + (512 * n + j.val); omega

theorem ups_came {R : Pieces → S264x4608.Idx → EReal} (hR : Leaves R) (B : Pieces) (S : ℕ → Fin 4608 → EReal) (hB : Came (R B) 0 S) (n : ℕ) (h : n ≤ 9) :
    Came (R (ups h2 h3 h4 x0 x1 x2 B n h)) 0 S := by
  induction n with
  | zero => exact hB
  | succ n ih => exact came_block hR _ (512 * n) S _ _ (ih (by omega))

theorem ups_pre {R : Pieces → S264x4608.Idx → EReal} (hR : Leaves R) (B : Pieces) (C : Fin 8 → Fin 4608 → EReal)
    (hB : Came (R B) 0 (seq x0 x1 x2 C)) : Pre R (ups h2 h3 h4 x0 x1 x2 B 9 (le_refl 9)) 0 (seq x0 x1 x2 C) where
  own := ups_own h2 h3 h4 x0 x1 x2 leaves_canon B C 9 (le_refl 9)
  own' := ups_own h2 h3 h4 x0 x1 x2 hR B C 9 (le_refl 9)
  came := ups_came h2 h3 h4 x0 x1 x2 hR B _ hB 9 (le_refl 9)
  gone r j _ hj := absurd hj (Nat.not_lt_zero _)

/-! ## The carried rows -/

/-- The stores after `n` blocks are carried. -/
def carries (B : Pieces) : (n : ℕ) → n ≤ 9 → Pieces
  | 0, _ => B
  | n + 1, h => ⟨Rect.unit (s := S264x4608) ![0, 512 * n] S8x512.size (inb2 (by omega) (by omega)),
      k0_pay18 (F := Ideal) (v.readCov (carries B n (by omega))
        (Rect.unit (s := S264x4608) ![256, 512 * n] S8x512.size (inb2 (by omega) (by omega))).toLoadRect)⟩ :: carries B n (by omega)

theorem carries_pre {R : Pieces → S264x4608.Idx → EReal} (hR : Leaves R) (B : Pieces) (S : ℕ → Fin 4608 → EReal) (hB : Pre R B 0 S) (n : ℕ) (h : n ≤ 9) :
    Pre R (carries v B n h) (512 * n) S := by
  induction n with
  | zero => exact hB
  | succ n ih => exact pre_carry hR _ (512 * n) S (by omega) v _ _ (ih (by omega))

/-! ## The convolution's blocks -/

/-- The stores of the first `n` activated blocks: `rd` reads the rows before a place. -/
def acts (rd : Pieces → (l : LoadRect S264x4608) → l.shape.Idx → Elt Ideal .f32) (B : Pieces) : (n : ℕ) → n ≤ 9 → Acts
  | 0, _ => []
  | n + 1, h => ⟨Rect.unit (s := S256x4608) ![0, 512 * n] S256x512.size (inb2 (by omega) (by omega)),
      k0_pay28 (F := Ideal) (k0_pay27
        (View.readAt (Elt Ideal) a6.view (Rect.unit (s := S1x4608) ![0, 512 * n] S1x512.size (inb2 (by omega) (by omega))).toLoadRect (h6.unread x4))
        (View.readAt (Elt Ideal) a5.view (Rect.unit (s := S4x4608) ![0, 512 * n] S1x512.size (inb2 (by omega) (by omega))).toLoadRect (h5.unread x3))
        (rd (carries v B n (by omega)) (Rect.unit (s := S264x4608) ![5, 512 * n] S256x512.size (inb2 (by omega) (by omega))).toLoadRect)
        (View.readAt (Elt Ideal) a5.view (Rect.unit (s := S4x4608) ![1, 512 * n] S1x512.size (inb2 (by omega) (by omega))).toLoadRect (h5.unread x3))
        (rd (carries v B n (by omega)) (Rect.unit (s := S264x4608) ![6, 512 * n] S256x512.size (inb2 (by omega) (by omega))).toLoadRect)
        (View.readAt (Elt Ideal) a5.view (Rect.unit (s := S4x4608) ![2, 512 * n] S1x512.size (inb2 (by omega) (by omega))).toLoadRect (h5.unread x3))
        (rd (carries v B n (by omega)) (Rect.unit (s := S264x4608) ![7, 512 * n] S256x512.size (inb2 (by omega) (by omega))).toLoadRect)
        (View.readAt (Elt Ideal) a5.view (Rect.unit (s := S4x4608) ![3, 512 * n] S1x512.size (inb2 (by omega) (by omega))).toLoadRect (h5.unread x3))
        (v.readCov (carries v B n (by omega)) (Rect.unit (s := S264x4608) ![8, 512 * n] S256x512.size (inb2 (by omega) (by omega))).toLoadRect))⟩
    :: acts rd B n (by omega)

theorem acts_acted {R : Pieces → S264x4608.Idx → EReal} (hR : Leaves R) (rd : Pieces → (l : LoadRect S264x4608) → l.shape.Idx → Elt Ideal .f32)
    (hrd : ∀ (L : Pieces) (o p : ℕ) (i) (r : Fin 256) (j : Fin 512) (hr : o + r.val < 264) (hj : p + j.val < 4608),
      rd L (Rect.unit (s := S264x4608) ![o, p] S256x512.size i).toLoadRect (ix2 r j : (⟨2, ![256, 512]⟩ : Shape).Idx) = R L (ix2 ⟨o + r.val, hr⟩ ⟨p + j.val, hj⟩))
    (B : Pieces) (S : ℕ → Fin 4608 → EReal) (hB : Pre R B 0 S) (n : ℕ) (h : n ≤ 9) :
    Acted (acts h5 h6 v x3 x4 rd B n h) (512 * n) (actTile x3 x4 S) := by
  induction n with
  | zero => exact acted_nil _
  | succ n ih =>
    have hp := carries_pre v hR B S hB n (by omega)
    have hq : ∀ (o : ℕ) (ho : 5 ≤ o ∧ o ≤ 8) (r : Fin 256) (j : Fin 512),
        R (carries v B n (by omega)) (ix2 ⟨o + r.val, by omega⟩ ⟨512 * n + j.val, by omega⟩) = S (o + r.val) ⟨512 * n + j.val, by omega⟩ := by
      intro o ho r j
      by_cases h8 : o + r.val < 8
      · exact hp.came _ _ h8 (by show 512 * n ≤ 512 * n + j.val; omega)
      · exact hp.own' _ _ (by show 8 ≤ o + r.val; omega) (Fin.isLt _)
    refine acted_cons h5 h6 x3 x4 S (512 * n) (by omega) _ _ _ _
      (fun r j => (hrd _ 5 _ _ r j (by omega) (by omega)).trans (hq 5 (by omega) r j))
      (fun r j => (hrd _ 6 _ _ r j (by omega) (by omega)).trans (hq 6 (by omega) r j))
      (fun r j => (hrd _ 7 _ _ r j (by omega) (by omega)).trans (hq 7 (by omega) r j))
      (fun r j => (cov2 v _ _ r j (by omega) (by omega)).trans (hp.own _ _ (by show 8 ≤ 8 + r.val; omega) (Fin.isLt _)))
      _ _ _ _ _ _ _ (ih (by omega))

/-! ## The heads -/

/-- The stores after `n` heads of the queries and of the keys are over their norms. -/
def heads (B : Acts) : (n : ℕ) → n ≤ 8 → Acts
  | 0, _ => B
  | n + 1, h =>
    let Q : Acts := ⟨Rect.unit (s := S256x4608) ![0, 128 * n] S256x128.size (inb2 (by omega) (by omega)),
      k0_pay46 (F := Ideal) (vz.readCov (heads B n (by omega))
        (Rect.unit (s := S256x4608) ![0, 128 * n] S256x128.size (inb2 (by omega) (by omega))).toLoadRect)⟩ :: heads B n (by omega)
    ⟨Rect.unit (s := S256x4608) ![0, 1024 + 128 * n] S256x128.size (inb2 (by omega) (by omega)),
      k0_pay47 (F := Ideal) (vz.readCov Q
        (Rect.unit (s := S256x4608) ![0, 1024 + 128 * n] S256x128.size (inb2 (by omega) (by omega))).toLoadRect)⟩ :: Q

theorem heads_normed (B : Acts) (G : Fin 256 → Fin 4608 → EReal) (hB : Normed B 0 0 G) (n : ℕ) (h : n ≤ 8) :
    Normed (heads vz B n h) (128 * n) (128 * n) G := by
  induction n with
  | zero => exact hB
  | succ n ih =>
    exact normed_k vz _ (128 * n + 128) (128 * n) n rfl (by omega) (by omega) G _ _
      (normed_q vz _ (128 * n) (128 * n) n rfl (by omega) (by omega) G _ _ (ih (by omega)))

/-! ## The gates -/

abbrev Gates := List (View.Piece (Elt Ideal) S256x2048 .f32)

/-- The two stores of the gate columns. -/
def gates : Gates :=
  [⟨Rect.unit (s := S256x2048) ![0, 1024] S256x1024.size (inb2 (by omega) (by omega)),
    k0_pay67 (F := Ideal) (ldH h2 h3 x0 x1) (View.readAt (Elt Ideal) a4.view
      (Rect.unit (s := S1024x6784) ![0, 5632] S1024x1024.size (inb2 (by omega) (by omega))).toLoadRect (h4.unread x2))⟩,
   ⟨Rect.unit (s := S256x2048) ![0, 0] S256x1024.size (inb2 (by omega) (by omega)),
    k0_pay67 (F := Ideal) (ldH h2 h3 x0 x1) (View.readAt (Elt Ideal) a4.view
      (Rect.unit (s := S1024x6784) ![0, 4608] S1024x1024.size (inb2 (by omega) (by omega))).toLoadRect (h4.unread x2))⟩]

/-- A block of the projection's columns, as loaded. -/
theorem wide_at (o : ℕ) (ho : o + 1024 ≤ 6784) (i) (r : Fin 256) (j : Fin 1024) :
    k0_pay67 (F := Ideal) (ldH h2 h3 x0 x1) (View.readAt (Elt Ideal) a4.view
      (Rect.unit (s := S1024x6784) ![0, o] S1024x1024.size i).toLoadRect (h4.unread x2)) (ix2 r j)
      = projRow (lane x1) (tileRow x0 r) (colsFrom x2 o 1024 ho) j := by
  rw [pay67_at]
  refine Finset.sum_congr rfl fun k _ => congrArg₂ (· * ·) (ldH_at h2 h3 x0 x1 r k) ?_
  exact (ld2 h4 x2 _ k j (by omega) (by omega)).trans (congrArg (fun p => x2 (ix2 p _)) (Fin.ext (by show 0 + k.val = k.val; omega)))

theorem gates_at (r : Fin 256) (j : Fin 2048) :
    View.canon (gates h2 h3 h4 x0 x1 x2) (ix2 r j) = projRow (lane x1) (tileRow x0 r) (colsFrom x2 4608 2048 (by decide)) j := by
  have er : (⟨r.val - 0, by omega⟩ : Fin 256) = r := Fin.ext (by simp)
  unfold gates
  by_cases h : 1024 ≤ j.val
  · refine (on2 leaves_canon _ _ _ r j ⟨by omega, by omega⟩ ⟨h, by omega⟩).trans ((wide_at h2 h3 h4 x0 x1 x2 5632 (by decide) _ _ _).trans ?_)
    refine Finset.sum_congr rfl fun k _ => congrArg₂ (· * ·) (by rw [er]) (congrArg (fun q => x2 (ix2 k q)) (Fin.ext ?_))
    show 5632 + (j.val - 1024) = 4608 + j.val; omega
  · refine (off2 leaves_canon _ _ _ r j (by omega)).trans ?_
    refine (on2 leaves_canon _ _ _ r j ⟨by omega, by omega⟩ ⟨by omega, by omega⟩).trans ((wide_at h2 h3 h4 x0 x1 x2 4608 (by decide) _ _ _).trans ?_)
    refine Finset.sum_congr rfl fun k _ => congrArg₂ (· * ·) (by rw [er]) (congrArg (fun q => x2 (ix2 k q)) (Fin.ext ?_))
    show 4608 + (j.val - 0) = 4608 + j.val; omega

end Cert.Kernel3Ideal.Front

end
-- ==== Proof.FrontOut.lean ====
/- What the front's body leaves in its two output blocks and in the rows it carries, entry by entry, for both cases. -/
module

public import proofs.«01_k».proof.Proof.FrontCase

@[expose] public section

set_option maxRecDepth 16384

noncomputable section

open Idealize.ShloMosaic Idealize.ShloMosaic.TcCoe Idealize.SL.Sem

namespace Cert.Kernel3Ideal.Front

open Cert.Kernel3Ideal Cert.Kernel3Ideal.Gen Cert.FrontRow
open Cert.FfnRow (normRow)
open Cert.Kernel2Ideal.Ffn (ld2 ld3 ldw inb2 lane mat)

/-- A store that covers a block of one plane. -/
theorem plane_at {a b : ℕ} (i) (w : (⟨3, ![1, a, b]⟩ : Shape).Idx → Elt Ideal .f32) (z : Fin 1) (r : Fin a) (j : Fin b) :
    View.canon [(⟨Rect.unit (s := ⟨3, ![1, a, b]⟩) ![0, 0, 0] ![1, a, b] i, w⟩ : View.Piece (Elt Ideal) ⟨3, ![1, a, b]⟩ .f32)] (ix3 z r j) = w (ix3 z r j) := by
  have e : ix3 z r j = (Rect.unit (s := ⟨3, ![1, a, b]⟩) ![0, 0, 0] ![1, a, b] i).emb (ix3 z r j : (⟨3, ![1, a, b]⟩ : Shape).Idx) := by
    funext k; apply Fin.ext
    match k with
    | ⟨0, _⟩ => rw [Rect.emb_apply]; simp
    | ⟨1, _⟩ => rw [Rect.emb_apply]; simp
    | ⟨2, _⟩ => rw [Rect.emb_apply]; simp
  have h := leaves_canon.on (e := .f32) (Rect.unit (s := ⟨3, ![1, a, b]⟩) ![0, 0, 0] ![1, a, b] i) w [] (ix3 z r j : (⟨3, ![1, a, b]⟩ : Shape).Idx)
  rw [← e] at h
  exact h

/-- The activated block as it leaves: what was stored, loaded whole. -/
theorem act_block {sig' : RefSig} {κ : Kind} {sp : Space} (v : View sig' κ sp S256x4608 .f32) (L : Acts) (G : Fin 256 → Fin 4608 → EReal)
    (h : Normed L 1024 1024 G) (i i') (z : Fin 1) (r : Fin 256) (j : Fin 4608) :
    View.canon [(⟨Rect.unit (s := S1x256x4608) ![0, 0, 0] S1x256x4608.size i,
      k0_pay69 (F := Ideal) (v.readCov L (Rect.unit (s := S256x4608) ![0, 0] S256x4608.size i').toLoadRect)⟩ : View.Piece (Elt Ideal) S1x256x4608 .f32)]
        (ix3 z r j) = units (G r) j := by
  refine (plane_at i _ z r j).trans ((pay69_at _ z r j).trans ((cov2 v L i' r j (by omega) (by omega)).trans ((normed_end L G h _ _).trans ?_)))
  exact congrArg₂ (fun p q => units (G p) q) (Fin.ext (by show 0 + r.val = _; omega)) (Fin.ext (by show 0 + j.val = _; omega))

/-- The gates' block likewise. -/
theorem gate_block {sig' : RefSig} {κ : Kind} {sp : Space} {a2 : Memref sig' κ sp S1x256x1024 .f32} (h2 : a2.IsWhole) {a3 : Memref sig' κ sp S1x1024 .f32} (h3 : a3.IsWhole)
    {a4 : Memref sig' κ sp S1024x6784 .bf16} (h4 : a4.IsWhole) (v : View sig' κ sp S256x2048 .f32)
    (x0 : FVec Ideal S1x256x1024 .f32) (x1 : FVec Ideal S1x1024 .f32) (x2 : FVec Ideal S1024x6784 .bf16) (i i') (z : Fin 1) (r : Fin 256) (j : Fin 2048) :
    View.canon [(⟨Rect.unit (s := S1x256x2048) ![0, 0, 0] S1x256x2048.size i,
      k0_pay70 (F := Ideal) (v.readCov (gates h2 h3 h4 x0 x1 x2) (Rect.unit (s := S256x2048) ![0, 0] S256x2048.size i').toLoadRect)⟩ :
        View.Piece (Elt Ideal) S1x256x2048 .f32)]
        (ix3 z r j) = projRow (lane x1) (tileRow x0 r) (colsFrom x2 4608 2048 (by decide)) j := by
  refine (plane_at i _ z r j).trans ((pay70_at _ z r j).trans ((cov2 v _ i' r j (by omega) (by omega)).trans ((gates_at h2 h3 h4 x0 x1 x2 _ _).trans ?_)))
  exact congrArg₂ (fun p q => projRow (lane x1) (tileRow x0 p) _ q) (Fin.ext (by show 0 + r.val = _; omega)) (Fin.ext (by show 0 + j.val = _; omega))

variable (c : Dev nD) (i : grid0.Coords) (arg2 : Memref sig .tc .vmem S1x256x1024 .f32) (harg2 : arg2.IsWhole)
  (arg3 : Memref sig .tc .vmem S1x1024 .f32) (harg3 : arg3.IsWhole) (arg4 : Memref sig .tc .vmem S1024x6784 .bf16) (harg4 : arg4.IsWhole)
  (arg5 : Memref sig .tc .vmem S4x4608 .f32) (harg5 : arg5.IsWhole) (arg6 : Memref sig .tc .vmem S1x4608 .f32) (harg6 : arg6.IsWhole)
  (arg7 : Memref sig .tc .vmem S1x256x4608 .f32) (harg7 : arg7.IsWhole) (arg8 : Memref sig .tc .vmem S1x256x2048 .f32) (harg8 : arg8.IsWhole)
  (arg9 : Memref sig .tc .vmem S256x1024 .bf16) (harg9 : arg9.IsWhole) (arg10 : Memref sig .tc .vmem S264x4608 .f32) (harg10 : arg10.IsWhole)
  (arg11 : Memref sig .tc .vmem S256x4608 .f32) (harg11 : arg11.IsWhole) (arg12 : Memref sig .tc .vmem S256x2048 .f32) (harg12 : arg12.IsWhole)
  (x0 : FVec Ideal S1x256x1024 .f32) (x1 : FVec Ideal S1x1024 .f32) (x2 : FVec Ideal S1024x6784 .bf16)
  (x3 : FVec Ideal S4x4608 .f32) (x4 : FVec Ideal S1x4608 .f32)

/-! ## The first tile of a sequence: nothing is carried in -/

/-- The rows it convolves over begin with zeros. -/
abbrev cold : Fin 8 → Fin 4608 → EReal := fun _ _ => 0

/-- The store of the zeros. -/
def zeros : Pieces := [⟨Rect.unit (s := S264x4608) ![0, 0] S8x4608.size inb_S264x4608_S8x4608_0_0, k0_pay1 (F := Ideal)⟩]

theorem zeros_came : Came (View.canon zeros) 0 (seq x0 x1 x2 cold) := by
  intro r j hr _
  refine (on2 leaves_canon _ _ [] r j ⟨by omega, by omega⟩ ⟨by omega, by omega⟩).trans ?_
  unfold seq
  rw [dif_pos hr]
  pointwise [k0_pay1]

theorem first_pre : Pre View.canon (ups harg2 harg3 harg4 x0 x1 x2 zeros 9 (le_refl 9)) 0 (seq x0 x1 x2 cold) :=
  ups_pre harg2 harg3 harg4 x0 x1 x2 leaves_canon zeros cold (zeros_came x0 x1 x2)

/-- The lists of its stores are those of `FrontCase`. -/
theorem first_up : kernelRun0_A.sl.HS1_10 (F := Ideal) c arg2 harg2 arg3 harg3 arg4 harg4 x0 x1 x2
    = ups harg2 harg3 harg4 x0 x1 x2 zeros 9 (le_refl 9) := rfl

theorem first_act : kernelRun0_A.sl.HS2_9 (F := Ideal) c arg2 harg2 arg3 harg3 arg4 harg4 arg5 harg5 arg6 harg6 arg10 x0 x1 x2 x3 x4
    = acts harg5 harg6 arg10.view x3 x4 (fun L l => arg10.view.readCov L l)
        (kernelRun0_A.sl.HS1_10 (F := Ideal) c arg2 harg2 arg3 harg3 arg4 harg4 x0 x1 x2) 9 (le_refl 9) := rfl

theorem first_heads : kernelRun0_A.sl.HS2_25 (F := Ideal) c arg2 harg2 arg3 harg3 arg4 harg4 arg5 harg5 arg6 harg6 arg10 arg11 x0 x1 x2 x3 x4
    = heads arg11.view (kernelRun0_A.sl.HS2_9 (F := Ideal) c arg2 harg2 arg3 harg3 arg4 harg4 arg5 harg5 arg6 harg6 arg10 x0 x1 x2 x3 x4) 8 (le_refl 8) := rfl

theorem first_normed : Normed (kernelRun0_A.sl.HS2_25 (F := Ideal) c arg2 harg2 arg3 harg3 arg4 harg4 arg5 harg5 arg6 harg6 arg10 arg11 x0 x1 x2 x3 x4)
    1024 1024 (actTile x3 x4 (seq x0 x1 x2 cold)) := by
  rw [first_heads]
  refine heads_normed arg11.view _ _ (normed_start _ _ ?_) 8 (le_refl 8)
  rw [first_act, first_up]
  exact acts_acted harg5 harg6 arg10.view x3 x4 leaves_canon _ (fun L o p i r j hr hj => cov2 arg10.view L i r j hr hj) _ _
    (first_pre arg2 harg2 arg3 harg3 arg4 harg4 x0 x1 x2) 9 (le_refl 9)

theorem First.act_at (hc0 : cond0_0 i) (z : Fin 1) (r : Fin 256) (j : Fin 4608) :
    out0_A_5 (F := Ideal) c i arg2 harg2 arg3 harg3 arg4 harg4 arg5 harg5 arg6 harg6 arg7 harg7 arg8 harg8 arg9 harg9 arg10 harg10 arg11 harg11 arg12 harg12 hc0 x0 x1 x2 x3 x4 (ix3 z r j) = units (actTile x3 x4 (seq x0 x1 x2 cold) r) j :=
  (congrFun (View.read_writes_junk_eq_canon VO0_5 _) (ix3 z r j)).trans
    (act_block arg11.view _ _ (first_normed c arg2 harg2 arg3 harg3 arg4 harg4 arg5 harg5 arg6 harg6 arg10 arg11 x0 x1 x2 x3 x4) _ _ z r j)

theorem First.gate_at (hc0 : cond0_0 i) (z : Fin 1) (r : Fin 256) (j : Fin 2048) :
    out0_A_6 (F := Ideal) c i arg2 harg2 arg3 harg3 arg4 harg4 arg5 harg5 arg6 harg6 arg7 harg7 arg8 harg8 arg9 harg9 arg10 harg10 arg11 harg11 arg12 harg12 hc0 x0 x1 x2 x3 x4 (ix3 z r j) = projRow (lane x1) (tileRow x0 r) (colsFrom x2 4608 2048 (by decide)) j :=
  (congrFun (View.read_writes_junk_eq_canon VO0_6 _) (ix3 z r j)).trans
    (gate_block harg2 harg3 harg4 arg12.view x0 x1 x2 _ _ z r j)

/-- The rows carried on: the tile's last eight. -/
theorem First.carry_at (hc0 : cond0_0 i) (r : Fin 264) (hr : r.val < 8) (j : Fin 4608) :
    sout0_A_1 (F := Ideal) c i arg2 harg2 arg3 harg3 arg4 harg4 arg5 harg5 arg6 harg6 arg7 harg7 arg8 harg8 arg9 harg9 arg10 harg10 arg11 harg11 arg12 harg12 hc0 x0 x1 x2 x3 x4 (ix2 r j) = seq x0 x1 x2 cold (256 + r.val) j :=
  (congrFun (View.read_writes_junk_eq_canon VS0_1 _) (ix2 r j)).trans
    ((carries_pre arg10.view leaves_canon _ _ (first_pre arg2 harg2 arg3 harg3 arg4 harg4 x0 x1 x2) 9 (le_refl 9)).gone r j hr j.isLt)

/-! ## A later tile: it begins with the rows the tile before left -/

/-- The rows carried in. -/
abbrev warm (xs1 : FVec Ideal S264x4608 .f32) : Fin 8 → Fin 4608 → EReal := fun r j => xs1 (ix2 ⟨r.val, by omega⟩ j)

/-- The scratch as read over what the tile before left in it. -/
abbrev over (xs1 : FVec Ideal S264x4608 .f32) : Pieces → S264x4608.Idx → EReal :=
  fun L => View.read (Elt Ideal) arg10.view (arg10.view.writes (Elt Ideal) (harg10.unread xs1) L)

theorem later_came (xs1 : FVec Ideal S264x4608 .f32) : Came (over arg10 harg10 xs1 []) 0 (seq x0 x1 x2 (warm xs1)) := by
  intro r j hr _
  refine (congrFun (harg10.read_unread (Val := Elt Ideal) xs1) (ix2 r j)).trans ?_
  unfold seq
  rw [dif_pos hr]

theorem later_pre (xs1 : FVec Ideal S264x4608 .f32) :
    Pre (over arg10 harg10 xs1) (ups harg2 harg3 harg4 x0 x1 x2 [] 9 (le_refl 9)) 0 (seq x0 x1 x2 (warm xs1)) :=
  ups_pre harg2 harg3 harg4 x0 x1 x2 (leaves_over _ _) [] _ (later_came arg10 harg10 x0 x1 x2 xs1)

theorem later_up : kernelRun0_B.sl.HS1_9 (F := Ideal) c arg2 harg2 arg3 harg3 arg4 harg4 x0 x1 x2
    = ups harg2 harg3 harg4 x0 x1 x2 [] 9 (le_refl 9) := rfl

theorem later_act (xs1 : FVec Ideal S264x4608 .f32) :
    kernelRun0_B.sl.HS2_9 (F := Ideal) c arg2 harg2 arg3 harg3 arg4 harg4 arg5 harg5 arg6 harg6 arg10 harg10 x0 x1 x2 x3 x4 xs1
    = acts harg5 harg6 arg10.view x3 x4 (fun L l => View.readAt (Elt Ideal) arg10.view l (arg10.view.writes (Elt Ideal) (harg10.unread xs1) L))
        (kernelRun0_B.sl.HS1_9 (F := Ideal) c arg2 harg2 arg3 harg3 arg4 harg4 x0 x1 x2) 9 (le_refl 9) := rfl

theorem later_heads (xs1 : FVec Ideal S264x4608 .f32) :
    kernelRun0_B.sl.HS2_25 (F := Ideal) c arg2 harg2 arg3 harg3 arg4 harg4 arg5 harg5 arg6 harg6 arg10 harg10 arg11 x0 x1 x2 x3 x4 xs1
    = heads arg11.view (kernelRun0_B.sl.HS2_9 (F := Ideal) c arg2 harg2 arg3 harg3 arg4 harg4 arg5 harg5 arg6 harg6 arg10 harg10 x0 x1 x2 x3 x4 xs1)
        8 (le_refl 8) := rfl

theorem later_normed (xs1 : FVec Ideal S264x4608 .f32) :
    Normed (kernelRun0_B.sl.HS2_25 (F := Ideal) c arg2 harg2 arg3 harg3 arg4 harg4 arg5 harg5 arg6 harg6 arg10 harg10 arg11 x0 x1 x2 x3 x4 xs1)
      1024 1024 (actTile x3 x4 (seq x0 x1 x2 (warm xs1))) := by
  rw [later_heads]
  refine heads_normed arg11.view _ _ (normed_start _ _ ?_) 8 (le_refl 8)
  rw [later_act, later_up]
  exact acts_acted harg5 harg6 arg10.view x3 x4 (leaves_over _ _) _ (fun L o p i r j hr hj => over2 arg10.view _ L i r j hr hj) _ _
    (later_pre arg2 harg2 arg3 harg3 arg4 harg4 arg10 harg10 x0 x1 x2 xs1) 9 (le_refl 9)

theorem Later.act_at (hc0 : ¬cond0_0 i) (xs1 : FVec Ideal S264x4608 .f32) (z : Fin 1) (r : Fin 256) (j : Fin 4608) :
    out0_B_5 (F := Ideal) c i arg2 harg2 arg3 harg3 arg4 harg4 arg5 harg5 arg6 harg6 arg7 harg7 arg8 harg8 arg9 harg9 arg10 harg10 arg11 harg11 arg12 harg12 hc0 x0 x1 x2 x3 x4 xs1 (ix3 z r j) = units (actTile x3 x4 (seq x0 x1 x2 (warm xs1)) r) j :=
  (congrFun (View.read_writes_junk_eq_canon VO0_5 _) (ix3 z r j)).trans
    (act_block arg11.view _ _ (later_normed c arg2 harg2 arg3 harg3 arg4 harg4 arg5 harg5 arg6 harg6 arg10 harg10 arg11 x0 x1 x2 x3 x4 xs1) _ _ z r j)

theorem Later.gate_at (hc0 : ¬cond0_0 i) (xs1 : FVec Ideal S264x4608 .f32) (z : Fin 1) (r : Fin 256) (j : Fin 2048) :
    out0_B_6 (F := Ideal) c i arg2 harg2 arg3 harg3 arg4 harg4 arg5 harg5 arg6 harg6 arg7 harg7 arg8 harg8 arg9 harg9 arg10 harg10 arg11 harg11 arg12 harg12 hc0 x0 x1 x2 x3 x4 xs1 (ix3 z r j) = projRow (lane x1) (tileRow x0 r) (colsFrom x2 4608 2048 (by decide)) j :=
  (congrFun (View.read_writes_junk_eq_canon VO0_6 _) (ix3 z r j)).trans
    (gate_block harg2 harg3 harg4 arg12.view x0 x1 x2 _ _ z r j)

theorem Later.carry_at (hc0 : ¬cond0_0 i) (xs1 : FVec Ideal S264x4608 .f32) (r : Fin 264) (hr : r.val < 8) (j : Fin 4608) :
    sout0_B_1 (F := Ideal) c i arg2 harg2 arg3 harg3 arg4 harg4 arg5 harg5 arg6 harg6 arg7 harg7 arg8 harg8 arg9 harg9 arg10 harg10 arg11 harg11 arg12 harg12 hc0 x0 x1 x2 x3 x4 xs1 (ix2 r j) = seq x0 x1 x2 (warm xs1) (256 + r.val) j :=
  (congrFun (View.read_writes_junk_eq_canon VS0_1 _) (ix2 r j)).trans
    ((carries_pre arg10.view (leaves_over _ _) _ _ (later_pre arg2 harg2 arg3 harg3 arg4 harg4 arg10 harg10 x0 x1 x2 xs1) 9 (le_refl 9)).gone r j hr j.isLt)

end Cert.Kernel3Ideal.Front

end
-- ==== Proof.FrontArray.lean ====
/- From the front's tiles to its whole arrays: the blocks staged at a grid point are the arguments' rows and columns, the rows
   carried in are the last rows of the tile before, so every tile gives its own rows of both results. -/
module

public import Idealize.ShloMosaic.Lib.StableHlo.RunRead
public import proofs.«01_k».proof.Proof.FrontOut
public import proofs.«01_k».proof.Proof.Gen.Kernel3Ideal.Value
public import Idealize.ShloMosaic.Lib.Claim

@[expose] public section

set_option maxRecDepth 16384

noncomputable section

open Idealize.ShloMosaic Idealize.ShloMosaic.TcCoe Idealize.SL.Sem

namespace Cert.Kernel3Ideal.Front

open Cert.Kernel3Ideal Cert.Kernel3Ideal.Gen Cert.FrontRow
open Cert.Kernel2Ideal.Ffn (lane mat)

variable (m : (ℓ : Loc nD τ sig) → Buf (Elt Ideal) ℓ) (c : Dev nD)

/-- The arguments, by coordinates. -/
abbrev X (b : Fin 32) : Fin 2048 → Fin 1024 → EReal := fun s k => (m ((c : Thread nD τ).loc main_arg0) : FVec Ideal S32x2048x1024 .f32) (ix3 b s k)
abbrev W1 : Fin 1024 → EReal := fun k => (m ((c : Thread nD τ).loc main_arg1) : FVec Ideal S1x1024 .f32) (ix2 0 k)
abbrev W2 : Fin 1024 → Fin 6688 → EReal := fun k j => (m ((c : Thread nD τ).loc main_arg2) : FVec Ideal S1x1024x6688 .f32) (ix3 0 k j)
abbrev T3 : Fin 4 → Fin 3072 → EReal := fun i j => (m ((c : Thread nD τ).loc main_arg3) : FVec Ideal S1x4x3072 .f32) (ix3 0 i j)
abbrev T4 : Fin 4 → Fin 1536 → EReal := fun i j => (m ((c : Thread nD τ).loc main_arg4) : FVec Ideal S1x4x1536 .f32) (ix3 0 i j)
abbrev B5 : Fin 1536 → EReal := fun j => (m ((c : Thread nD τ).loc main_arg5) : FVec Ideal S1x1536 .f32) (ix2 0 j)

/-- The blocks' places at every grid point. -/
theorem idx : ∀ t : Fin cfg0.N, win0_0.index t = ![t.val / 8, t.val % 8, 0] ∧ win0_1.index t = ![0, 0] ∧ win0_2.index t = ![0, 0]
    ∧ win0_3.index t = ![0, 0] ∧ win0_4.index t = ![0, 0] ∧ win0_5.index t = ![t.val / 8, t.val % 8, 0]
    ∧ win0_6.index t = ![t.val / 8, t.val % 8, 0] :=
  (by decide +kernel : ∀ t : Fin grid0.N, _)

theorem ptlt (t : Fin cfg0.N) : t.val < 256 := lt_of_lt_of_eq t.isLt N_0

theorem blk0 (t : Fin cfg0.N) (z : Fin 1) (r : Fin 256) (l : Fin 1024) :
    (iblk (F := Ideal) m c 0 t : FVec Ideal S1x256x1024 .f32) (ix3 z r l)
      = X m c ⟨t.val / 8, by have := ptlt t; omega⟩ ⟨t.val % 8 * 256 + r.val, by have := ptlt t; omega⟩ l := by
  have := ptlt t
  blk_point [iblk, V, idx t]

theorem blk1 (t : Fin cfg0.N) (z : Fin 1) (l : Fin 1024) :
    (iblk (F := Ideal) m c 1 t : FVec Ideal S1x1024 .f32) (ix2 z l) = W1 m c l := by
  blk_simp [iblk]
  entry_read
  pointwise!
  blk_ext [idx t]

theorem blk3 (t : Fin cfg0.N) (k : Fin 4) (j : Fin 4608) :
    (iblk (F := Ideal) m c 3 t : FVec Ideal S4x4608 .f32) (ix2 k j) = taps (T3 m c) (T4 m c) k j := by
  have e : (win0_3.blk t).view.emb (ix2 k j : (⟨2, ![4, 4608]⟩ : Shape).Idx) = ix2 k j := by blk_ext [idx t]
  blk_simp [iblk]
  entry_read
  refine (congrArg _ e).trans ?_
  pointwise!

theorem blk4 (t : Fin cfg0.N) (z : Fin 1) (j : Fin 4608) :
    (iblk (F := Ideal) m c 4 t : FVec Ideal S1x4608 .f32) (ix2 z j) = bias (B5 m c) j := by
  have e : (win0_4.blk t).view.emb (ix2 z j : (⟨2, ![1, 4608]⟩ : Shape).Idx) = ix2 z j := by blk_ext [idx t]
  blk_simp [iblk]
  entry_read
  refine (congrArg _ e).trans ?_
  pointwise!

/-- The host's operations before the weights' columns are put side by side leave the buffers so. -/
abbrev cut : Valuation τ sig (Elt Ideal) := StableHlo.upto (hostOps0 (F := Ideal)) (fun b => m (c, b)) 18

/-- The weights' columns, in the order the kernel takes them. -/
def sideBySide (p5 p6 p7 p12 : FVec Ideal S1024x1024 .f32) (p13 p14 : FVec Ideal S1024x256 .f32) (p8 p11 : FVec Ideal S1024x1024 .f32)
    (p10 : FVec Ideal S1024x8 .f32) (p15 : FVec Ideal S1024x16 .f32) (p9 : FVec Ideal S1024x8 .f32) (p16 : FVec Ideal S1024x96 .f32) : FVec Ideal S1024x6784 .f32 :=
  concatenate S1024x6784 1 [⟨S1024x1024, p5⟩, ⟨S1024x1024, p6⟩, ⟨S1024x1024, p7⟩, ⟨S1024x1024, p12⟩, ⟨S1024x256, p13⟩, ⟨S1024x256, p14⟩, ⟨S1024x1024, p8⟩, ⟨S1024x1024, p11⟩, ⟨S1024x8, p10⟩, ⟨S1024x16, p15⟩, ⟨S1024x8, p9⟩, ⟨S1024x96, p16⟩]
    concatenates_S1024x1024_S1024x1024_S1024x1024_S1024x1024_S1024x256_S1024x256_S1024x1024_S1024x1024_S1024x8_S1024x16_S1024x8_S1024x96_S1024x6784_d1

theorem weights_eq : (V m c main_v18 : FVec Ideal S1024x6784 .bf16)
    = truncf .bf16 (sideBySide (cut m c main_v5) (cut m c main_v6) (cut m c main_v7) (cut m c main_v12) (cut m c main_v13) (cut m c main_v14) (cut m c main_v8) (cut m c main_v11) (cut m c main_v10) (cut m c main_v15) (cut m c main_v9) (cut m c main_v16)) bitsLt_bf16_f32 := by
  refine (StableHlo.after_last_write (i := 19) [main_v19, main_cst_0, main_v20, main_v21, main_v22, main_v23] rfl rfl (by decide) _).trans ?_
  refine (StableHlo.unary_result _ _ _ _ _ _).trans ?_
  refine congrArg (fun q => truncf .bf16 q bitsLt_bf16_f32) ?_
  refine (StableHlo.upto_last_write (i := 18) [] rfl rfl (by decide) _).trans ?_
  exact (StableHlo.nary_result _ _ _ _ _ _).trans rfl

/-! Each piece is a run of the argument's columns. -/

theorem piece5 (k : Fin 1024) (j : Fin 1024) : (cut m c main_v5 : FVec Ideal S1024x1024 .f32) (ix2 k j) = W2 m c k ⟨0 + j.val, by omega⟩ := by
  unfold cut
  after_reads_simp
  pointwise!

theorem piece6 (k : Fin 1024) (j : Fin 1024) : (cut m c main_v6 : FVec Ideal S1024x1024 .f32) (ix2 k j) = W2 m c k ⟨1024 + j.val, by omega⟩ := by
  unfold cut
  after_reads_simp
  pointwise!

theorem piece7 (k : Fin 1024) (j : Fin 1024) : (cut m c main_v7 : FVec Ideal S1024x1024 .f32) (ix2 k j) = W2 m c k ⟨2048 + j.val, by omega⟩ := by
  unfold cut
  after_reads_simp
  pointwise!

theorem piece12 (k : Fin 1024) (j : Fin 1024) : (cut m c main_v12 : FVec Ideal S1024x1024 .f32) (ix2 k j) = W2 m c k ⟨5136 + j.val, by omega⟩ := by
  unfold cut
  after_reads_simp
  pointwise!

theorem piece13 (k : Fin 1024) (j : Fin 256) : (cut m c main_v13 : FVec Ideal S1024x256 .f32) (ix2 k j) = W2 m c k ⟨6160 + j.val, by omega⟩ := by
  unfold cut
  after_reads_simp
  pointwise!

theorem piece14 (k : Fin 1024) (j : Fin 256) : (cut m c main_v14 : FVec Ideal S1024x256 .f32) (ix2 k j) = W2 m c k ⟨6416 + j.val, by omega⟩ := by
  unfold cut
  after_reads_simp
  pointwise!

theorem piece8 (k : Fin 1024) (j : Fin 1024) : (cut m c main_v8 : FVec Ideal S1024x1024 .f32) (ix2 k j) = W2 m c k ⟨3072 + j.val, by omega⟩ := by
  unfold cut
  after_reads_simp
  pointwise!

theorem piece11 (k : Fin 1024) (j : Fin 1024) : (cut m c main_v11 : FVec Ideal S1024x1024 .f32) (ix2 k j) = W2 m c k ⟨4112 + j.val, by omega⟩ := by
  unfold cut
  after_reads_simp
  pointwise!

theorem either {α : Type} {P : Prop} [Decidable P] {x : P → α} {y : ¬P → α} {v : α} (hx : ∀ h, x h = v) (hy : ∀ h, y h = v) :
    dite P x y = v := by
  by_cases h : P
  · rw [dif_pos h, hx]
  · rw [dif_neg h, hy]

/-- Which of the weights' own columns stands at a place of the kernel's order, up to the gates' columns. -/
def source (j : ℕ) : ℕ := if j < 3072 then j else if j < 4608 then j + 2064 else if j < 5632 then j - 1536 else j - 1520

theorem source5 {j : ℕ}  (a : j < 1024) : 0 + (j) = source j := by
  unfold source; split_ifs <;> omega

theorem source6 {j : ℕ} (h0 : ¬j < 1024) (a : j - 1024 < 1024) : 1024 + (j - 1024) = source j := by
  unfold source; split_ifs <;> omega

theorem source7 {j : ℕ} (h0 : ¬j < 1024) (h1 : ¬j - 1024 < 1024) (a : j - 1024 - 1024 < 1024) : 2048 + (j - 1024 - 1024) = source j := by
  unfold source; split_ifs <;> omega

theorem source12 {j : ℕ} (h0 : ¬j < 1024) (h1 : ¬j - 1024 < 1024) (h2 : ¬j - 1024 - 1024 < 1024) (a : j - 1024 - 1024 - 1024 < 1024) : 5136 + (j - 1024 - 1024 - 1024) = source j := by
  unfold source; split_ifs <;> omega

theorem source13 {j : ℕ} (h0 : ¬j < 1024) (h1 : ¬j - 1024 < 1024) (h2 : ¬j - 1024 - 1024 < 1024) (h3 : ¬j - 1024 - 1024 - 1024 < 1024) (a : j - 1024 - 1024 - 1024 - 1024 < 256) : 6160 + (j - 1024 - 1024 - 1024 - 1024) = source j := by
  unfold source; split_ifs <;> omega

theorem source14 {j : ℕ} (h0 : ¬j < 1024) (h1 : ¬j - 1024 < 1024) (h2 : ¬j - 1024 - 1024 < 1024) (h3 : ¬j - 1024 - 1024 - 1024 < 1024) (h4 : ¬j - 1024 - 1024 - 1024 - 1024 < 256) (a : j - 1024 - 1024 - 1024 - 1024 - 256 < 256) : 6416 + (j - 1024 - 1024 - 1024 - 1024 - 256) = source j := by
  unfold source; split_ifs <;> omega

theorem source8 {j : ℕ} (h0 : ¬j < 1024) (h1 : ¬j - 1024 < 1024) (h2 : ¬j - 1024 - 1024 < 1024) (h3 : ¬j - 1024 - 1024 - 1024 < 1024) (h4 : ¬j - 1024 - 1024 - 1024 - 1024 < 256) (h5 : ¬j - 1024 - 1024 - 1024 - 1024 - 256 < 256) (a : j - 1024 - 1024 - 1024 - 1024 - 256 - 256 < 1024) : 3072 + (j - 1024 - 1024 - 1024 - 1024 - 256 - 256) = source j := by
  unfold source; split_ifs <;> omega

theorem source11 {j : ℕ} (h0 : ¬j < 1024) (h1 : ¬j - 1024 < 1024) (h2 : ¬j - 1024 - 1024 < 1024) (h3 : ¬j - 1024 - 1024 - 1024 < 1024) (h4 : ¬j - 1024 - 1024 - 1024 - 1024 < 256) (h5 : ¬j - 1024 - 1024 - 1024 - 1024 - 256 < 256) (h6 : ¬j - 1024 - 1024 - 1024 - 1024 - 256 - 256 < 1024) (a : j - 1024 - 1024 - 1024 - 1024 - 256 - 256 - 1024 < 1024) : 4112 + (j - 1024 - 1024 - 1024 - 1024 - 256 - 256 - 1024) = source j := by
  unfold source; split_ifs <;> omega

theorem sideBySide_at (W : Fin 1024 → Fin 6688 → EReal) (p5 p6 p7 p12 : FVec Ideal S1024x1024 .f32) (p13 p14 : FVec Ideal S1024x256 .f32) (p8 p11 : FVec Ideal S1024x1024 .f32)
    (p10 : FVec Ideal S1024x8 .f32) (p15 : FVec Ideal S1024x16 .f32) (p9 : FVec Ideal S1024x8 .f32) (p16 : FVec Ideal S1024x96 .f32)
    (k : Fin 1024)
    (h5 : ∀ j : Fin 1024, p5 (ix2 k j) = W k ⟨0 + j.val, by omega⟩)
    (h6 : ∀ j : Fin 1024, p6 (ix2 k j) = W k ⟨1024 + j.val, by omega⟩)
    (h7 : ∀ j : Fin 1024, p7 (ix2 k j) = W k ⟨2048 + j.val, by omega⟩)
    (h12 : ∀ j : Fin 1024, p12 (ix2 k j) = W k ⟨5136 + j.val, by omega⟩)
    (h13 : ∀ j : Fin 256, p13 (ix2 k j) = W k ⟨6160 + j.val, by omega⟩)
    (h14 : ∀ j : Fin 256, p14 (ix2 k j) = W k ⟨6416 + j.val, by omega⟩)
    (h8 : ∀ j : Fin 1024, p8 (ix2 k j) = W k ⟨3072 + j.val, by omega⟩)
    (h11 : ∀ j : Fin 1024, p11 (ix2 k j) = W k ⟨4112 + j.val, by omega⟩)
    (j : Fin 6784) (hj : j.val < 6656) (v : EReal) (hv : ∀ n : Fin 6688, n.val = source j.val → W k n = v) :
    sideBySide p5 p6 p7 p12 p13 p14 p8 p11 p10 p15 p9 p16 (ix2 k j) = v := by
  pointwise! [sideBySide]
  exact either (fun a => (h5 _).trans (hv _ (source5  a))) (fun a5 =>
    either (fun a => (h6 _).trans (hv _ (source6 a5 a))) (fun a6 =>
    either (fun a => (h7 _).trans (hv _ (source7 a5 a6 a))) (fun a7 =>
    either (fun a => (h12 _).trans (hv _ (source12 a5 a6 a7 a))) (fun a12 =>
    either (fun a => (h13 _).trans (hv _ (source13 a5 a6 a7 a12 a))) (fun a13 =>
    either (fun a => (h14 _).trans (hv _ (source14 a5 a6 a7 a12 a13 a))) (fun a14 =>
    either (fun a => (h8 _).trans (hv _ (source8 a5 a6 a7 a12 a13 a14 a))) (fun a8 =>
    either (fun a => (h11 _).trans (hv _ (source11 a5 a6 a7 a12 a13 a14 a8 a))) (fun a11 =>
    (by exfalso; omega)))))))))

theorem blk2 (t : Fin cfg0.N) (k : Fin 1024) (j : Fin 6784) (hj : j.val < 6656) (v : EReal)
    (hv : ∀ n : Fin 6688, n.val = source j.val → W2 m c k n = v) :
    (iblk (F := Ideal) m c 2 t : FVec Ideal S1024x6784 .bf16) (ix2 k j) = v := by
  have e : (win0_2.blk t).view.emb (ix2 k j : (⟨2, ![1024, 6784]⟩ : Shape).Idx) = ix2 k j := by blk_ext [idx t]
  have f : (iblk (F := Ideal) m c 2 t : FVec Ideal S1024x6784 .bf16) (ix2 k j) = (V m c main_v18 : FVec Ideal S1024x6784 .bf16) (ix2 k j) := by
    blk_simp [iblk]
    exact congrArg _ e
  refine f.trans ((congrFun (weights_eq m c) _).trans ?_)
  exact sideBySide_at (W2 m c) _ _ _ _ _ _ _ _ _ _ _ _ k (piece5 m c k) (piece6 m c k) (piece7 m c k) (piece12 m c k) (piece13 m c k)
    (piece14 m c k) (piece8 m c k) (piece11 m c k) j hj v hv

/-- The columns the convolution runs over. -/
abbrev Wc : Fin 1024 → Fin 4608 → EReal := fun k j => W2 m c k (convCol j)

theorem conv_cols (t : Fin cfg0.N) : colsFrom (iblk (F := Ideal) m c 2 t) 0 4608 (by decide) = Wc m c := by
  funext k j
  refine blk2 m c t k _ (by have := j.isLt; simp only []; omega) _ fun n hn => congrArg (W2 m c k) (Fin.ext (hn.trans ?_))
  have := j.isLt
  unfold source convCol
  simp only []
  split_ifs <;> first | (exfalso; omega) | (simp only []; omega)

theorem gate_cols (t : Fin cfg0.N) (j : Fin 2048) (k : Fin 1024) :
    colsFrom (iblk (F := Ideal) m c 2 t) 4608 2048 (by decide) k j = W2 m c k (gateCol j) := by
  refine blk2 m c t k _ (by have := j.isLt; simp only []; omega) _ fun n hn => congrArg (W2 m c k) (Fin.ext (hn.trans ?_))
  have := j.isLt
  unfold source gateCol
  simp only []
  split_ifs <;> first | (exfalso; omega) | (simp only []; omega)

/-- The batch element and the tile of a grid point. -/
abbrev bat (t : Fin cfg0.N) : Fin 32 := ⟨t.val / 8, by have := ptlt t; omega⟩

/-- A row of the tile staged at a grid point is the sequence's row there. -/
theorem tile_eq (t : Fin cfg0.N) (r : Fin 256) :
    tileRow (iblk (F := Ideal) m c 0 t) r = X m c (bat t) ⟨t.val % 8 * 256 + r.val, by have := ptlt t; omega⟩ :=
  funext fun l => blk0 m c t 0 r l

/-- The tile's own rows of the convolution are the projection at their places. -/
theorem seq_own (t : Fin cfg0.N) (C : Fin 8 → Fin 4608 → EReal) (q : ℕ) (h8 : 8 ≤ q) (hq : q < 264) (j : Fin 4608) :
    seq (iblk (F := Ideal) m c 0 t) (iblk (F := Ideal) m c 1 t) (iblk (F := Ideal) m c 2 t) C q j
      = past (X m c (bat t)) (W1 m c) (Wc m c) (t.val % 8 * 256 + (q - 5)) j := by
  have := ptlt t
  unfold seq past
  rw [dif_neg (by omega), dif_pos (by omega), dif_pos (by omega)]
  rw [tile_eq, show lane (iblk (F := Ideal) m c 1 t) = W1 m c from funext fun l => blk1 m c t 0 l, conv_cols]
  congr 2
  apply Fin.ext
  simp only
  omega

/-- All the rows the convolution of a tile reads, once the three carried ones it reads are known. -/
theorem seq_all (t : Fin cfg0.N) (C : Fin 8 → Fin 4608 → EReal)
    (hC : ∀ (q : Fin 8) (j : Fin 4608), 5 ≤ q.val → C q j = past (X m c (bat t)) (W1 m c) (Wc m c) (t.val % 8 * 256 + (q.val - 5)) j)
    (q : ℕ) (h5 : 5 ≤ q) (hq : q < 264) (j : Fin 4608) :
    seq (iblk (F := Ideal) m c 0 t) (iblk (F := Ideal) m c 1 t) (iblk (F := Ideal) m c 2 t) C q j
      = past (X m c (bat t)) (W1 m c) (Wc m c) (t.val % 8 * 256 + (q - 5)) j := by
  by_cases h : q < 8
  · refine Eq.trans ?_ (hC ⟨q, h⟩ j h5)
    unfold seq
    rw [dif_pos h]
  · exact seq_own m c t C q (by omega) hq j

/-- The rows carried out of a grid point: the last eight of its tile. -/
theorem carry_eq (t : Fin cfg0.N) (r : Fin 264) (hr : r.val < 8) (j : Fin 4608) :
    (outsAt0 (F := Ideal) m c t.val t.isLt).2.2 (ix2 r j)
      = past (X m c (bat t)) (W1 m c) (Wc m c) (t.val % 8 * 256 + (256 + r.val - 5)) j := by
  by_cases h : t.val % 8 = 0
  · rw [outsAt0_A m c t h]
    dsimp only
    exact (First.carry_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((hcond0_0 t).mpr h) r hr j).trans (seq_own m c t _ (256 + r.val) (by omega) (by omega) j)
  · rw [outsAt0_B m c t h]
    dsimp only
    exact (Later.carry_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (fun q => h ((hcond0_0 t).mp q)) (outsAt0 m c (t.val - 1) (Nat.lt_of_le_of_lt (Nat.sub_le _ _) t.isLt)).2.2 r hr j).trans (seq_own m c t _ (256 + r.val) (by omega) (by omega) j)

/-- A tile's activated columns are their places', once the rows its convolution reads are the projection at theirs. -/
theorem tile_result (t : Fin cfg0.N) (S : ℕ → Fin 4608 → EReal)
    (hS : ∀ (q : ℕ) (_ : 5 ≤ q) (_ : q < 264) (j : Fin 4608), S q j = past (X m c (bat t)) (W1 m c) (Wc m c) (t.val % 8 * 256 + (q - 5)) j)
    (r : Fin 256) (j : Fin 4608) :
    units (actTile (iblk (F := Ideal) m c 3 t) (iblk (F := Ideal) m c 4 t) S r) j
      = actResult (X m c (bat t)) (W1 m c) (W2 m c) (T3 m c) (T4 m c) (B5 m c) ⟨t.val % 8 * 256 + r.val, by have := ptlt t; omega⟩ j := by
  have := ptlt t
  unfold actResult
  refine congrArg (fun f => units f j) (funext fun j => ?_)
  unfold actTile actAt
  rw [hS (5 + r.val) (by omega) (by omega), hS (6 + r.val) (by omega) (by omega), hS (7 + r.val) (by omega) (by omega),
    hS (8 + r.val) (by omega) (by omega),
    blk4 m c t 0 j, blk3 m c t 0 j, blk3 m c t 1 j, blk3 m c t 2 j, blk3 m c t 3 j,
    show t.val % 8 * 256 + (5 + r.val - 5) = t.val % 8 * 256 + r.val by omega,
    show t.val % 8 * 256 + (6 + r.val - 5) = t.val % 8 * 256 + r.val + 1 by omega,
    show t.val % 8 * 256 + (7 + r.val - 5) = t.val % 8 * 256 + r.val + 2 by omega,
    show t.val % 8 * 256 + (8 + r.val - 5) = t.val % 8 * 256 + r.val + 3 by omega]

/-- What a grid point leaves in its block of the first result. -/
theorem act_eq (t : Fin cfg0.N) (z : Fin 1) (r : Fin 256) (j : Fin 4608) :
    (outsAt0 (F := Ideal) m c t.val t.isLt).1 (ix3 z r j)
      = actResult (X m c (bat t)) (W1 m c) (W2 m c) (T3 m c) (T4 m c) (B5 m c) ⟨t.val % 8 * 256 + r.val, by have := ptlt t; omega⟩ j := by
  have := ptlt t
  by_cases h : t.val % 8 = 0
  · rw [outsAt0_A m c t h]
    dsimp only
    refine (First.act_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((hcond0_0 t).mpr h) z r j).trans (tile_result m c t _ (seq_all m c t _ fun q j h5 => ?_) r j)
    unfold past
    rw [dif_neg (by omega)]
  · rw [outsAt0_B m c t h]
    dsimp only
    refine (Later.act_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (fun q => h ((hcond0_0 t).mp q)) (outsAt0 m c (t.val - 1) (Nat.lt_of_le_of_lt (Nat.sub_le _ _) t.isLt)).2.2 z r j).trans (tile_result m c t _ (seq_all m c t _ fun q j h5 => ?_) r j)
    refine (carry_eq m c ⟨t.val - 1, Nat.lt_of_le_of_lt (Nat.sub_le _ _) t.isLt⟩ ⟨q.val, by omega⟩ q.isLt j).trans ?_
    rw [show bat ⟨t.val - 1, Nat.lt_of_le_of_lt (Nat.sub_le _ _) t.isLt⟩ = bat t from Fin.ext (by simp only; omega),
      show (t.val - 1) % 8 * 256 + (256 + q.val - 5) = t.val % 8 * 256 + (q.val - 5) by omega]

/-- The gates of a row of the tile. -/
theorem row_gate (t : Fin cfg0.N) (r : Fin 256) (j : Fin 2048) :
    projRow (lane (iblk (F := Ideal) m c 1 t)) (tileRow (iblk (F := Ideal) m c 0 t) r) (colsFrom (iblk (F := Ideal) m c 2 t) 4608 2048 (by decide)) j
      = gateResult (X m c (bat t)) (W1 m c) (W2 m c) ⟨t.val % 8 * 256 + r.val, by have := ptlt t; omega⟩ j := by
  rw [tile_eq, show lane (iblk (F := Ideal) m c 1 t) = W1 m c from funext fun l => blk1 m c t 0 l]
  unfold gateResult projRow
  exact Finset.sum_congr rfl fun k _ => congrArg _ (gate_cols m c t j k)

/-- What a grid point leaves in its block of the second result. -/
theorem gate_eq (t : Fin cfg0.N) (z : Fin 1) (r : Fin 256) (j : Fin 2048) :
    (outsAt0 (F := Ideal) m c t.val t.isLt).2.1 (ix3 z r j)
      = gateResult (X m c (bat t)) (W1 m c) (W2 m c) ⟨t.val % 8 * 256 + r.val, by have := ptlt t; omega⟩ j := by
  by_cases h : t.val % 8 = 0
  · rw [outsAt0_A m c t h]
    dsimp only
    exact (First.gate_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) ((hcond0_0 t).mpr h) z r j).trans (row_gate m c t r j)
  · rw [outsAt0_B m c t h]
    dsimp only
    exact (Later.gate_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (fun q => h ((hcond0_0 t).mp q)) (outsAt0 m c (t.val - 1) (Nat.lt_of_le_of_lt (Nat.sub_le _ _) t.isLt)).2.2 z r j).trans (row_gate m c t r j)

/-- The two whole results of the kernel, as functions of the arguments. -/
def wholeAct : FVec Ideal S32x2048x4608 .f32 := fun i =>
  actResult (X m c (i 0)) (W1 m c) (W2 m c) (T3 m c) (T4 m c) (B5 m c) (i 1) (i 2)

def wholeGate : FVec Ideal S32x2048x2048 .f32 := fun i => gateResult (X m c (i 0)) (W1 m c) (W2 m c) (i 1) (i 2)

theorem act_array : ((dats (F := Ideal) m 0 c).arrAt 5 cfg0.N : FVec Ideal S32x2048x4608 .f32) = wholeAct m c := by
  refine (dats m 0 c).arrAt_eq_of_covers 5 (wholeAct m c) (by decide +kernel) fun t hf y => ?_
  blk_simp
  rw [after0_5]
  obtain ⟨z, r, d, rfl⟩ : ∃ (z : Fin 1) (r : Fin 256) (d : Fin 4608), y = ix3 z r d := ⟨y 0, y 1, y 2, eq_ix3 y⟩
  refine (act_eq m c t z r d).trans ?_
  have e : (win0_5.blk t).view.emb (ix3 z r d : (⟨3, ![1, 256, 4608]⟩ : Shape).Idx)
      = ix3 (bat t) ⟨t.val % 8 * 256 + r.val, by have := ptlt t; omega⟩ d := by
    blk_ext [idx t]
  rw [e]
  rfl

theorem gate_array : ((dats (F := Ideal) m 0 c).arrAt 6 cfg0.N : FVec Ideal S32x2048x2048 .f32) = wholeGate m c := by
  refine (dats m 0 c).arrAt_eq_of_covers 6 (wholeGate m c) (by decide +kernel) fun t hf y => ?_
  blk_simp
  rw [after0_6]
  obtain ⟨z, r, d, rfl⟩ : ∃ (z : Fin 1) (r : Fin 256) (d : Fin 2048), y = ix3 z r d := ⟨y 0, y 1, y 2, eq_ix3 y⟩
  refine (gate_eq m c t z r d).trans ?_
  have e : (win0_6.blk t).view.emb (ix3 z r d : (⟨3, ![1, 256, 2048]⟩ : Shape).Idx)
      = ix3 (bat t) ⟨t.val % 8 * 256 + r.val, by have := ptlt t; omega⟩ d := by
    blk_ext [idx t]
  rw [e]
  rfl

end Cert.Kernel3Ideal.Front

end
-- ==== Proof.FrontRef.lean ====
/- The reference's values before the two recurrences, entry by entry: its terms cut into the projection, the two convolutions,
   the SiLU, the heads over their norms and the joined columns, each read at an index. -/
module

public import proofs.«01_k».proof.Proof.Gen.Reference3Ideal.Run
public import proofs.«01_k».proof.Proof.FrontRow
public import Idealize.ShloMosaic.Lib.Pipeline.ValueKit

@[expose] public section

set_option maxRecDepth 16384

noncomputable section

open Idealize.ShloMosaic Idealize.ShloMosaic.TcCoe Idealize.SL.Sem

namespace Cert.Reference3Ideal.Front

open Cert.Reference3Ideal Cert.Reference3Ideal.Gen Cert.Reference3Ideal.Value Cert.FrontRow
open Cert.FfnRow (normRow)

/-- The projection of the normalised input. -/
def refProj (a0 : FVec Ideal S32x2048x1024 .f32) (a1 : FVec Ideal S1x1024 .f32) (a2 : FVec Ideal S1x1024x6688 .f32) : FVec Ideal S32x2048x6688 .f32 :=
  Host.dotGeneral dot_S32x2048x1024_S1024x6688_S32x2048x6688_2_0_01_1_n_n none (mulf (mulf a0 (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf a0 a0) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ a1 shapeCasts_S1x1024_S1024)))) (shapeCast _ a2 shapeCasts_S1x1024x6688_S1024x6688)

/-- The columns of the first convolution: queries, keys, values. -/
def refCols1 (p : FVec Ideal S32x2048x6688 .f32) : FVec Ideal S32x2048x3072 .f32 :=
  ((concatenate S32x2048x3072 2 [⟨S32x2048x1024, ((extractStridedSlice S32x2048x1024 ![0, 0, 0] p slices_S32x2048x6688_S32x2048x1024_0_0_0))⟩, ⟨S32x2048x1024, ((extractStridedSlice S32x2048x1024 ![0, 0, 1024] p slices_S32x2048x6688_S32x2048x1024_0_0_1024))⟩, ⟨S32x2048x1024, ((extractStridedSlice S32x2048x1024 ![0, 0, 2048] p slices_S32x2048x6688_S32x2048x1024_0_0_2048))⟩] concatenates_S32x2048x1024_S32x2048x1024_S32x2048x1024_S32x2048x3072_d2))

/-- The columns of the second. -/
def refCols2 (p : FVec Ideal S32x2048x6688 .f32) : FVec Ideal S32x2048x1536 .f32 :=
  ((concatenate S32x2048x1536 2 [⟨S32x2048x1024, ((extractStridedSlice S32x2048x1024 ![0, 0, 5136] p slices_S32x2048x6688_S32x2048x1024_0_0_5136))⟩, ⟨S32x2048x256, ((extractStridedSlice S32x2048x256 ![0, 0, 6160] p slices_S32x2048x6688_S32x2048x256_0_0_6160))⟩, ⟨S32x2048x256, ((extractStridedSlice S32x2048x256 ![0, 0, 6416] p slices_S32x2048x6688_S32x2048x256_0_0_6416))⟩] concatenates_S32x2048x1024_S32x2048x256_S32x2048x256_S32x2048x1536_d2))

/-- The first causal convolution of `u`. -/
def refConv1 (a3 : FVec Ideal S1x4x3072 .f32) (u : FVec Ideal S32x2048x3072 .f32) : FVec Ideal S32x2048x3072 .f32 :=
  addf (addf (addf (addf (broadcastInDim S32x2048x3072 ![] bcast_S_S32x2048x3072 (constant S_ .f32 0x00000000#32)) (mulf (broadcastInDim S32x2048x3072 ![0, 1, 2] bcast_S1x1x3072_S32x2048x3072_0_1_2 (broadcastInDim S1x1x3072 ![2] bcast_S3072_S1x1x3072_2 (shapeCast _ (extractStridedSlice S1x3072 ![0, 0] (shapeCast _ a3 shapeCasts_S1x4x3072_S4x3072) slices_S4x3072_S1x3072_0_0) shapeCasts_S1x3072_S3072))) (extractStridedSlice S32x2048x3072 ![0, 0, 0] (pad S32x2051x3072 ![0, 3, 0] ![0, 0, 0] ![0, 0, 0] u (sitofp .f32 (constantI S_ 32 0#32)) pads_S32x2048x3072_S32x2051x3072_000_300_000 h_S_) slices_S32x2051x3072_S32x2048x3072_0_0_0))) (mulf (broadcastInDim S32x2048x3072 ![0, 1, 2] bcast_S1x1x3072_S32x2048x3072_0_1_2 (broadcastInDim S1x1x3072 ![2] bcast_S3072_S1x1x3072_2 (shapeCast _ (extractStridedSlice S1x3072 ![1, 0] (shapeCast _ a3 shapeCasts_S1x4x3072_S4x3072) slices_S4x3072_S1x3072_1_0) shapeCasts_S1x3072_S3072))) (extractStridedSlice S32x2048x3072 ![0, 1, 0] (pad S32x2051x3072 ![0, 3, 0] ![0, 0, 0] ![0, 0, 0] u (sitofp .f32 (constantI S_ 32 0#32)) pads_S32x2048x3072_S32x2051x3072_000_300_000 h_S_) slices_S32x2051x3072_S32x2048x3072_0_1_0))) (mulf (broadcastInDim S32x2048x3072 ![0, 1, 2] bcast_S1x1x3072_S32x2048x3072_0_1_2 (broadcastInDim S1x1x3072 ![2] bcast_S3072_S1x1x3072_2 (shapeCast _ (extractStridedSlice S1x3072 ![2, 0] (shapeCast _ a3 shapeCasts_S1x4x3072_S4x3072) slices_S4x3072_S1x3072_2_0) shapeCasts_S1x3072_S3072))) (extractStridedSlice S32x2048x3072 ![0, 2, 0] (pad S32x2051x3072 ![0, 3, 0] ![0, 0, 0] ![0, 0, 0] u (sitofp .f32 (constantI S_ 32 0#32)) pads_S32x2048x3072_S32x2051x3072_000_300_000 h_S_) slices_S32x2051x3072_S32x2048x3072_0_2_0))) (mulf (broadcastInDim S32x2048x3072 ![0, 1, 2] bcast_S1x1x3072_S32x2048x3072_0_1_2 (broadcastInDim S1x1x3072 ![2] bcast_S3072_S1x1x3072_2 (shapeCast _ (extractStridedSlice S1x3072 ![3, 0] (shapeCast _ a3 shapeCasts_S1x4x3072_S4x3072) slices_S4x3072_S1x3072_3_0) shapeCasts_S1x3072_S3072))) (extractStridedSlice S32x2048x3072 ![0, 3, 0] (pad S32x2051x3072 ![0, 3, 0] ![0, 0, 0] ![0, 0, 0] u (sitofp .f32 (constantI S_ 32 0#32)) pads_S32x2048x3072_S32x2051x3072_000_300_000 h_S_) slices_S32x2051x3072_S32x2048x3072_0_3_0))

/-- The second, with a bias. -/
def refConv2 (a4 : FVec Ideal S1x4x1536 .f32) (a5 : FVec Ideal S1x1536 .f32) (u : FVec Ideal S32x2048x1536 .f32) : FVec Ideal S32x2048x1536 .f32 :=
  addf (addf (addf (addf (addf (broadcastInDim S32x2048x1536 ![] bcast_S_S32x2048x1536 (constant S_ .f32 0x00000000#32)) (mulf (broadcastInDim S32x2048x1536 ![0, 1, 2] bcast_S1x1x1536_S32x2048x1536_0_1_2 (broadcastInDim S1x1x1536 ![2] bcast_S1536_S1x1x1536_2 (shapeCast _ (extractStridedSlice S1x1536 ![0, 0] (shapeCast _ a4 shapeCasts_S1x4x1536_S4x1536) slices_S4x1536_S1x1536_0_0) shapeCasts_S1x1536_S1536))) (extractStridedSlice S32x2048x1536 ![0, 0, 0] (pad S32x2051x1536 ![0, 3, 0] ![0, 0, 0] ![0, 0, 0] u (sitofp .f32 (constantI S_ 32 0#32)) pads_S32x2048x1536_S32x2051x1536_000_300_000 h_S_) slices_S32x2051x1536_S32x2048x1536_0_0_0))) (mulf (broadcastInDim S32x2048x1536 ![0, 1, 2] bcast_S1x1x1536_S32x2048x1536_0_1_2 (broadcastInDim S1x1x1536 ![2] bcast_S1536_S1x1x1536_2 (shapeCast _ (extractStridedSlice S1x1536 ![1, 0] (shapeCast _ a4 shapeCasts_S1x4x1536_S4x1536) slices_S4x1536_S1x1536_1_0) shapeCasts_S1x1536_S1536))) (extractStridedSlice S32x2048x1536 ![0, 1, 0] (pad S32x2051x1536 ![0, 3, 0] ![0, 0, 0] ![0, 0, 0] u (sitofp .f32 (constantI S_ 32 0#32)) pads_S32x2048x1536_S32x2051x1536_000_300_000 h_S_) slices_S32x2051x1536_S32x2048x1536_0_1_0))) (mulf (broadcastInDim S32x2048x1536 ![0, 1, 2] bcast_S1x1x1536_S32x2048x1536_0_1_2 (broadcastInDim S1x1x1536 ![2] bcast_S1536_S1x1x1536_2 (shapeCast _ (extractStridedSlice S1x1536 ![2, 0] (shapeCast _ a4 shapeCasts_S1x4x1536_S4x1536) slices_S4x1536_S1x1536_2_0) shapeCasts_S1x1536_S1536))) (extractStridedSlice S32x2048x1536 ![0, 2, 0] (pad S32x2051x1536 ![0, 3, 0] ![0, 0, 0] ![0, 0, 0] u (sitofp .f32 (constantI S_ 32 0#32)) pads_S32x2048x1536_S32x2051x1536_000_300_000 h_S_) slices_S32x2051x1536_S32x2048x1536_0_2_0))) (mulf (broadcastInDim S32x2048x1536 ![0, 1, 2] bcast_S1x1x1536_S32x2048x1536_0_1_2 (broadcastInDim S1x1x1536 ![2] bcast_S1536_S1x1x1536_2 (shapeCast _ (extractStridedSlice S1x1536 ![3, 0] (shapeCast _ a4 shapeCasts_S1x4x1536_S4x1536) slices_S4x1536_S1x1536_3_0) shapeCasts_S1x1536_S1536))) (extractStridedSlice S32x2048x1536 ![0, 3, 0] (pad S32x2051x1536 ![0, 3, 0] ![0, 0, 0] ![0, 0, 0] u (sitofp .f32 (constantI S_ 32 0#32)) pads_S32x2048x1536_S32x2051x1536_000_300_000 h_S_) slices_S32x2051x1536_S32x2048x1536_0_3_0))) (broadcastInDim S32x2048x1536 ![0, 1, 2] bcast_S1x1x1536_S32x2048x1536_0_1_2 (broadcastInDim S1x1x1536 ![2] bcast_S1536_S1x1x1536_2 (shapeCast _ a5 shapeCasts_S1x1536_S1536)))

/-- The SiLU of the first convolution's columns. -/
def refSilu1 (y : FVec Ideal S32x2048x3072 .f32) : FVec Ideal S32x2048x3072 .f32 :=
  mulf y (Host.divf (broadcastInDim S32x2048x3072 ![] bcast_S_S32x2048x3072 (constant S_ .f32 0x3F800000#32)) (addf (broadcastInDim S32x2048x3072 ![] bcast_S_S32x2048x3072 (constant S_ .f32 0x3F800000#32)) (Host.exp (Host.negf y))))

/-- The SiLU of the second's. -/
def refSilu2 (y : FVec Ideal S32x2048x1536 .f32) : FVec Ideal S32x2048x1536 .f32 :=
  ((mulf y (Host.divf (broadcastInDim S32x2048x1536 ![] bcast_S_S32x2048x1536 (constant S_ .f32 0x3F800000#32)) (addf (broadcastInDim S32x2048x1536 ![] bcast_S_S32x2048x1536 (constant S_ .f32 0x3F800000#32)) (Host.exp (Host.negf y))))))

/-- Queries over their norms, scaled. -/
def refQ (v : FVec Ideal S32x2048x1024 .f32) : FVec Ideal S32x2048x1024 .f32 :=
  ((shapeCast _ (mulf (mulf (shapeCast _ v shapeCasts_S32x2048x1024_S32x2048x8x128) (broadcastInDim S32x2048x8x128 ![0, 1, 2, 3] bcast_S32x2048x8x1_S32x2048x8x128_0_1_2_3 (Host.rsqrt (addf (broadcastInDim S32x2048x8x1 ![0, 1, 2] bcast_S32x2048x8_S32x2048x8x1_0_1_2 (Host.reduceAdd (mulf (shapeCast _ v shapeCasts_S32x2048x1024_S32x2048x8x128) (shapeCast _ v shapeCasts_S32x2048x1024_S32x2048x8x128)) (constant S_ .f32 0x00000000#32) reducesTo_S32x2048x8x128_S32x2048x8_d3 h_S_)) (broadcastInDim S32x2048x8x1 ![] bcast_S_S32x2048x8x1 (constant S_ .f32 0x358637BD#32)))))) (broadcastInDim S32x2048x8x128 ![] bcast_S_S32x2048x8x128 (constant S_ .f32 0x3DB504F3#32))) shapeCasts_S32x2048x8x128_S32x2048x1024))

/-- Keys over their norms. -/
def refK (v : FVec Ideal S32x2048x1024 .f32) : FVec Ideal S32x2048x1024 .f32 :=
  ((shapeCast _ (mulf (shapeCast _ v shapeCasts_S32x2048x1024_S32x2048x8x128) (broadcastInDim S32x2048x8x128 ![0, 1, 2, 3] bcast_S32x2048x8x1_S32x2048x8x128_0_1_2_3 (Host.rsqrt (addf (broadcastInDim S32x2048x8x1 ![0, 1, 2] bcast_S32x2048x8_S32x2048x8x1_0_1_2 (Host.reduceAdd (mulf (shapeCast _ v shapeCasts_S32x2048x1024_S32x2048x8x128) (shapeCast _ v shapeCasts_S32x2048x1024_S32x2048x8x128)) (constant S_ .f32 0x00000000#32) reducesTo_S32x2048x8x128_S32x2048x8_d3 h_S_)) (broadcastInDim S32x2048x8x1 ![] bcast_S_S32x2048x8x1 (constant S_ .f32 0x358637BD#32)))))) shapeCasts_S32x2048x8x128_S32x2048x1024))

/-- The first result: the columns joined. -/
def refAct (y : FVec Ideal S32x2048x3072 .f32) (x : FVec Ideal S32x2048x1536 .f32) : FVec Ideal S32x2048x4608 .f32 :=
  concatenate S32x2048x4608 2 [⟨S32x2048x1024, refQ (extractStridedSlice S32x2048x1024 ![0, 0, 0] y slices_S32x2048x3072_S32x2048x1024_0_0_0)⟩, ⟨S32x2048x1024, refK (extractStridedSlice S32x2048x1024 ![0, 0, 1024] y slices_S32x2048x3072_S32x2048x1024_0_0_1024)⟩, ⟨S32x2048x1024, extractStridedSlice S32x2048x1024 ![0, 0, 2048] y slices_S32x2048x3072_S32x2048x1024_0_0_2048⟩, ⟨S32x2048x1536, x⟩] concatenates_S32x2048x1024_S32x2048x1024_S32x2048x1024_S32x2048x1536_S32x2048x4608_d2

/-- The second result: the output gates. -/
def refGate (p : FVec Ideal S32x2048x6688 .f32) : FVec Ideal S32x2048x2048 .f32 :=
  concatenate S32x2048x2048 2 [⟨S32x2048x1024, (extractStridedSlice S32x2048x1024 ![0, 0, 3072] p slices_S32x2048x6688_S32x2048x1024_0_0_3072)⟩, ⟨S32x2048x1024, (extractStridedSlice S32x2048x1024 ![0, 0, 4112] p slices_S32x2048x6688_S32x2048x1024_0_0_4112)⟩] concatenates_S32x2048x1024_S32x2048x1024_S32x2048x2048_d2

/-- The reference's terms are these. -/
theorem act_eq (V0 : Valuation τ sig (Elt Ideal)) :
    (concatenate S32x2048x4608 2 [⟨S32x2048x1024, ((shapeCast _ (mulf (mulf (res_main_v65 V0) (broadcastInDim S32x2048x8x128 ![0, 1, 2, 3] bcast_S32x2048x8x1_S32x2048x8x128_0_1_2_3 (Host.rsqrt (addf (broadcastInDim S32x2048x8x1 ![0, 1, 2] bcast_S32x2048x8_S32x2048x8x1_0_1_2 (Host.reduceAdd (mulf (res_main_v65 V0) (res_main_v65 V0)) (constant S_ .f32 0x00000000#32) reducesTo_S32x2048x8x128_S32x2048x8_d3 h_S_)) (broadcastInDim S32x2048x8x1 ![] bcast_S_S32x2048x8x1 (constant S_ .f32 0x358637BD#32)))))) (broadcastInDim S32x2048x8x128 ![] bcast_S_S32x2048x8x128 (constant S_ .f32 0x3DB504F3#32))) shapeCasts_S32x2048x8x128_S32x2048x1024) : (⟨S32x2048x1024, .f32⟩ : BufTy).Contents (Elt Ideal))⟩, ⟨S32x2048x1024, ((shapeCast _ (mulf (res_main_v76 V0) (broadcastInDim S32x2048x8x128 ![0, 1, 2, 3] bcast_S32x2048x8x1_S32x2048x8x128_0_1_2_3 (Host.rsqrt (addf (broadcastInDim S32x2048x8x1 ![0, 1, 2] bcast_S32x2048x8_S32x2048x8x1_0_1_2 (Host.reduceAdd (mulf (res_main_v76 V0) (res_main_v76 V0)) (constant S_ .f32 0x00000000#32) reducesTo_S32x2048x8x128_S32x2048x8_d3 h_S_)) (broadcastInDim S32x2048x8x1 ![] bcast_S_S32x2048x8x1 (constant S_ .f32 0x358637BD#32)))))) shapeCasts_S32x2048x8x128_S32x2048x1024) : (⟨S32x2048x1024, .f32⟩ : BufTy).Contents (Elt Ideal))⟩, ⟨S32x2048x1024, ((extractStridedSlice S32x2048x1024 ![0, 0, 2048] (res_main_v61 V0) slices_S32x2048x3072_S32x2048x1024_0_0_2048) : (⟨S32x2048x1024, .f32⟩ : BufTy).Contents (Elt Ideal))⟩, ⟨S32x2048x1536, ((mulf (res_main_v118 V0) (Host.divf (broadcastInDim S32x2048x1536 ![] bcast_S_S32x2048x1536 (constant S_ .f32 0x3F800000#32)) (addf (broadcastInDim S32x2048x1536 ![] bcast_S_S32x2048x1536 (constant S_ .f32 0x3F800000#32)) (Host.exp (Host.negf (res_main_v118 V0)))))) : (⟨S32x2048x1536, .f32⟩ : BufTy).Contents (Elt Ideal))⟩] concatenates_S32x2048x1024_S32x2048x1024_S32x2048x1024_S32x2048x1536_S32x2048x4608_d2 : (⟨S32x2048x4608, .f32⟩ : BufTy).Contents (Elt Ideal))
      = refAct (refSilu1 (refConv1 (V0 (Proc.devRef .tc main_arg3)) (refCols1 (refProj (V0 (Proc.devRef .tc main_arg0)) (V0 (Proc.devRef .tc main_arg1)) (V0 (Proc.devRef .tc main_arg2))))))
          (refSilu2 (refConv2 (V0 (Proc.devRef .tc main_arg4)) (V0 (Proc.devRef .tc main_arg5)) (refCols2 (refProj (V0 (Proc.devRef .tc main_arg0)) (V0 (Proc.devRef .tc main_arg1)) (V0 (Proc.devRef .tc main_arg2)))))) := rfl

theorem gate_eq (V0 : Valuation τ sig (Elt Ideal)) :
    concatenate S32x2048x2048 2 [⟨S32x2048x1024, (extractStridedSlice S32x2048x1024 ![0, 0, 3072] (res_main_v18 V0) slices_S32x2048x6688_S32x2048x1024_0_0_3072)⟩, ⟨S32x2048x1024, (extractStridedSlice S32x2048x1024 ![0, 0, 4112] (res_main_v18 V0) slices_S32x2048x6688_S32x2048x1024_0_0_4112)⟩] concatenates_S32x2048x1024_S32x2048x1024_S32x2048x2048_d2
      = refGate (refProj (V0 (Proc.devRef .tc main_arg0)) (V0 (Proc.devRef .tc main_arg1)) (V0 (Proc.devRef .tc main_arg2))) := rfl

variable (a0 : FVec Ideal S32x2048x1024 .f32) (a1 : FVec Ideal S1x1024 .f32) (a2 : FVec Ideal S1x1024x6688 .f32)
  (a3 : FVec Ideal S1x4x3072 .f32) (a4 : FVec Ideal S1x4x1536 .f32) (a5 : FVec Ideal S1x1536 .f32)

theorem refProj_at (b : Fin 32) (s : Fin 2048) (j : Fin 6688) :
    refProj a0 a1 a2 (ix3 b s j) = projRow (fun k => a1 (ix2 0 k)) (fun k => a0 (ix3 b s k)) (fun k j => a2 (ix3 0 k j)) j := by
  pointwise [refProj, projRow, normRow]

/-- The padding's fill is zero. -/
theorem fill_zero : (FloatOps.sitofp FTy.f32 (0#32 : BitVec 32) : Ideal .f32) = 0 := by
  show ((((0#32 : BitVec 32).toInt : ℝ)) : EReal) = 0
  simp

/-- Three places before place `t` of `u`: nothing before its start. -/
def back {n : ℕ} (u : FVec Ideal ⟨3, ![32, 2048, n]⟩ .f32) (b : Fin 32) (t : ℕ) (j : Fin n) : EReal :=
  if h : 3 ≤ t ∧ t - 3 < 2048 then u (ix3 b ⟨t - 3, h.2⟩ j) else 0

/-- Inside the sequence the place itself stands three places on. -/
theorem back_here {n : ℕ} (u : FVec Ideal ⟨3, ![32, 2048, n]⟩ .f32) (b : Fin 32) (s : Fin 2048) (j : Fin n) : back u b (s.val + 3) j = u (ix3 b s j) := by
  unfold back
  rw [dif_pos (by omega)]
  rfl

theorem refConv1_at (u : FVec Ideal S32x2048x3072 .f32) (b : Fin 32) (s : Fin 2048) (j : Fin 3072) :
    refConv1 a3 u (ix3 b s j) = conv4 0 (a3 (ix3 0 0 j)) (a3 (ix3 0 1 j)) (a3 (ix3 0 2 j)) (a3 (ix3 0 3 j))
      (back u b s.val j) (back u b (s.val + 1) j) (back u b (s.val + 2) j) (back u b (s.val + 3) j) := by
  have e : ∀ w0 w1 w2 w3 p0 p1 p2 p3 : EReal, w0 * p0 + w1 * p1 + w2 * p2 + w3 * p3 = conv4 0 w0 w1 w2 w3 p0 p1 p2 p3 := by
    intros; unfold conv4; rw [zero_add]
  rw [← e, back_here, Nat.add_comm s.val 1, Nat.add_comm s.val 2]
  pointwise! [refConv1]
  rw [fill_zero]
  rfl

theorem refConv2_at (u : FVec Ideal S32x2048x1536 .f32) (b : Fin 32) (s : Fin 2048) (j : Fin 1536) :
    refConv2 a4 a5 u (ix3 b s j) = conv4 (a5 (ix2 0 j)) (a4 (ix3 0 0 j)) (a4 (ix3 0 1 j)) (a4 (ix3 0 2 j)) (a4 (ix3 0 3 j))
      (back u b s.val j) (back u b (s.val + 1) j) (back u b (s.val + 2) j) (back u b (s.val + 3) j) := by
  have e : ∀ b w0 w1 w2 w3 p0 p1 p2 p3 : EReal, w0 * p0 + w1 * p1 + w2 * p2 + w3 * p3 + b = conv4 b w0 w1 w2 w3 p0 p1 p2 p3 := by
    intros; unfold conv4; ac_rfl
  rw [← e, back_here, Nat.add_comm s.val 1, Nat.add_comm s.val 2]
  pointwise! [refConv2]
  rw [fill_zero]
  rfl

theorem refSilu1_at (y : FVec Ideal S32x2048x3072 .f32) (b : Fin 32) (s : Fin 2048) (j : Fin 3072) : refSilu1 y (ix3 b s j) = silu (y (ix3 b s j)) := by
  pointwise! [refSilu1, silu]
  simp only [zero_sub]

theorem refSilu2_at (y : FVec Ideal S32x2048x1536 .f32) (b : Fin 32) (s : Fin 2048) (j : Fin 1536) : refSilu2 y (ix3 b s j) = silu (y (ix3 b s j)) := by
  pointwise! [refSilu2, silu]
  simp only [zero_sub]

/-- A column, by its head and its lane. -/
theorem col_eq (j : Fin 1024) (h : j.val / 128 * 128 + j.val % 128 < 1024) : (⟨j.val / 128 * 128 + j.val % 128, h⟩ : Fin 1024) = j :=
  Fin.ext (by simp only; omega)

theorem refQ_at (v : FVec Ideal S32x2048x1024 .f32) (b : Fin 32) (s : Fin 2048) (j : Fin 1024) :
    refQ v (ix3 b s j) = headNorm (Ideal.ofBits .f32 0x3DB504F3#32) (fun l => v (ix3 b s ⟨j.val / 128 * 128 + l.val, by omega⟩)) ⟨j.val % 128, Nat.mod_lt _ (by decide)⟩ := by
  pointwise! [refQ, headNorm]
  rw [mul_assoc, col_eq]

theorem refK_at (v : FVec Ideal S32x2048x1024 .f32) (b : Fin 32) (s : Fin 2048) (j : Fin 1024) :
    refK v (ix3 b s j) = headNorm 1 (fun l => v (ix3 b s ⟨j.val / 128 * 128 + l.val, by omega⟩)) ⟨j.val % 128, Nat.mod_lt _ (by decide)⟩ := by
  pointwise! [refK, headNorm]
  rw [col_eq]

theorem refAct_at (y : FVec Ideal S32x2048x3072 .f32) (x : FVec Ideal S32x2048x1536 .f32) (b : Fin 32) (s : Fin 2048) (f : Fin 4608 → EReal)
    (hy : ∀ j : Fin 3072, y (ix3 b s j) = f ⟨j.val, by omega⟩) (hx : ∀ j : Fin 1536, x (ix3 b s j) = f ⟨3072 + j.val, by omega⟩) (j : Fin 4608) :
    refAct y x (ix3 b s j) = units f j := by
  have hj := j.isLt
  pointwise! [refAct]
  unfold units
  by_cases h1 : j.val < 1024
  · rw [dif_pos h1, if_pos h1]
    refine (refQ_at _ b s _).trans ?_
    refine congrArg (fun v => headNorm _ v _) (funext fun l => ?_)
    pointwise!
    exact hy _
  · rw [dif_neg h1, if_neg h1]
    by_cases h2 : j.val < 2048
    · rw [dif_pos (by omega), if_pos h2]
      refine (refK_at _ b s _).trans ?_
      have e : ∀ (n : ℕ) (hn : n < 128), n = j.val % 128 → (⟨n, hn⟩ : Fin 128) = ⟨j.val % 128, Nat.mod_lt _ (by decide)⟩ := fun n hn e => Fin.ext e
      rw [e _ _ (by simp only; omega)]
      refine congrArg (fun v => headNorm _ v _) (funext fun l => ?_)
      pointwise!
      refine (hy _).trans (congrArg f (Fin.ext ?_))
      simp only
      omega
    · rw [dif_neg (by omega), if_neg h2]
      by_cases h3 : j.val < 3072
      · rw [dif_pos (by omega)]
        exact (hy _).trans (congrArg f (Fin.ext (by simp only; omega)))
      · rw [dif_neg (by omega)]
        exact (hx _).trans (congrArg f (Fin.ext (by simp only; omega)))

theorem refCols1_at (p : FVec Ideal S32x2048x6688 .f32) (b : Fin 32) (s : Fin 2048) (j : Fin 3072) :
    refCols1 p (ix3 b s j) = p (ix3 b s ⟨j.val, by omega⟩) := by
  have e : ∀ n m : Fin 6688, n.val = m.val → p (ix3 b s n) = p (ix3 b s m) := fun n m e => congrArg (fun j => p (ix3 b s j)) (Fin.ext e)
  pointwise! [refCols1]
  split_ifs <;> exact e _ _ (by simp only <;> omega)

theorem refCols2_at (p : FVec Ideal S32x2048x6688 .f32) (b : Fin 32) (s : Fin 2048) (j : Fin 1536) :
    refCols2 p (ix3 b s j) = p (ix3 b s ⟨j.val + 5136, by omega⟩) := by
  have e : ∀ n m : Fin 6688, n.val = m.val → p (ix3 b s n) = p (ix3 b s m) := fun n m e => congrArg (fun j => p (ix3 b s j)) (Fin.ext e)
  pointwise! [refCols2]
  split_ifs <;> exact e _ _ (by simp only <;> omega)

theorem refGate_at (p : FVec Ideal S32x2048x6688 .f32) (b : Fin 32) (s : Fin 2048) (j : Fin 2048) :
    refGate p (ix3 b s j) = p (ix3 b s (gateCol j)) := by
  have e : ∀ n m : Fin 6688, n.val = m.val → p (ix3 b s n) = p (ix3 b s m) := fun n m e => congrArg (fun j => p (ix3 b s j)) (Fin.ext e)
  pointwise! [refGate]
  unfold gateCol
  split_ifs <;> exact e _ _ (by simp only <;> omega)

/-- The arguments by coordinates: a sequence, the weights, the taps, the bias. -/
abbrev sq (b : Fin 32) : Fin 2048 → Fin 1024 → EReal := fun s k => a0 (ix3 b s k)
abbrev nw : Fin 1024 → EReal := fun k => a1 (ix2 0 k)
abbrev wi : Fin 1024 → Fin 6688 → EReal := fun k j => a2 (ix3 0 k j)
abbrev t1 : Fin 4 → Fin 3072 → EReal := fun i j => a3 (ix3 0 i j)
abbrev t2 : Fin 4 → Fin 1536 → EReal := fun i j => a4 (ix3 0 i j)
abbrev b2 : Fin 1536 → EReal := fun j => a5 (ix2 0 j)

theorem back1 (b : Fin 32) (t : ℕ) (j : Fin 3072) (i : Fin 4608) (hi : i.val = j.val) :
    back (refCols1 (refProj a0 a1 a2)) b t j = past (sq a0 b) (nw a1) (fun k j => wi a2 k (convCol j)) t i := by
  unfold back past
  refine dite_congr rfl (fun h => ?_) fun _ => rfl
  refine (refCols1_at _ b _ j).trans ((refProj_at a0 a1 a2 b _ _).trans ?_)
  unfold projRow
  refine Finset.sum_congr rfl fun k _ => congrArg _ (congrArg (wi a2 k) (Fin.ext ?_))
  unfold convCol
  rw [dif_pos (by omega)]
  simp only
  omega

theorem back2 (b : Fin 32) (t : ℕ) (j : Fin 1536) (i : Fin 4608) (hi : i.val = 3072 + j.val) :
    back (refCols2 (refProj a0 a1 a2)) b t j = past (sq a0 b) (nw a1) (fun k j => wi a2 k (convCol j)) t i := by
  unfold back past
  refine dite_congr rfl (fun h => ?_) fun _ => rfl
  refine (refCols2_at _ b _ j).trans ((refProj_at a0 a1 a2 b _ _).trans ?_)
  unfold projRow
  refine Finset.sum_congr rfl fun k _ => congrArg _ (congrArg (wi a2 k) (Fin.ext ?_))
  unfold convCol
  rw [dif_neg (by omega)]
  simp only
  omega

/-- The reference's first result at an entry. -/
theorem act_at (b : Fin 32) (s : Fin 2048) (j : Fin 4608) :
    refAct (refSilu1 (refConv1 a3 (refCols1 (refProj a0 a1 a2)))) (refSilu2 (refConv2 a4 a5 (refCols2 (refProj a0 a1 a2)))) (ix3 b s j)
      = actResult (sq a0 b) (nw a1) (wi a2) (t1 a3) (t2 a4) (b2 a5) s j := by
  refine refAct_at _ _ b s _ (fun j => ?_) (fun j => ?_) j
  · have hj := j.isLt
    refine (refSilu1_at _ b s j).trans (congrArg silu ((refConv1_at a3 _ b s j).trans ?_))
    have q := fun t => back1 a0 a1 a2 b t j ⟨j.val, by omega⟩ rfl
    rw [q, q, q, q]
    have e : ∀ i, taps (t1 a3) (t2 a4) i ⟨j.val, by omega⟩ = a3 (ix3 0 i j) := fun i => by
      unfold taps
      rw [dif_pos hj]
    have e' : bias (b2 a5) ⟨j.val, by omega⟩ = 0 := by
      unfold bias
      rw [dif_pos hj]
    rw [e, e, e, e, e']
  · have hj := j.isLt
    refine (refSilu2_at _ b s j).trans (congrArg silu ((refConv2_at a4 a5 _ b s j).trans ?_))
    have q := fun t => back2 a0 a1 a2 b t j ⟨3072 + j.val, by omega⟩ rfl
    rw [q, q, q, q]
    have d : ∀ h, (⟨3072 + j.val - 3072, h⟩ : Fin 1536) = j := fun h => Fin.ext (by simp only; omega)
    have e : ∀ i, taps (t1 a3) (t2 a4) i ⟨3072 + j.val, by omega⟩ = a4 (ix3 0 i j) := fun i => by
      unfold taps
      rw [dif_neg (by simp only; omega), d]
    have e' : bias (b2 a5) ⟨3072 + j.val, by omega⟩ = a5 (ix2 0 j) := by
      unfold bias
      rw [dif_neg (by simp only; omega), d]
    rw [e, e, e, e, e']

/-- The reference's second result at an entry. -/
theorem gate_at (b : Fin 32) (s : Fin 2048) (j : Fin 2048) :
    refGate (refProj a0 a1 a2) (ix3 b s j) = gateResult (sq a0 b) (nw a1) (wi a2) s j :=
  (refGate_at _ b s j).trans (refProj_at a0 a1 a2 b s _)

end Cert.Reference3Ideal.Front

end
-- ==== Proof.FrontAlgebraic.lean ====
/- The front of the token mixers' call against its reference over the extended reals: each of the kernel's two arrays and the
   reference's result are the same function of the same arguments at every entry. -/
module

public import proofs.«01_k».proof.Defs
public import proofs.«01_k».proof.Proof.FrontArray
public import proofs.«01_k».proof.Proof.FrontRef

@[expose] public section

noncomputable section

namespace Cert.Proof

open Idealize.ShloMosaic Idealize.SL.Sem

/-- Run on equal arguments, the two programs give equal results. -/
theorem algebraic_Kernel3Ideal_Reference3Ideal : algebraic_Kernel3Ideal_Reference3Ideal := by
  intro m ρ m' ρ' _ hagree
  refine ⟨_, _, Cert.Kernel3Ideal.Value.run_blocks (F := Ideal) m ρ, ?_⟩
  refine (θ_run Cert.Reference3Ideal.defs _ _).mono (fun _ h c => ⟨?_, ?_, (h c).2.2⟩) (Cert.Reference3Ideal.Value.run (F := Ideal) m' ρ')
  · rw [(h c).1]
    obtain ⟨h0, h1, h2, h3, h4, h5⟩ := hagree c
    refine Eq.trans ?_ (Cert.Kernel3Ideal.Front.act_array m c).symm
    refine (Cert.Reference3Ideal.Front.act_eq (StableHlo.launchContents m' c)).trans ?_
    funext i
    rw [eq_ix3 i]
    refine (Cert.Reference3Ideal.Front.act_at _ _ _ _ _ _ (i 0) (i 1) (i 2)).trans ?_
    unfold Cert.Kernel3Ideal.Front.wholeAct Cert.Kernel3Ideal.Front.X Cert.Kernel3Ideal.Front.W1 Cert.Kernel3Ideal.Front.W2
      Cert.Kernel3Ideal.Front.T3 Cert.Kernel3Ideal.Front.T4 Cert.Kernel3Ideal.Front.B5
    rw [← h0, ← h1, ← h2, ← h3, ← h4, ← h5]
    rfl
  · rw [(h c).2.1]
    obtain ⟨h0, h1, h2, h3, h4, h5⟩ := hagree c
    refine Eq.trans ?_ (Cert.Kernel3Ideal.Front.gate_array m c).symm
    refine (Cert.Reference3Ideal.Front.gate_eq (StableHlo.launchContents m' c)).trans ?_
    funext i
    rw [eq_ix3 i]
    refine (Cert.Reference3Ideal.Front.gate_at _ _ _ (i 0) (i 1) (i 2)).trans ?_
    unfold Cert.Kernel3Ideal.Front.wholeGate Cert.Kernel3Ideal.Front.X Cert.Kernel3Ideal.Front.W1 Cert.Kernel3Ideal.Front.W2
    rw [← h0, ← h1, ← h2]
    rfl

end Cert.Proof

end
-- ==== Proof.BackRow.lean ====
/- The token mixers' back, one row at a time: the heads of the first mixer over their root mean squares and gated, the two groups
   of the second with its skip, gated and over theirs, the output projection of all of them. Nothing here speaks of a tile, of
   a buffer or of either program. -/
module

public import proofs.«01_k».proof.Proof.FrontRow

@[expose] public section

noncomputable section

open Idealize.ShloMosaic

namespace Cert.BackRow

open Cert.FfnRow (normRow)
open Cert.FrontRow (silu)

/-- A head `o` over its root mean square, times the learnt scale, times the SiLU of its gate. -/
def headOut (w o z : Fin 128 → EReal) (l : Fin 128) : EReal :=
  o l * Ideal.rsqrt (Ideal.div (∑ k : Fin 128, o k * o k) (Ideal.ofBits .f32 0x43000000#32) + Ideal.ofBits .f32 0x358637BD#32) * w l * silu (z l)

/-- The scan's output with its skip, times the SiLU of its gate. -/
def skip (d y x z : EReal) : EReal := (y + d * x) * silu z

/-- A group over its root mean square, times the learnt scale. -/
def groupOut (w y : Fin 512 → EReal) (l : Fin 512) : EReal :=
  y l * Ideal.rsqrt (Ideal.div (∑ k : Fin 512, y k * y k) (Ideal.ofBits .f32 0x44000000#32) + Ideal.ofBits .f32 0x358637BD#32) * w l

/-- A row read at a natural number, zero outside. -/
def ext {n : ℕ} (f : Fin n → EReal) (k : ℕ) : EReal := if h : k < n then f ⟨k, h⟩ else 0

theorem ext_at {n : ℕ} (f : Fin n → EReal) {k : ℕ} (h : k < n) : ext f k = f ⟨k, h⟩ := dif_pos h

/-- The normalised columns of both mixers side by side: `g` scales the first mixer's columns, `d` is the second's skip and `n` its
    scale by column, `o` the recurrences' outputs, `z` the gates, `a` the columns that the recurrences read. -/
def catRow (g d n : Fin 1024 → EReal) (o z : Fin 2048 → EReal) (a : Fin 4608 → EReal) (j : Fin 2048) : EReal :=
  if j.val < 1024 then
    headOut (fun l => ext g (j.val / 128 * 128 + l.val)) (fun l => ext o (j.val / 128 * 128 + l.val)) (fun l => ext z (j.val / 128 * 128 + l.val))
      ⟨j.val % 128, Nat.mod_lt _ (by decide)⟩
  else
    groupOut (fun l => ext n (j.val / 512 * 512 - 1024 + l.val))
      (fun l => skip (ext d (j.val / 512 * 512 - 1024 + l.val)) (ext o (j.val / 512 * 512 + l.val)) (ext a (j.val / 512 * 512 + 2048 + l.val))
        (ext z (j.val / 512 * 512 + l.val)))
      ⟨j.val % 512, Nat.mod_lt _ (by decide)⟩

/-- What a row `x` becomes: the projection of those columns over its root mean square, added to it. -/
def backRow (x p : Fin 1024 → EReal) (W : Fin 2048 → Fin 1024 → EReal) (cat : Fin 2048 → EReal) (e : Fin 1024) : EReal :=
  x e + normRow p (fun f => ∑ k : Fin 2048, cat k * W k f) e

/-- The result at one place: the first mixer's scale is the same for each head, the second's skip the same over the 64 columns of
    each of its heads. -/
def result (x : Fin 1024 → EReal) (a : Fin 4608 → EReal) (z o : Fin 2048 → EReal) (g : Fin 128 → EReal) (d : Fin 16 → EReal)
    (n : Fin 1024 → EReal) (W : Fin 2048 → Fin 1024 → EReal) (p : Fin 1024 → EReal) (e : Fin 1024) : EReal :=
  backRow x p W (catRow (fun j => g ⟨j.val % 128, Nat.mod_lt _ (by decide)⟩) (fun j => d ⟨j.val / 64, by omega⟩) n o z a) e

end Cert.BackRow

end
-- ==== Proof.BackTile.lean ====
/- The body of the token mixers' back on one tile of 256 rows: the values its statements store, at an entry, and the stores of
   the normalised columns as a list made by recursion over the heads and the groups. -/
module

public import proofs.«01_k».proof.Proof.Gen.Kernel4Ideal.Frame
public import proofs.«01_k».proof.Proof.FrontOut
public import proofs.«01_k».proof.Proof.BackRow

@[expose] public section

set_option maxRecDepth 16384

noncomputable section

open Idealize.ShloMosaic Idealize.ShloMosaic.TcCoe Idealize.SL.Sem

namespace Cert.Kernel4Ideal.Back

open Cert.Kernel4Ideal Cert.Kernel4Ideal.Gen Cert.BackRow
open Cert.FfnRow (normRow)
open Cert.FrontRow (silu)
open Cert.Kernel2Ideal.Ffn (ld2 ld3 ldw inb2 lane mat)
open Cert.Kernel3Ideal.Front (leaves_canon on2 off2 cov2 plane_at)

/-- Row `r` of a tile, by lane. -/
abbrev row {n : ℕ} (x : FVec Ideal ⟨3, ![1, 256, n]⟩ .f32) (r : Fin 256) : Fin n → EReal := fun l => x (ix3 0 r l)

/-! ## The payloads at an entry -/

theorem pay1_at (v : FVec Ideal S256x1024 .f32) (z : Fin 1) (r : Fin 256) (j : Fin 1024) :
    k0_pay1 (F := Ideal) v (ix3 z r j) = v (ix2 r j) := by
  pointwise [k0_pay1]

theorem pay2_at (v : FVec Ideal S1x256x4608 .f32) (r : Fin 256) (j : Fin 4608) :
    k0_pay2 (F := Ideal) v (ix2 r j) = v (ix3 0 r j) := by
  pointwise [k0_pay2]

theorem pay3_at (v : FVec Ideal S1x256x2048 .f32) (r : Fin 256) (j : Fin 2048) :
    k0_pay3 (F := Ideal) v (ix2 r j) = v (ix3 0 r j) := by
  pointwise [k0_pay3]

theorem pay12_at (o : FVec Ideal S256x128 .f32) (w : FVec Ideal S1x128 .f32) (z : FVec Ideal S256x128 .f32) (r : Fin 256) (l : Fin 128) :
    k0_pay12 (F := Ideal) o w z (ix2 r l) = headOut (lane w) (fun k => o (ix2 r k)) (fun k => z (ix2 r k)) l := by
  pointwise [k0_pay12, headOut, silu]

theorem pay23_at (x y : FVec Ideal S256x512 .f32) (d : FVec Ideal S1x512 .f32) (z : FVec Ideal S256x512 .f32) (r : Fin 256) (l : Fin 512) :
    k0_pay23 (F := Ideal) x y d z (ix2 r l) = skip (d (ix2 0 l)) (y (ix2 r l)) (x (ix2 r l)) (z (ix2 r l)) := by
  pointwise [k0_pay23, skip, silu]

theorem pay24_at (y : FVec Ideal S256x512 .f32) (w : FVec Ideal S1x512 .f32) (r : Fin 256) (l : Fin 512) :
    k0_pay24 (F := Ideal) y w (ix2 r l) = groupOut (lane w) (fun k => y (ix2 r k)) l := by
  pointwise [k0_pay24, groupOut]

theorem pay29_at (x : FVec Ideal S1x256x1024 .f32) (C : FVec Ideal S256x2048 .bf16) (W : FVec Ideal S2048x1024 .bf16) (p : FVec Ideal S1x1024 .f32)
    (r : Fin 256) (e : Fin 1024) :
    k0_pay29 (F := Ideal) (k0_pay5 x) C W p (ix2 r e) = backRow (row x r) (lane p) (mat W) (fun k => C (ix2 r k)) e := by
  pointwise [k0_pay29, k0_pay5, backRow, normRow]

/-! ## The stores -/

variable {sig' : RefSig} {κ : Kind} {sp : Space}

/-- A block copied whole into a scratch. -/
theorem whole_at {a b : ℕ} {e : EltTy} (i) (w : (⟨2, ![a, b]⟩ : Shape).Idx → Elt Ideal e) (r : Fin a) (j : Fin b) :
    View.canon [(⟨Rect.unit (s := ⟨2, ![a, b]⟩) ![0, 0] ![a, b] i, w⟩ : View.Piece (Elt Ideal) ⟨2, ![a, b]⟩ e)] (ix2 r j) = w (ix2 r j) := by
  refine (on2 leaves_canon i w [] r j ⟨by omega, by have := r.isLt; omega⟩ ⟨by omega, by have := j.isLt; omega⟩).trans ?_
  exact congrArg₂ (fun p q => w (ix2 p q)) (Fin.ext (by simp)) (Fin.ext (by simp))

/-- The columns that the recurrences read, copied into the scratch; their outputs and the gates likewise. -/
def held {a3 : Memref sig' κ sp S1x256x4608 .f32} (h3 : a3.IsWhole) (x1 : FVec Ideal S1x256x4608 .f32) : List (View.Piece (Elt Ideal) S256x4608 .f32) :=
  [⟨Rect.unit (s := S256x4608) ![0, 0] S256x4608.size inb_S256x4608_S256x4608_0_0, k0_pay2 (F := Ideal) (View.readAt (Elt Ideal) a3.view
    (Rect.unit (s := S1x256x4608) ![0, 0, 0] S1x256x4608.size inb_S1x256x4608_S1x256x4608_0_0_0).toLoadRect (h3.unread x1))⟩]

def held2 {a4 : Memref sig' κ sp S1x256x2048 .f32} (h4 : a4.IsWhole) (x2 : FVec Ideal S1x256x2048 .f32) : List (View.Piece (Elt Ideal) S256x2048 .f32) :=
  [⟨Rect.unit (s := S256x2048) ![0, 0] S256x2048.size inb_S256x2048_S256x2048_0_0, k0_pay3 (F := Ideal) (View.readAt (Elt Ideal) a4.view
    (Rect.unit (s := S1x256x2048) ![0, 0, 0] S1x256x2048.size inb_S1x256x2048_S1x256x2048_0_0_0).toLoadRect (h4.unread x2))⟩]

theorem held_at {a3 : Memref sig' κ sp S1x256x4608 .f32} (h3 : a3.IsWhole) (x1 : FVec Ideal S1x256x4608 .f32) (v : View sig' κ sp S256x4608 .f32)
    (a n : ℕ) (ha : a + n ≤ 4608) (i) (r : Fin 256) (l : Fin n) :
    v.readCov (held h3 x1) (Rect.unit (s := S256x4608) ![0, a] ![256, n] i).toLoadRect (ix2 r l : (⟨2, ![256, n]⟩ : Shape).Idx)
      = ext (row x1 r) (a + l.val) := by
  have hl := l.isLt
  refine (cov2 v (held h3 x1) i r l (by omega) (by omega)).trans ((whole_at _ _ _ _).trans ((pay2_at _ _ _).trans ?_))
  rw [ext_at _ (by omega)]
  refine (congrFun (ld3 h3 x1 _) _).trans ?_
  exact congrArg (fun p => x1 (ix3 0 p _)) (Fin.ext (by simp))

theorem held2_at {a4 : Memref sig' κ sp S1x256x2048 .f32} (h4 : a4.IsWhole) (x2 : FVec Ideal S1x256x2048 .f32) (v : View sig' κ sp S256x2048 .f32)
    (a n : ℕ) (ha : a + n ≤ 2048) (i) (r : Fin 256) (l : Fin n) :
    v.readCov (held2 h4 x2) (Rect.unit (s := S256x2048) ![0, a] ![256, n] i).toLoadRect (ix2 r l : (⟨2, ![256, n]⟩ : Shape).Idx)
      = ext (row x2 r) (a + l.val) := by
  have hl := l.isLt
  refine (cov2 v (held2 h4 x2) i r l (by omega) (by omega)).trans ((whole_at _ _ _ _).trans ((pay3_at _ _ _).trans ?_))
  rw [ext_at _ (by omega)]
  refine (congrFun (ld3 h4 x2 _) _).trans ?_
  exact congrArg (fun p => x2 (ix3 0 p _)) (Fin.ext (by simp))

/-- A run of an argument's lanes, as loaded. -/
theorem lanes_at {a6 : Memref sig' κ sp S1x1024 .f32} (h6 : a6.IsWhole) (x4 : FVec Ideal S1x1024 .f32) (a n : ℕ) (ha : a + n ≤ 1024) (i) (z : Fin 1) (l : Fin n) :
    View.readAt (Elt Ideal) a6.view (Rect.unit (s := S1x1024) ![0, a] ![1, n] i).toLoadRect (h6.unread x4) (ix2 z l : (⟨2, ![1, n]⟩ : Shape).Idx)
      = ext (lane x4) (a + l.val) := by
  have hl := l.isLt
  refine (ld2 h6 x4 i z l (by omega) (by omega)).trans ?_
  rw [ext_at _ (by omega)]
  exact congrArg (fun p => x4 (ix2 p _)) (Subsingleton.elim _ _)

abbrev Cats := List (View.Piece (Elt Ideal) S256x2048 .bf16)

/-- The normalised columns before `a` are stored. -/
def Done (L : Cats) (a : ℕ) (G : Fin 256 → Fin 2048 → EReal) : Prop :=
  ∀ (r : Fin 256) (j : Fin 2048), j.val < a → View.canon L (ix2 r j) = G r j

variable {a3 : Memref sig' κ sp S1x256x4608 .f32} (h3 : a3.IsWhole) {a4 : Memref sig' κ sp S1x256x2048 .f32} (h4 : a4.IsWhole)
  {a5 : Memref sig' κ sp S1x256x2048 .f32} (h5 : a5.IsWhole) {a6 : Memref sig' κ sp S1x1024 .f32} (h6 : a6.IsWhole)
  {a7 : Memref sig' κ sp S1x1024 .f32} (h7 : a7.IsWhole) {a8 : Memref sig' κ sp S1x1024 .f32} (h8 : a8.IsWhole)
  (va : View sig' κ sp S256x4608 .f32) (vo vz : View sig' κ sp S256x2048 .f32)
  (x1 : FVec Ideal S1x256x4608 .f32) (x2 x3 : FVec Ideal S1x256x2048 .f32) (x4 x5 x6 : FVec Ideal S1x1024 .f32)

/-- The normalised columns of a tile's row. -/
abbrev tileCat (r : Fin 256) : Fin 2048 → EReal := catRow (lane x4) (lane x5) (lane x6) (row x3 r) (row x2 r) (row x1 r)

/-- The stores of the first `n` heads of the first mixer. -/
def heads : (n : ℕ) → n ≤ 8 → Cats
  | 0, _ => []
  | n + 1, h =>
    ⟨Rect.unit (s := S256x2048) ![0, 128 * n] S256x128.size (inb2 (by omega) (by omega)), k0_pay12 (F := Ideal)
      (vo.readCov (held2 h5 x3) (Rect.unit (s := S256x2048) ![0, 128 * n] S256x128.size (inb2 (by omega) (by omega))).toLoadRect)
      (View.readAt (Elt Ideal) a6.view (Rect.unit (s := S1x1024) ![0, 128 * n] S1x128.size (inb2 (by omega) (by omega))).toLoadRect (h6.unread x4))
      (vz.readCov (held2 h4 x2) (Rect.unit (s := S256x2048) ![0, 128 * n] S256x128.size (inb2 (by omega) (by omega))).toLoadRect)⟩
      :: heads n (by omega)

theorem heads_done (n : ℕ) (h : n ≤ 8) :
    Done (heads h4 h5 h6 vo vz x2 x3 x4 n h) (128 * n) (tileCat x1 x2 x3 x4 x5 x6) := by
  induction n with
  | zero => exact fun _ _ hj => absurd hj (Nat.not_lt_zero _)
  | succ n ih =>
    intro r j hj
    by_cases h1 : 128 * n ≤ j.val
    · refine (on2 leaves_canon _ _ _ r j ⟨by omega, by omega⟩ ⟨h1, by omega⟩).trans ((pay12_at _ _ _ _ _).trans ?_)
      have e : j.val / 128 * 128 = 128 * n := by omega
      have er : (⟨r.val - 0, by omega⟩ : Fin 256) = r := Fin.ext (by simp)
      unfold tileCat catRow
      rw [if_pos (by omega), er, e]
      congr 1
      · exact funext fun l => lanes_at h6 x4 (128 * n) 128 (by omega) _ 0 l
      · exact funext fun l => held2_at h5 x3 vo (128 * n) 128 (by omega) _ r l
      · exact funext fun l => held2_at h4 x2 vz (128 * n) 128 (by omega) _ r l
      · exact Fin.ext (by show j.val - 128 * n = j.val % 128; omega)
    · exact (off2 leaves_canon _ _ _ r j (by omega)).trans (ih (by omega) r j (by omega))

/-- The stores of all its heads and of the first `n` groups of the second mixer. -/
def groups : (n : ℕ) → n ≤ 2 → Cats
  | 0, _ => heads h4 h5 h6 vo vz x2 x3 x4 8 (le_refl 8)
  | n + 1, h =>
    ⟨Rect.unit (s := S256x2048) ![0, 1024 + 512 * n] S256x512.size (inb2 (by omega) (by omega)), k0_pay24 (F := Ideal) (k0_pay23
      (va.readCov (held h3 x1) (Rect.unit (s := S256x4608) ![0, 3072 + 512 * n] S256x512.size (inb2 (by omega) (by omega))).toLoadRect)
      (vo.readCov (held2 h5 x3) (Rect.unit (s := S256x2048) ![0, 1024 + 512 * n] S256x512.size (inb2 (by omega) (by omega))).toLoadRect)
      (View.readAt (Elt Ideal) a7.view (Rect.unit (s := S1x1024) ![0, 512 * n] S1x512.size (inb2 (by omega) (by omega))).toLoadRect (h7.unread x5))
      (vz.readCov (held2 h4 x2) (Rect.unit (s := S256x2048) ![0, 1024 + 512 * n] S256x512.size (inb2 (by omega) (by omega))).toLoadRect))
      (View.readAt (Elt Ideal) a8.view (Rect.unit (s := S1x1024) ![0, 512 * n] S1x512.size (inb2 (by omega) (by omega))).toLoadRect (h8.unread x6))⟩
      :: groups n (by omega)

theorem groups_done (n : ℕ) (h : n ≤ 2) :
    Done (groups h3 h4 h5 h6 h7 h8 va vo vz x1 x2 x3 x4 x5 x6 n h) (1024 + 512 * n) (tileCat x1 x2 x3 x4 x5 x6) := by
  induction n with
  | zero => exact heads_done h4 h5 h6 vo vz x1 x2 x3 x4 x5 x6 8 (le_refl 8)
  | succ n ih =>
    intro r j hj
    by_cases h1 : 1024 + 512 * n ≤ j.val
    · refine (on2 leaves_canon _ _ _ r j ⟨by omega, by omega⟩ ⟨h1, by omega⟩).trans ((pay24_at _ _ _ _).trans ?_)
      have e : j.val / 512 * 512 = 1024 + 512 * n := by omega
      have er : (⟨r.val - 0, by omega⟩ : Fin 256) = r := Fin.ext (by simp)
      unfold tileCat catRow
      rw [if_neg (by omega), er, e, show 1024 + 512 * n - 1024 = 512 * n by omega, show 1024 + 512 * n + 2048 = 3072 + 512 * n by omega]
      congr 1
      · exact funext fun l => lanes_at h8 x6 (512 * n) 512 (by omega) _ 0 l
      · refine funext fun l => (pay23_at _ _ _ _ _ _).trans ?_
        congr 1
        · exact lanes_at h7 x5 (512 * n) 512 (by omega) _ 0 l
        · exact held2_at h5 x3 vo (1024 + 512 * n) 512 (by omega) _ r l
        · exact held_at h3 x1 va (3072 + 512 * n) 512 (by omega) _ r l
        · exact held2_at h4 x2 vz (1024 + 512 * n) 512 (by omega) _ r l
      · exact Fin.ext (by show j.val - (1024 + 512 * n) = j.val % 512; omega)
    · exact (off2 leaves_canon _ _ _ r j (by omega)).trans (ih (by omega) r j (by omega))

end Cert.Kernel4Ideal.Back

end
-- ==== Proof.BackArray.lean ====
/- What the back's body leaves in its output block, and from its tiles to the whole array: the blocks staged at a grid point are the
   arguments' rows, so every tile gives its own rows of the result. -/
module

public import Idealize.ShloMosaic.Lib.StableHlo.RunRead
public import proofs.«01_k».proof.Proof.BackTile
public import proofs.«01_k».proof.Proof.Gen.Kernel4Ideal.Value
public import Idealize.ShloMosaic.Lib.Claim

@[expose] public section

set_option maxRecDepth 16384

noncomputable section

open Idealize.ShloMosaic Idealize.ShloMosaic.TcCoe Idealize.SL.Sem

namespace Cert.Kernel4Ideal.Back

open Cert.Kernel4Ideal Cert.Kernel4Ideal.Gen Cert.BackRow
open Cert.Kernel2Ideal.Ffn (ld2 ld3 ldw inb2 lane mat)
open Cert.Kernel3Ideal.Front (leaves_canon on2 off2 cov2 plane_at)

/-! ## A tile -/

section
variable (c : Dev nD) (i : grid0.Coords) (arg2 : Memref sig .tc .vmem S1x256x1024 .f32) (harg2 : arg2.IsWhole)
  (arg3 : Memref sig .tc .vmem S1x256x4608 .f32) (harg3 : arg3.IsWhole) (arg4 : Memref sig .tc .vmem S1x256x2048 .f32) (harg4 : arg4.IsWhole)
  (arg5 : Memref sig .tc .vmem S1x256x2048 .f32) (harg5 : arg5.IsWhole) (arg6 : Memref sig .tc .vmem S1x1024 .f32) (harg6 : arg6.IsWhole)
  (arg7 : Memref sig .tc .vmem S1x1024 .f32) (harg7 : arg7.IsWhole) (arg8 : Memref sig .tc .vmem S1x1024 .f32) (harg8 : arg8.IsWhole)
  (arg9 : Memref sig .tc .vmem S2048x1024 .bf16) (harg9 : arg9.IsWhole) (arg10 : Memref sig .tc .vmem S1x1024 .f32) (harg10 : arg10.IsWhole)
  (arg11 : Memref sig .tc .vmem S1x256x1024 .f32) (harg11 : arg11.IsWhole) (arg12 : Memref sig .tc .vmem S256x4608 .f32) (harg12 : arg12.IsWhole)
  (arg13 : Memref sig .tc .vmem S256x2048 .f32) (harg13 : arg13.IsWhole) (arg14 : Memref sig .tc .vmem S256x2048 .f32) (harg14 : arg14.IsWhole)
  (arg15 : Memref sig .tc .vmem S256x2048 .bf16) (harg15 : arg15.IsWhole)
  (x0 : FVec Ideal S1x256x1024 .f32) (x1 : FVec Ideal S1x256x4608 .f32) (x2 x3 : FVec Ideal S1x256x2048 .f32) (x4 x5 x6 : FVec Ideal S1x1024 .f32)
  (x7 : FVec Ideal S2048x1024 .bf16) (x8 : FVec Ideal S1x1024 .f32)

/-- The list of the body's stores of normalised columns is that of `BackTile`. -/
theorem cats_eq : kernelRun0_A.sl.HS3_10 (F := Ideal) c arg3 harg3 arg4 harg4 arg5 harg5 arg6 harg6 arg7 harg7 arg8 harg8 arg12 arg13 arg14 x1 x2 x3 x4 x5 x6
    = groups harg3 harg4 harg5 harg6 harg7 harg8 arg12.view arg13.view arg14.view x1 x2 x3 x4 x5 x6 2 (le_refl 2) := rfl

/-- The output block as it leaves: the projection of what was stored, loaded whole. -/
theorem out_block {sig' : RefSig} {κ : Kind} {sp : Space} {a2 : Memref sig' κ sp S1x256x1024 .f32} (h2 : a2.IsWhole) {a9 : Memref sig' κ sp S2048x1024 .bf16} (h9 : a9.IsWhole)
    {a10 : Memref sig' κ sp S1x1024 .f32} (h10 : a10.IsWhole) (v : View sig' κ sp S256x2048 .bf16) (L : Cats) (G : Fin 256 → Fin 2048 → EReal)
    (h : Done L 2048 G) (i i2 i' i9 i10) (z : Fin 1) (r : Fin 256) (e : Fin 1024) :
    View.canon [(⟨Rect.unit (s := S1x256x1024) ![0, 0, 0] S1x256x1024.size i, k0_pay1 (F := Ideal) (k0_pay29
        (k0_pay5 (View.readAt (Elt Ideal) a2.view (Rect.unit (s := S1x256x1024) ![0, 0, 0] S1x256x1024.size i2).toLoadRect (h2.unread x0)))
        (v.readCov L (Rect.unit (s := S256x2048) ![0, 0] S256x2048.size i').toLoadRect)
        (View.readAt (Elt Ideal) a9.view (Rect.unit (s := S2048x1024) ![0, 0] S2048x1024.size i9).toLoadRect (h9.unread x7))
        (View.readAt (Elt Ideal) a10.view (Rect.unit (s := S1x1024) ![0, 0] S1x1024.size i10).toLoadRect (h10.unread x8)))⟩ :
          View.Piece (Elt Ideal) S1x256x1024 .f32)] (ix3 z r e)
      = backRow (row x0 r) (lane x8) (mat x7) (G r) e := by
  refine (plane_at i _ z r e).trans ((pay1_at _ z r e).trans ((pay29_at _ _ _ _ _ _).trans ?_))
  have e2 := ld3 h2 x0 i2
  have e9 := ldw h9 x7 i9
  have e10 := ldw h10 x8 i10
  have ec : (fun k : Fin 2048 => v.readCov L (Rect.unit (s := S256x2048) ![0, 0] S256x2048.size i').toLoadRect (ix2 r k : S256x2048.Idx)) = G r :=
    funext fun k => (cov2 v L i' r k (by omega) (by omega)).trans ((h _ _ (by show 0 + k.val < 2048; omega)).trans
      (congrArg₂ G (Fin.ext (by show 0 + r.val = _; omega)) (Fin.ext (by show 0 + k.val = _; omega))))
  exact congr (congr (congr (congrArg₂ backRow (congrArg (fun q => row q r) e2) (congrArg lane e10)) (congrArg mat e9)) ec) rfl

theorem out_at (z : Fin 1) (r : Fin 256) (e : Fin 1024) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 (ix3 z r e)
      = backRow (row x0 r) (lane x8) (mat x7) (tileCat x1 x2 x3 x4 x5 x6 r) e :=
  (congrFun (View.read_writes_junk_eq_canon VO0_9 _) (ix3 z r e)).trans
    (out_block x0 x7 x8 harg2 harg9 harg10 arg15.view
      (kernelRun0_A.sl.HS3_10 (F := Ideal) c arg3 harg3 arg4 harg4 arg5 harg5 arg6 harg6 arg7 harg7 arg8 harg8 arg12 arg13 arg14 x1 x2 x3 x4 x5 x6)
      (tileCat x1 x2 x3 x4 x5 x6)
      (by rw [cats_eq]; exact groups_done harg3 harg4 harg5 harg6 harg7 harg8 arg12.view arg13.view arg14.view x1 x2 x3 x4 x5 x6 2 (le_refl 2))
      _ _ _ _ _ z r e)
end

/-! ## The whole array -/

variable (m : (ℓ : Loc nD τ sig) → Buf (Elt Ideal) ℓ) (c : Dev nD)

/-- The arguments, by coordinates. -/
abbrev X (b : Fin 32) (s : Fin 2048) : Fin 1024 → EReal := fun k => (m ((c : Thread nD τ).loc main_arg0) : FVec Ideal S32x2048x1024 .f32) (ix3 b s k)
abbrev A1 (b : Fin 32) (s : Fin 2048) : Fin 4608 → EReal := fun k => (m ((c : Thread nD τ).loc main_arg1) : FVec Ideal S32x2048x4608 .f32) (ix3 b s k)
abbrev Z2 (b : Fin 32) (s : Fin 2048) : Fin 2048 → EReal := fun k => (m ((c : Thread nD τ).loc main_arg2) : FVec Ideal S32x2048x2048 .f32) (ix3 b s k)
abbrev O3 (b : Fin 32) (s : Fin 2048) : Fin 2048 → EReal := fun k => (m ((c : Thread nD τ).loc main_arg3) : FVec Ideal S32x2048x2048 .f32) (ix3 b s k)
abbrev G4 : Fin 128 → EReal := fun k => (m ((c : Thread nD τ).loc main_arg4) : FVec Ideal S1x128 .f32) (ix2 0 k)
abbrev D5 : Fin 16 → EReal := fun k => (m ((c : Thread nD τ).loc main_arg5) : FVec Ideal S1x16 .f32) (ix2 0 k)
abbrev N6 : Fin 1024 → EReal := fun k => (m ((c : Thread nD τ).loc main_arg6) : FVec Ideal S1x1024 .f32) (ix2 0 k)
abbrev W7 : Fin 2048 → Fin 1024 → EReal := fun k e => (m ((c : Thread nD τ).loc main_arg7) : FVec Ideal S1x2048x1024 .f32) (ix3 0 k e)
abbrev P8 : Fin 1024 → EReal := fun k => (m ((c : Thread nD τ).loc main_arg8) : FVec Ideal S1x1024 .f32) (ix2 0 k)

/-- The blocks' places at every grid point. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0]
    ∧ win0_4.index t = ![0, 0] ∧ win0_5.index t = ![0, 0] ∧ win0_6.index t = ![0, 0] ∧ win0_7.index t = ![0, 0] ∧ win0_8.index t = ![0, 0]
    ∧ win0_9.index t = ![t.val / 8, t.val % 8, 0] :=
  (by decide +kernel : ∀ t : Fin grid0.N, _)

theorem ptlt (t : Fin cfg0.N) : t.val < 256 := lt_of_lt_of_eq t.isLt N_0

/-- The batch element of a grid point, and the place of a row of its tile. -/
abbrev bat (t : Fin cfg0.N) : Fin 32 := ⟨t.val / 8, by have := ptlt t; omega⟩
abbrev plc (t : Fin cfg0.N) (r : Fin 256) : Fin 2048 := ⟨t.val % 8 * 256 + r.val, by have := ptlt t; omega⟩

theorem blk0 (t : Fin cfg0.N) (z : Fin 1) (r : Fin 256) (l : Fin 1024) :
    (iblk (F := Ideal) m c 0 t : FVec Ideal S1x256x1024 .f32) (ix3 z r l) = X m c (bat t) (plc t r) l := by
  have := ptlt t
  blk_point [iblk, V, idx t]

theorem blk1 (t : Fin cfg0.N) (z : Fin 1) (r : Fin 256) (l : Fin 4608) :
    (iblk (F := Ideal) m c 1 t : FVec Ideal S1x256x4608 .f32) (ix3 z r l) = A1 m c (bat t) (plc t r) l := by
  have := ptlt t
  blk_point [iblk, V, idx t]

theorem blk2 (t : Fin cfg0.N) (z : Fin 1) (r : Fin 256) (l : Fin 2048) :
    (iblk (F := Ideal) m c 2 t : FVec Ideal S1x256x2048 .f32) (ix3 z r l) = Z2 m c (bat t) (plc t r) l := by
  have := ptlt t
  blk_point [iblk, V, idx t]

theorem blk3 (t : Fin cfg0.N) (z : Fin 1) (r : Fin 256) (l : Fin 2048) :
    (iblk (F := Ideal) m c 3 t : FVec Ideal S1x256x2048 .f32) (ix3 z r l) = O3 m c (bat t) (plc t r) l := by
  have := ptlt t
  blk_point [iblk, V, idx t]

theorem blk4 (t : Fin cfg0.N) (z : Fin 1) (j : Fin 1024) :
    (iblk (F := Ideal) m c 4 t : FVec Ideal S1x1024 .f32) (ix2 z j) = G4 m c ⟨j.val % 128, Nat.mod_lt _ (by decide)⟩ := by
  have e : (win0_4.blk t).view.emb (ix2 z j : (⟨2, ![1, 1024]⟩ : Shape).Idx) = ix2 z j := by blk_ext [idx t]
  blk_simp [iblk]
  entry_read
  refine (congrArg _ e).trans ?_
  pointwise!

theorem blk5 (t : Fin cfg0.N) (z : Fin 1) (j : Fin 1024) :
    (iblk (F := Ideal) m c 5 t : FVec Ideal S1x1024 .f32) (ix2 z j) = D5 m c ⟨j.val / 64, by omega⟩ := by
  have e : (win0_5.blk t).view.emb (ix2 z j : (⟨2, ![1, 1024]⟩ : Shape).Idx) = ix2 z j := by blk_ext [idx t]
  blk_simp [iblk]
  entry_read
  refine (congrArg _ e).trans ?_
  pointwise!

theorem blk6 (t : Fin cfg0.N) (z : Fin 1) (j : Fin 1024) :
    (iblk (F := Ideal) m c 6 t : FVec Ideal S1x1024 .f32) (ix2 z j) = N6 m c j := by
  have e : (win0_6.blk t).view.emb (ix2 z j : (⟨2, ![1, 1024]⟩ : Shape).Idx) = ix2 z j := by blk_ext [idx t]
  blk_simp [iblk]
  entry_read
  refine (congrArg _ e).trans ?_
  pointwise!

theorem blk7 (t : Fin cfg0.N) (k : Fin 2048) (j : Fin 1024) :
    (iblk (F := Ideal) m c 7 t : FVec Ideal S2048x1024 .bf16) (ix2 k j) = W7 m c k j := by
  have e : (win0_7.blk t).view.emb (ix2 k j : (⟨2, ![2048, 1024]⟩ : Shape).Idx) = ix2 k j := by blk_ext [idx t]
  blk_simp [iblk]
  entry_read
  refine (congrArg _ e).trans ?_
  pointwise!

theorem blk8 (t : Fin cfg0.N) (z : Fin 1) (j : Fin 1024) :
    (iblk (F := Ideal) m c 8 t : FVec Ideal S1x1024 .f32) (ix2 z j) = P8 m c j := by
  have e : (win0_8.blk t).view.emb (ix2 z j : (⟨2, ![1, 1024]⟩ : Shape).Idx) = ix2 z j := by blk_ext [idx t]
  blk_simp [iblk]
  entry_read
  refine (congrArg _ e).trans ?_
  pointwise!

/-- The whole result of the kernel, as a function of the arguments. -/
def whole : FVec Ideal S32x2048x1024 .f32 := fun i =>
  result (X m c (i 0) (i 1)) (A1 m c (i 0) (i 1)) (Z2 m c (i 0) (i 1)) (O3 m c (i 0) (i 1)) (G4 m c) (D5 m c) (N6 m c) (W7 m c) (P8 m c) (i 2)

/-- What a grid point leaves in its output block. -/
theorem tile_eq (t : Fin cfg0.N) (z : Fin 1) (r : Fin 256) (e : Fin 1024) :
    outsAt0 (F := Ideal) m c t (ix3 z r e)
      = result (X m c (bat t) (plc t r)) (A1 m c (bat t) (plc t r)) (Z2 m c (bat t) (plc t r)) (O3 m c (bat t) (plc t r)) (G4 m c) (D5 m c) (N6 m c)
          (W7 m c) (P8 m c) e := by
  refine (out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) z r e).trans ?_
  have e0 : row (iblk (F := Ideal) m c 0 t) r = X m c (bat t) (plc t r) := funext fun l => blk0 m c t 0 r l
  have e1 : row (iblk (F := Ideal) m c 1 t) r = A1 m c (bat t) (plc t r) := funext fun l => blk1 m c t 0 r l
  have e2 : row (iblk (F := Ideal) m c 2 t) r = Z2 m c (bat t) (plc t r) := funext fun l => blk2 m c t 0 r l
  have e3 : row (iblk (F := Ideal) m c 3 t) r = O3 m c (bat t) (plc t r) := funext fun l => blk3 m c t 0 r l
  have e4 : lane (iblk (F := Ideal) m c 4 t) = _ := funext fun l => blk4 m c t 0 l
  have e5 : lane (iblk (F := Ideal) m c 5 t) = _ := funext fun l => blk5 m c t 0 l
  have e6 : lane (iblk (F := Ideal) m c 6 t) = N6 m c := funext fun l => blk6 m c t 0 l
  have e7 : mat (φ := .bf16) (iblk (F := Ideal) m c 7 t) = W7 m c := funext fun k => funext fun j => blk7 m c t k j
  have e8 : lane (iblk (F := Ideal) m c 8 t) = P8 m c := funext fun l => blk8 m c t 0 l
  unfold result tileCat
  rw [e0, e1, e2, e3, e4, e5, e6, e7, e8]

theorem array_eq : ((dats (F := Ideal) m 0 c).arrAt 9 cfg0.N : FVec Ideal S32x2048x1024 .f32) = whole m c := by
  refine (dats m 0 c).arrAt_eq_of_covers 9 (whole m c) (by decide +kernel) fun t hf y => ?_
  blk_simp
  rw [after0_9]
  obtain ⟨z, r, d, rfl⟩ : ∃ (z : Fin 1) (r : Fin 256) (d : Fin 1024), y = ix3 z r d := ⟨y 0, y 1, y 2, eq_ix3 y⟩
  refine (tile_eq m c t z r d).trans ?_
  have e : (win0_9.blk t).view.emb (ix3 z r d : (⟨3, ![1, 256, 1024]⟩ : Shape).Idx) = ix3 (bat t) (plc t r) d := by
    have := ptlt t
    blk_ext [idx t]
  rw [e]
  rfl

end Cert.Kernel4Ideal.Back

end
-- ==== Proof.BackRef.lean ====
/- The reference's value of the token mixers' back, entry by entry: its term cut into the heads, the skip, the groups, the output
   projection and the closing normalisation, each read at an index. -/
module

public import proofs.«01_k».proof.Proof.Gen.Reference4Ideal.Run
public import proofs.«01_k».proof.Proof.BackRow
public import Idealize.ShloMosaic.Lib.Pipeline.ValueKit

@[expose] public section

set_option maxRecDepth 16384

noncomputable section

open Idealize.ShloMosaic Idealize.ShloMosaic.TcCoe Idealize.SL.Sem

namespace Cert.Reference4Ideal.Back

open Cert.Reference4Ideal Cert.Reference4Ideal.Gen Cert.Reference4Ideal.Value Cert.BackRow
open Cert.FfnRow (normRow)
open Cert.FrontRow (silu)

/-! ## The term in parts -/

/-- The first or the second 1024 columns of a row of 2048. -/
abbrev left (v : FVec Ideal S32x2048x2048 .f32) : FVec Ideal S32x2048x1024 .f32 :=
  extractStridedSlice S32x2048x1024 ![0, 0, 0] v slices_S32x2048x2048_S32x2048x1024_0_0_0
abbrev right (v : FVec Ideal S32x2048x2048 .f32) : FVec Ideal S32x2048x1024 .f32 :=
  extractStridedSlice S32x2048x1024 ![0, 0, 1024] v slices_S32x2048x2048_S32x2048x1024_0_0_1024

/-- Columns as heads. -/
abbrev byHead (v : FVec Ideal S32x2048x1024 .f32) : FVec Ideal S32x2048x8x128 .f32 := shapeCast _ v shapeCasts_S32x2048x1024_S32x2048x8x128

/-- The heads over their root mean squares, scaled. -/
def normHeads (o : FVec Ideal S32x2048x8x128 .f32) (g : FVec Ideal S1x128 .f32) : FVec Ideal S32x2048x8x128 .f32 :=
  mulf (mulf o (broadcastInDim S32x2048x8x128 ![0, 1, 2, 3] bcast_S32x2048x8x1_S32x2048x8x128_0_1_2_3
      (Host.rsqrt (addf (Host.divf (broadcastInDim S32x2048x8x1 ![0, 1, 2] bcast_S32x2048x8_S32x2048x8x1_0_1_2
          (Host.reduceAdd (mulf o o) (constant S_ .f32 0x00000000#32) reducesTo_S32x2048x8x128_S32x2048x8_d3 h_S_))
        (broadcastInDim S32x2048x8x1 ![] bcast_S_S32x2048x8x1 (constant S_ .f32 0x43000000#32)))
        (broadcastInDim S32x2048x8x1 ![] bcast_S_S32x2048x8x1 (constant S_ .f32 0x358637BD#32))))))
    (broadcastInDim S32x2048x8x128 ![0, 1, 2, 3] bcast_S1x1x1x128_S32x2048x8x128_0_1_2_3
      (broadcastInDim S1x1x1x128 ![3] bcast_S128_S1x1x1x128_3 (shapeCast _ g shapeCasts_S1x128_S128)))

/-- The SiLU of the gates, by heads. -/
def siluHeads (z : FVec Ideal S32x2048x8x128 .f32) : FVec Ideal S32x2048x8x128 .f32 :=
  mulf z (Host.divf (broadcastInDim S32x2048x8x128 ![] bcast_S_S32x2048x8x128 (constant S_ .f32 0x3F800000#32))
    (addf (broadcastInDim S32x2048x8x128 ![] bcast_S_S32x2048x8x128 (constant S_ .f32 0x3F800000#32)) (Host.exp (Host.negf z))))

/-- The SiLU of the gates, by columns. -/
def siluCols (z : FVec Ideal S32x2048x1024 .f32) : FVec Ideal S32x2048x1024 .f32 :=
  mulf z (Host.divf (broadcastInDim S32x2048x1024 ![] bcast_S_S32x2048x1024 (constant S_ .f32 0x3F800000#32))
    (addf (broadcastInDim S32x2048x1024 ![] bcast_S_S32x2048x1024 (constant S_ .f32 0x3F800000#32)) (Host.exp (Host.negf z))))

/-- The scan's outputs with their skip. -/
def skips (a : FVec Ideal S32x2048x4608 .f32) (o : FVec Ideal S32x2048x2048 .f32) (d : FVec Ideal S1x16 .f32) : FVec Ideal S32x2048x1024 .f32 :=
  shapeCast _ (addf (shapeCast _ (right o) shapeCasts_S32x2048x1024_S32x2048x2x8x64)
    (mulf (broadcastInDim S32x2048x2x8x64 ![0, 1, 2, 3, 4] bcast_S1x1x2x8x1_S32x2048x2x8x64_0_1_2_3_4
        (broadcastInDim S1x1x2x8x1 ![2, 3, 4] bcast_S2x8x1_S1x1x2x8x1_2_3_4
          (broadcastInDim S2x8x1 ![0, 1] bcast_S2x8_S2x8x1_0_1 (shapeCast _ (shapeCast S16 d shapeCasts_S1x16_S16) shapeCasts_S16_S2x8))))
      (shapeCast _ (extractStridedSlice S32x2048x1024 ![0, 0, 3072] a slices_S32x2048x4608_S32x2048x1024_0_0_3072)
        shapeCasts_S32x2048x1024_S32x2048x2x8x64))) shapeCasts_S32x2048x2x8x64_S32x2048x1024

/-- Columns as groups. -/
abbrev byGroup (v : FVec Ideal S32x2048x1024 .f32) : FVec Ideal S32x2048x2x512 .f32 := shapeCast _ v shapeCasts_S32x2048x1024_S32x2048x2x512

/-- The groups over their root mean squares, scaled. -/
def normGroups (y : FVec Ideal S32x2048x2x512 .f32) (n : FVec Ideal S1x1024 .f32) : FVec Ideal S32x2048x2x512 .f32 :=
  mulf (mulf y (broadcastInDim S32x2048x2x512 ![0, 1, 2, 3] bcast_S32x2048x2x1_S32x2048x2x512_0_1_2_3
      (Host.rsqrt (addf (Host.divf (broadcastInDim S32x2048x2x1 ![0, 1, 2] bcast_S32x2048x2_S32x2048x2x1_0_1_2
          (Host.reduceAdd (mulf y y) (constant S_ .f32 0x00000000#32) reducesTo_S32x2048x2x512_S32x2048x2_d3 h_S_))
        (broadcastInDim S32x2048x2x1 ![] bcast_S_S32x2048x2x1 (constant S_ .f32 0x44000000#32)))
        (broadcastInDim S32x2048x2x1 ![] bcast_S_S32x2048x2x1 (constant S_ .f32 0x358637BD#32))))))
    (broadcastInDim S32x2048x2x512 ![0, 1, 2, 3] bcast_S1x1x2x512_S32x2048x2x512_0_1_2_3
      (broadcastInDim S1x1x2x512 ![2, 3] bcast_S2x512_S1x1x2x512_2_3 (shapeCast _ (shapeCast S1024 n shapeCasts_S1x1024_S1024) shapeCasts_S1024_S2x512)))

/-- The output projection. -/
def mixed (u v : FVec Ideal S32x2048x1024 .f32) (W : FVec Ideal S1x2048x1024 .f32) : FVec Ideal S32x2048x1024 .f32 :=
  Host.dotGeneral dot_S32x2048x2048_S2048x1024_S32x2048x1024_2_0_01_1_n_n none
    (concatenate S32x2048x2048 2 [⟨S32x2048x1024, u⟩, ⟨S32x2048x1024, v⟩] concatenates_S32x2048x1024_S32x2048x1024_S32x2048x2048_d2)
    (shapeCast S2048x1024 W shapeCasts_S1x2048x1024_S2048x1024)

/-- The closing normalisation and the residual. -/
def closing (x q : FVec Ideal S32x2048x1024 .f32) (p : FVec Ideal S1x1024 .f32) : FVec Ideal S32x2048x1024 .f32 :=
  addf x (mulf (mulf q (broadcastInDim S32x2048x1024 ![0, 1, 2] bcast_S32x2048x1_S32x2048x1024_0_1_2
      (Host.rsqrt (addf (Host.divf (broadcastInDim S32x2048x1 ![0, 1] bcast_S32x2048_S32x2048x1_0_1
          (Host.reduceAdd (mulf q q) (constant S_ .f32 0x00000000#32) reducesTo_S32x2048x1024_S32x2048_d2 h_S_))
        (broadcastInDim S32x2048x1 ![] bcast_S_S32x2048x1 (constant S_ .f32 0x44800000#32)))
        (broadcastInDim S32x2048x1 ![] bcast_S_S32x2048x1 (constant S_ .f32 0x358637BD#32))))))
    (broadcastInDim S32x2048x1024 ![0, 1, 2] bcast_S1x1x1024_S32x2048x1024_0_1_2
      (broadcastInDim S1x1x1024 ![2] bcast_S1024_S1x1x1024_2 (shapeCast _ p shapeCasts_S1x1024_S1024))))

/-- The first mixer's columns, and the second's. -/
def fst (z o : FVec Ideal S32x2048x2048 .f32) (g : FVec Ideal S1x128 .f32) : FVec Ideal S32x2048x1024 .f32 :=
  shapeCast _ (mulf (normHeads (byHead (left o)) g) (siluHeads (byHead (left z)))) shapeCasts_S32x2048x8x128_S32x2048x1024
def snd (a : FVec Ideal S32x2048x4608 .f32) (z o : FVec Ideal S32x2048x2048 .f32) (d : FVec Ideal S1x16 .f32) (n : FVec Ideal S1x1024 .f32) :
    FVec Ideal S32x2048x1024 .f32 :=
  shapeCast _ (normGroups (byGroup (mulf (skips a o d) (siluCols (right z)))) n) shapeCasts_S32x2048x2x512_S32x2048x1024

theorem res_eq (m : (ℓ : Loc nD τ sig) → Buf (Elt Ideal) ℓ) (c : Dev nD) :
    res_out0 (F := Ideal) m c = closing (m ((c.tc : Thread nD τ).loc main_arg0))
      (mixed (fst (m ((c.tc : Thread nD τ).loc main_arg2)) (m ((c.tc : Thread nD τ).loc main_arg3)) (m ((c.tc : Thread nD τ).loc main_arg4)))
        (snd (m ((c.tc : Thread nD τ).loc main_arg1)) (m ((c.tc : Thread nD τ).loc main_arg2)) (m ((c.tc : Thread nD τ).loc main_arg3))
          (m ((c.tc : Thread nD τ).loc main_arg5)) (m ((c.tc : Thread nD τ).loc main_arg6)))
        (m ((c.tc : Thread nD τ).loc main_arg7))) (m ((c.tc : Thread nD τ).loc main_arg8)) := rfl

/-! ## The parts at an entry -/

abbrev at3 {a b n : ℕ} (v : FVec Ideal ⟨3, ![a, b, n]⟩ .f32) (i : Fin a) (j : Fin b) : Fin n → EReal := fun k => v (ix3 i j k)

theorem normHeads_at (o : FVec Ideal S32x2048x8x128 .f32) (g : FVec Ideal S1x128 .f32) (b : Fin 32) (s : Fin 2048) (h : Fin 8) (l : Fin 128) :
    normHeads o g (ix4 b s h l) = o (ix4 b s h l) * Ideal.rsqrt (Ideal.div (∑ k : Fin 128, o (ix4 b s h k) * o (ix4 b s h k))
      (Ideal.ofBits .f32 0x43000000#32) + Ideal.ofBits .f32 0x358637BD#32) * g (ix2 0 l) := by
  pointwise! [normHeads]

theorem siluHeads_at (z : FVec Ideal S32x2048x8x128 .f32) (b : Fin 32) (s : Fin 2048) (h : Fin 8) (l : Fin 128) :
    siluHeads z (ix4 b s h l) = silu (z (ix4 b s h l)) := by
  pointwise! [siluHeads, silu]
  simp only [zero_sub]

theorem siluCols_at (z : FVec Ideal S32x2048x1024 .f32) (b : Fin 32) (s : Fin 2048) (j : Fin 1024) :
    siluCols z (ix3 b s j) = silu (z (ix3 b s j)) := by
  pointwise! [siluCols, silu]
  simp only [zero_sub]

theorem skips_at (a : FVec Ideal S32x2048x4608 .f32) (o : FVec Ideal S32x2048x2048 .f32) (d : FVec Ideal S1x16 .f32)
    (b : Fin 32) (s : Fin 2048) (j : Fin 1024) :
    skips a o d (ix3 b s j) = o (ix3 b s ⟨1024 + j.val, by omega⟩) + d (ix2 0 ⟨j.val / 64, by omega⟩) * a (ix3 b s ⟨3072 + j.val, by omega⟩) := by
  pointwise! [skips, right]
  rw [show (⟨j.val / 512 * 8 + j.val / 64 % 8, by omega⟩ : Fin 16) = ⟨j.val / 64, by omega⟩ from Fin.ext (by show _ = j.val / 64; simp only; omega)]

theorem normGroups_at (y : FVec Ideal S32x2048x2x512 .f32) (n : FVec Ideal S1x1024 .f32) (b : Fin 32) (s : Fin 2048) (h : Fin 2) (l : Fin 512) :
    normGroups y n (ix4 b s h l) = y (ix4 b s h l) * Ideal.rsqrt (Ideal.div (∑ k : Fin 512, y (ix4 b s h k) * y (ix4 b s h k))
      (Ideal.ofBits .f32 0x44000000#32) + Ideal.ofBits .f32 0x358637BD#32) * n (ix2 0 ⟨512 * h.val + l.val, by omega⟩) := by
  pointwise! [normGroups]

theorem closing_at (x q : FVec Ideal S32x2048x1024 .f32) (p : FVec Ideal S1x1024 .f32) (b : Fin 32) (s : Fin 2048) (e : Fin 1024) :
    closing x q p (ix3 b s e) = x (ix3 b s e) + normRow (fun k => p (ix2 0 k)) (at3 q b s) e := by
  pointwise! [closing, normRow]

theorem byHead_at (v : FVec Ideal S32x2048x1024 .f32) (b : Fin 32) (s : Fin 2048) (h : Fin 8) (l : Fin 128) :
    byHead v (ix4 b s h l) = v (ix3 b s ⟨128 * h.val + l.val, by omega⟩) := by
  pointwise! [byHead]

theorem byGroup_at (v : FVec Ideal S32x2048x1024 .f32) (b : Fin 32) (s : Fin 2048) (h : Fin 2) (l : Fin 512) :
    byGroup v (ix4 b s h l) = v (ix3 b s ⟨512 * h.val + l.val, by omega⟩) := by
  pointwise! [byGroup]

theorem left_at (v : FVec Ideal S32x2048x2048 .f32) (b : Fin 32) (s : Fin 2048) (j : Fin 1024) :
    left v (ix3 b s j) = v (ix3 b s ⟨j.val, by omega⟩) := by
  pointwise! [left]

theorem right_at (v : FVec Ideal S32x2048x2048 .f32) (b : Fin 32) (s : Fin 2048) (j : Fin 1024) :
    right v (ix3 b s j) = v (ix3 b s ⟨1024 + j.val, by omega⟩) := by
  pointwise! [right]

theorem unHead_at (v : FVec Ideal S32x2048x8x128 .f32) (b : Fin 32) (s : Fin 2048) (j : Fin 1024) :
    (shapeCast S32x2048x1024 v shapeCasts_S32x2048x8x128_S32x2048x1024) (ix3 b s j)
      = v (ix4 b s ⟨j.val / 128, by omega⟩ ⟨j.val % 128, Nat.mod_lt _ (by decide)⟩) := by
  pointwise!

theorem unGroup_at (v : FVec Ideal S32x2048x2x512 .f32) (b : Fin 32) (s : Fin 2048) (j : Fin 1024) :
    (shapeCast S32x2048x1024 v shapeCasts_S32x2048x2x512_S32x2048x1024) (ix3 b s j)
      = v (ix4 b s ⟨j.val / 512, by omega⟩ ⟨j.val % 512, Nat.mod_lt _ (by decide)⟩) := by
  pointwise!

/-! ## The columns of both mixers -/

variable (x : FVec Ideal S32x2048x1024 .f32) (a : FVec Ideal S32x2048x4608 .f32) (z o : FVec Ideal S32x2048x2048 .f32) (g : FVec Ideal S1x128 .f32)
  (d : FVec Ideal S1x16 .f32) (n : FVec Ideal S1x1024 .f32) (W : FVec Ideal S1x2048x1024 .f32) (p : FVec Ideal S1x1024 .f32)

/-- The scale of the first mixer's columns, and the skip of the second's. -/
abbrev scales : Fin 1024 → EReal := fun j => g (ix2 0 ⟨j.val % 128, Nat.mod_lt _ (by decide)⟩)
abbrev skipOf : Fin 1024 → EReal := fun j => d (ix2 0 ⟨j.val / 64, by omega⟩)

/-- The columns of both mixers at one place. -/
abbrev cat (b : Fin 32) (s : Fin 2048) : Fin 2048 → EReal :=
  catRow (scales g) (skipOf d) (fun j => n (ix2 0 j)) (at3 o b s) (at3 z b s) (at3 a b s)

theorem fst_at (b : Fin 32) (s : Fin 2048) (j : Fin 1024) : fst z o g (ix3 b s j) = cat a z o g d n b s ⟨j.val, by omega⟩ := by
  have hj := j.isLt
  have eo : ∀ (h : Fin 8) (k : Fin 128), byHead (left o) (ix4 b s h k) = ext (at3 o b s) (h.val * 128 + k.val) := fun h k => by
    rw [byHead_at, left_at, ext_at _ (by omega)]
    exact congrArg (fun q => o (ix3 b s q)) (Fin.ext (by simp only; omega))
  have ez : ∀ (h : Fin 8) (k : Fin 128), byHead (left z) (ix4 b s h k) = ext (at3 z b s) (h.val * 128 + k.val) := fun h k => by
    rw [byHead_at, left_at, ext_at _ (by omega)]
    exact congrArg (fun q => z (ix3 b s q)) (Fin.ext (by simp only; omega))
  unfold fst
  refine (unHead_at _ b s j).trans ((congrArg₂ (· * ·) (normHeads_at _ _ _ _ _ _) (siluHeads_at _ _ _ _ _)).trans ?_)
  unfold cat catRow headOut
  rw [if_pos (by simp only; omega)]
  simp only [eo, ez]
  rw [ext_at _ (by omega)]
  refine congrArg₂ (· * ·) (congrArg₂ (· * ·) rfl ?_) rfl
  refine Eq.trans ?_ (ext_at _ (by omega)).symm
  refine congrArg (fun q : Fin 128 => g (ix2 0 q)) (Fin.ext ?_)
  show j.val % 128 = (j.val / 128 * 128 + j.val % 128) % 128
  omega

theorem snd_at (b : Fin 32) (s : Fin 2048) (j : Fin 1024) : snd a z o d n (ix3 b s j) = cat a z o g d n b s ⟨1024 + j.val, by omega⟩ := by
  have hj := j.isLt
  have ey : ∀ (h : Fin 2) (k : Fin 512), byGroup (mulf (skips a o d) (siluCols (right z))) (ix4 b s h k)
      = skip (ext (skipOf d) (h.val * 512 + k.val)) (ext (at3 o b s) (1024 + (h.val * 512 + k.val))) (ext (at3 a b s) (3072 + (h.val * 512 + k.val)))
          (ext (at3 z b s) (1024 + (h.val * 512 + k.val))) := fun h k => by
    refine (byGroup_at _ b s h k).trans ((congrArg₂ (· * ·) (skips_at _ _ _ _ _ _) ((siluCols_at _ _ _ _).trans (congrArg silu (right_at _ _ _ _)))).trans ?_)
    rw [ext_at _ (by omega), ext_at _ (by omega), ext_at _ (by omega), ext_at _ (by omega)]
    have e : 512 * h.val + k.val = h.val * 512 + k.val := by omega
    unfold skip
    simp only [e]
  unfold snd
  refine (unGroup_at _ b s j).trans ((normGroups_at _ _ _ _ _ _).trans ?_)
  unfold cat catRow groupOut
  rw [if_neg (by simp only; omega)]
  have e0 : (1024 + j.val) / 512 * 512 = 1024 + j.val / 512 * 512 := by omega
  simp only [ey, e0, show 1024 + j.val / 512 * 512 - 1024 = j.val / 512 * 512 by omega,
    show 1024 + j.val / 512 * 512 + 2048 = 3072 + j.val / 512 * 512 by omega, Nat.add_assoc,
    show (1024 + j.val) % 512 = j.val % 512 by omega]
  rw [ext_at _ (by omega)]
  refine congrArg₂ (· * ·) rfl ?_
  refine Eq.trans ?_ (ext_at _ (by omega)).symm
  refine congrArg (fun q : Fin 1024 => n (ix2 0 q)) (Fin.ext ?_)
  show 512 * (j.val / 512) + j.val % 512 = j.val / 512 * 512 + j.val % 512
  omega

theorem mixed_at (u v : FVec Ideal S32x2048x1024 .f32) (C : Fin 2048 → EReal) (b : Fin 32) (s : Fin 2048)
    (hu : ∀ j : Fin 1024, u (ix3 b s j) = C ⟨j.val, by omega⟩) (hv : ∀ j : Fin 1024, v (ix3 b s j) = C ⟨1024 + j.val, by omega⟩) (e : Fin 1024) :
    mixed u v W (ix3 b s e) = ∑ k : Fin 2048, C k * W (ix3 0 k e) := by
  pointwise! [mixed]
  refine Eq.trans ?_ (Fin.sum_univ_add (a := 1024) (b := 1024) (fun k : Fin 2048 => C k * W (ix3 0 k e))).symm
  exact congrArg₂ (· + ·) (Finset.sum_congr rfl fun k _ => congrArg (· * _) (hu k)) (Finset.sum_congr rfl fun k _ => congrArg (· * _) (hv k))

/-- The reference's result at an entry. -/
theorem result_at (b : Fin 32) (s : Fin 2048) (e : Fin 1024) :
    closing x (mixed (fst z o g) (snd a z o d n) W) p (ix3 b s e)
      = result (at3 x b s) (at3 a b s) (at3 z b s) (at3 o b s) (fun k => g (ix2 0 k)) (fun k => d (ix2 0 k)) (fun k => n (ix2 0 k))
          (fun k f => W (ix3 0 k f)) (fun k => p (ix2 0 k)) e := by
  refine (closing_at _ _ _ _ _ _).trans ?_
  unfold result backRow
  refine congrArg (fun q => x (ix3 b s e) + normRow (fun k => p (ix2 0 k)) q e) (funext fun f => ?_)
  exact mixed_at W _ _ (cat a z o g d n b s) b s (fst_at a z o g d n b s) (snd_at a z o g d n b s) f

end Cert.Reference4Ideal.Back

end
-- ==== Proof.BackAlgebraic.lean ====
/- The back of the token mixers' call against its reference over the extended reals: the kernel's array and the reference's result
   are the same function of the same arguments at every entry. -/
module

public import proofs.«01_k».proof.Defs
public import proofs.«01_k».proof.Proof.BackArray
public import proofs.«01_k».proof.Proof.BackRef

@[expose] public section

noncomputable section

namespace Cert.Proof

open Idealize.ShloMosaic Idealize.SL.Sem

/-- Run on equal arguments, the two programs give equal results. -/
theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1]
  obtain ⟨h0, h1, h2, h3, h4, h5, h6, h7, h8⟩ := hagree c
  refine Eq.trans ?_ (Cert.Kernel4Ideal.Back.array_eq m c).symm
  refine (Cert.Reference4Ideal.Back.res_eq m' c).trans ?_
  funext i
  rw [eq_ix3 i]
  refine (Cert.Reference4Ideal.Back.result_at _ _ _ _ _ _ _ _ _ (i 0) (i 1) (i 2)).trans ?_
  unfold Cert.Kernel4Ideal.Back.whole Cert.Kernel4Ideal.Back.X Cert.Kernel4Ideal.Back.A1 Cert.Kernel4Ideal.Back.Z2 Cert.Kernel4Ideal.Back.O3
    Cert.Kernel4Ideal.Back.G4 Cert.Kernel4Ideal.Back.D5 Cert.Kernel4Ideal.Back.N6 Cert.Kernel4Ideal.Back.W7 Cert.Kernel4Ideal.Back.P8
  rw [← h0, ← h1, ← h2, ← h3, ← h4, ← h5, ← h6, ← h7, ← h8]
  rfl

end Cert.Proof

end
-- ==== Proof.StepsRow.lean ====
/- The decays, steps and betas of the token mixers, one row at a time, over the projection of the normalised row. Nothing here speaks
   of a tile, of a buffer or of either program. -/
module

public import proofs.«01_k».proof.Proof.FrontRow

@[expose] public section

noncomputable section

open Idealize.ShloMosaic

namespace Cert.StepsRow

open Cert.FrontRow (projRow)

/-- The softplus: `log (1 + exp y)`, over the larger of `y` and zero. -/
def soft (y : EReal) : EReal := max y 0 + Ideal.log1p (Ideal.exp (0 - max y (-y)))

/-- The sigmoid. -/
def sigm (y : EReal) : EReal := Ideal.div 1 (1 + Ideal.exp (0 - y))

/-- A log decay: a step, times the rate `-exp a`. -/
def decay (a y : EReal) : EReal := soft y * (0 - Ideal.exp a)

variable (x : Fin 1024 → EReal) (w : Fin 1024 → EReal) (W : Fin 1024 → Fin 6688 → EReal)

/-- The log decays: eight heads of the delta rule, then sixteen of the scan. -/
def decays (g gb : Fin 8 → EReal) (s sb : Fin 16 → EReal) (j : Fin 24) : EReal :=
  if h : j.val < 8 then decay (g ⟨j.val, h⟩) (projRow w x W ⟨4104 + j.val, by omega⟩ + gb ⟨j.val, h⟩)
  else decay (s ⟨j.val - 8, by omega⟩) (projRow w x W ⟨6672 + (j.val - 8), by omega⟩ + sb ⟨j.val - 8, by omega⟩)

/-- The steps of the scan. -/
def steps (sb : Fin 16 → EReal) (j : Fin 16) : EReal := soft (projRow w x W ⟨6672 + j.val, by omega⟩ + sb j)

/-- The betas of the delta rule. -/
def betas (j : Fin 8) : EReal := sigm (projRow w x W ⟨4096 + j.val, by omega⟩)

end Cert.StepsRow

end
-- ==== Proof.StepsTile.lean ====
/- The body of the decays, steps and betas on one tile of 256 rows: the values its statements store, at an entry, and what it
   leaves in its three output blocks. -/
module

public import proofs.«01_k».proof.Proof.Gen.Kernel5Ideal.Frame
public import proofs.«01_k».proof.Proof.FrontOut
public import proofs.«01_k».proof.Proof.StepsRow

@[expose] public section

set_option maxRecDepth 16384

noncomputable section

open Idealize.ShloMosaic Idealize.ShloMosaic.TcCoe Idealize.SL.Sem

namespace Cert.Kernel5Ideal.Steps

open Cert.Kernel5Ideal Cert.Kernel5Ideal.Gen Cert.StepsRow
open Cert.FfnRow (normRow)
open Cert.FrontRow (projRow)
open Cert.Kernel2Ideal.Ffn (ld2 ld3 ldw inb2 lane mat)
open Cert.Kernel3Ideal.Front (Leaves leaves_canon plane_at)

/-- Row `r` of a tile, by lane. -/
abbrev row (x : FVec Ideal S1x256x1024 .f32) (r : Fin 256) : Fin 1024 → EReal := fun l => x (ix3 0 r l)

/-! ## The payloads at an entry -/

theorem pay1_at (v : FVec Ideal S1x256x16 .f32) (z : Fin 1) (r : Fin 256) (j : Fin 16) : k0_pay1 (F := Ideal) v (ix3 z r j) = v (ix3 0 r j) := by
  obtain rfl := Subsingleton.elim z 0
  pointwise [k0_pay1]

theorem pay2_at (v : FVec Ideal S1x256x8 .f32) (z : Fin 1) (r : Fin 256) (j : Fin 8) : k0_pay2 (F := Ideal) v (ix3 z r j) = v (ix3 0 r j) := by
  obtain rfl := Subsingleton.elim z 0
  pointwise [k0_pay2]

theorem pay12_at (v : FVec Ideal S1x256x24 .f32) (z : Fin 1) (r : Fin 256) (j : Fin 24) : k0_pay12 (F := Ideal) v (ix3 z r j) = v (ix3 0 r j) := by
  obtain rfl := Subsingleton.elim z 0
  pointwise [k0_pay12]

theorem pay5_at (x : FVec Ideal S1x256x1024 .f32) (w : FVec Ideal S1x1024 .f32) (W : FVec Ideal S1024x128 .bf16) (r : Fin 256) (l : Fin 128) :
    k0_pay5 (F := Ideal) x w W (ix2 r l) = ∑ k : Fin 1024, normRow (lane w) (row x r) k * W (ix2 k l) := by
  pointwise [k0_pay5, k0_pay3, normRow]

theorem pay6_at (a : FVec Ideal S1x128 .f32) (z : Fin 1) (l : Fin 128) (h : l.val < 24) : k0_pay6 (F := Ideal) a (ix2 z l) = 0 - Ideal.exp (a (ix2 0 l)) := by
  obtain rfl := Subsingleton.elim z 0
  pointwise! [k0_pay6]
  have e : IntOp.cmpi CmpIPredicate.slt (BitVec.ofNat 32 l.val) 24#32 = 1#1 :=
    (by decide : ∀ n : Fin 24, IntOp.cmpi CmpIPredicate.slt (BitVec.ofNat 32 n.val) 24#32 = 1#1) ⟨l.val, h⟩
  rw [e]
  rfl

theorem pay7_at (x : FVec Ideal S1x256x1024 .f32) (w : FVec Ideal S1x1024 .f32) (W : FVec Ideal S1024x128 .bf16) (b : FVec Ideal S1x128 .f32) (r : Fin 256) (l : Fin 128) :
    k0_pay7 (F := Ideal) x w W b (ix2 r l) = k0_pay5 (F := Ideal) x w W (ix2 r l) + b (ix2 0 l) := by
  pointwise [k0_pay7]

theorem pay8_at (y : FVec Ideal S256x128 .f32) (r : Fin 256) (l : Fin 128) : k0_pay8 (F := Ideal) y (ix2 r l) = soft (y (ix2 r l)) := by
  pointwise! [k0_pay8, soft]

theorem pay9_at (a : FVec Ideal S1x128 .f32) (y : FVec Ideal S256x128 .f32) (z : Fin 1) (r : Fin 256) (l : Fin 128) :
    k0_pay9 (F := Ideal) a y (ix3 z r l) = k0_pay8 (F := Ideal) y (ix2 r l) * a (ix2 0 l) := by
  pointwise [k0_pay9]

theorem pay10_at (y : FVec Ideal S256x128 .f32) (z : Fin 1) (r : Fin 256) (l : Fin 128) :
    k0_pay10 (F := Ideal) y (ix3 z r l) = k0_pay8 (F := Ideal) y (ix2 r l) := by
  pointwise [k0_pay10]

theorem pay11_at (y : FVec Ideal S256x128 .f32) (z : Fin 1) (r : Fin 256) (l : Fin 8) :
    k0_pay11 (F := Ideal) y (ix3 z r ⟨l.val, by omega⟩) = sigm (y (ix2 r ⟨24 + l.val, by omega⟩)) := by
  pointwise! [k0_pay11, sigm]
  rw [show (⟨(l.val + 128 - 104) % 128, Nat.mod_lt _ (by decide)⟩ : Fin 128) = ⟨24 + l.val, by omega⟩ from Fin.ext (by simp only; omega)]

/-! ## Planes -/

variable {sig' : RefSig} {κ : Kind} {sp : Space}

/-- On a store that covers plane `p`. -/
theorem on3 {n a b : ℕ} {e : EltTy} {R : List (View.Piece (Elt Ideal) ⟨3, ![n, a, b]⟩ e) → (⟨3, ![n, a, b]⟩ : Shape).Idx → Elt Ideal e} (hR : Leaves R)
    {p : ℕ} (i : ∀ k, (![p, 0, 0] : Fin 3 → ℕ) k + (![1, a, b] : Fin 3 → ℕ) k ≤ (⟨3, ![n, a, b]⟩ : Shape).size k)
    (w : (⟨3, ![1, a, b]⟩ : Shape).Idx → Elt Ideal e) (L) (q : Fin n) (r : Fin a) (j : Fin b) (h : q.val = p) :
    R (⟨Rect.unit (s := ⟨3, ![n, a, b]⟩) ![p, 0, 0] ![1, a, b] i, w⟩ :: L) (ix3 q r j) = w (ix3 0 r j) := by
  have e : ix3 q r j = (Rect.unit (s := ⟨3, ![n, a, b]⟩) ![p, 0, 0] ![1, a, b] i).emb (ix3 0 r j : (⟨3, ![1, a, b]⟩ : Shape).Idx) := by
    funext k; apply Fin.ext
    match k with
    | ⟨0, _⟩ => rw [Rect.emb_apply]; simp [h]
    | ⟨1, _⟩ => rw [Rect.emb_apply]; simp
    | ⟨2, _⟩ => rw [Rect.emb_apply]; simp
  rw [e]
  exact hR.on _ _ _ _

/-- Off it. -/
theorem off3 {n a b : ℕ} {e : EltTy} {R : List (View.Piece (Elt Ideal) ⟨3, ![n, a, b]⟩ e) → (⟨3, ![n, a, b]⟩ : Shape).Idx → Elt Ideal e} (hR : Leaves R)
    {p : ℕ} (i : ∀ k, (![p, 0, 0] : Fin 3 → ℕ) k + (![1, a, b] : Fin 3 → ℕ) k ≤ (⟨3, ![n, a, b]⟩ : Shape).size k)
    (w : (⟨3, ![1, a, b]⟩ : Shape).Idx → Elt Ideal e) (L) (q : Fin n) (r : Fin a) (j : Fin b) (h : q.val ≠ p) :
    R (⟨Rect.unit (s := ⟨3, ![n, a, b]⟩) ![p, 0, 0] ![1, a, b] i, w⟩ :: L) (ix3 q r j) = R L (ix3 q r j) := by
  refine hR.off _ _ _ _ ?_
  intro hm
  obtain ⟨y, hy1, hy⟩ := (LoadRect.mem_set _).1 hm 0
  simp at hy hy1
  omega

/-- A load of lanes of plane `p` out of what was stored. -/
theorem cov3 {n a b d : ℕ} {e : EltTy} (v : View sig' κ sp ⟨3, ![n, a, b]⟩ e) (L : List (View.Piece (Elt Ideal) ⟨3, ![n, a, b]⟩ e))
    {p o : ℕ} (i : ∀ k, (![p, 0, o] : Fin 3 → ℕ) k + (![1, a, d] : Fin 3 → ℕ) k ≤ (⟨3, ![n, a, b]⟩ : Shape).size k) (r : Fin a) (j : Fin d)
    (hp : p < n) (hj : o + j.val < b) :
    v.readCov L (Rect.unit (s := ⟨3, ![n, a, b]⟩) ![p, 0, o] ![1, a, d] i).toLoadRect (ix3 0 r j : (⟨3, ![1, a, d]⟩ : Shape).Idx)
      = View.canon L (ix3 ⟨p, hp⟩ r ⟨o + j.val, hj⟩) := by
  rw [View.readCov_eq_canon']
  beta_reduce
  congr 1
  funext k; apply Fin.ext
  match k with
  | ⟨0, _⟩ => rw [LoadRect.idx_apply]; simp
  | ⟨1, _⟩ => rw [LoadRect.idx_apply]; simp
  | ⟨2, _⟩ => rw [LoadRect.idx_apply]; simp

/-! ## The stores of the scratch -/

variable {a2 : Memref sig' κ sp S1x256x1024 .f32} (h2 : a2.IsWhole) {a3 : Memref sig' κ sp S1x1024 .f32} (h3 : a3.IsWhole)
  {a4 : Memref sig' κ sp S1024x6784 .bf16} (h4 : a4.IsWhole) {a5 : Memref sig' κ sp S8x128 .f32} (h5 : a5.IsWhole)
  (x0 : FVec Ideal S1x256x1024 .f32) (x1 : FVec Ideal S1x1024 .f32) (x2 : FVec Ideal S1024x6784 .bf16) (x3 : FVec Ideal S8x128 .f32)

/-- Lane `l` of the small projections of a tile's row. -/
def proj (r : Fin 256) (l : Fin 128) : EReal :=
  projRow (lane x1) (row x0 r) (fun k (j : Fin 128) => x2 (ix2 k ⟨6656 + j.val, by omega⟩)) l

/-- The body's small projections. -/
def small : FVec Ideal S256x128 .f32 :=
  k0_pay5 (F := Ideal)
    (View.readAt (Elt Ideal) a2.view (Rect.unit (s := S1x256x1024) ![0, 0, 0] S1x256x1024.size inb_S1x256x1024_S1x256x1024_0_0_0).toLoadRect (h2.unread x0))
    (View.readAt (Elt Ideal) a3.view (Rect.unit (s := S1x1024) ![0, 0] S1x1024.size inb_S1x1024_S1x1024_0_0).toLoadRect (h3.unread x1))
    (View.readAt (Elt Ideal) a4.view (Rect.unit (s := S1024x6784) ![0, 6656] S1024x128.size inb_S1024x6784_S1024x128_0_6656).toLoadRect (h4.unread x2))

theorem small_at (r : Fin 256) (l : Fin 128) : small h2 h3 h4 x0 x1 x2 (ix2 r l) = proj x0 x1 x2 r l := by
  unfold small
  rw [ld3 h2 x0, ldw h3 x1, pay5_at]
  unfold proj projRow
  refine Finset.sum_congr rfl fun k _ => congrArg (fun q => normRow (lane x1) (row x0 r) k * q) ?_
  refine (ld2 h4 x2 _ k l (by omega) (by omega)).trans ?_
  exact congrArg (fun q => x2 (ix2 q _)) (Fin.ext (by simp))

/-- The same with the biases added. -/
def lifted : FVec Ideal S256x128 .f32 :=
  k0_pay7 (F := Ideal)
    (View.readAt (Elt Ideal) a2.view (Rect.unit (s := S1x256x1024) ![0, 0, 0] S1x256x1024.size inb_S1x256x1024_S1x256x1024_0_0_0).toLoadRect (h2.unread x0))
    (View.readAt (Elt Ideal) a3.view (Rect.unit (s := S1x1024) ![0, 0] S1x1024.size inb_S1x1024_S1x1024_0_0).toLoadRect (h3.unread x1))
    (View.readAt (Elt Ideal) a4.view (Rect.unit (s := S1024x6784) ![0, 6656] S1024x128.size inb_S1024x6784_S1024x128_0_6656).toLoadRect (h4.unread x2))
    (View.readAt (Elt Ideal) a5.view (Rect.unit (s := S8x128) ![0, 0] S1x128.size inb_S8x128_S1x128_0_0).toLoadRect (h5.unread x3))

theorem lifted_at (r : Fin 256) (l : Fin 128) : lifted h2 h3 h4 h5 x0 x1 x2 x3 (ix2 r l) = proj x0 x1 x2 r l + x3 (ix2 0 l) := by
  refine (pay7_at _ _ _ _ r l).trans (congrArg₂ (· + ·) (small_at h2 h3 h4 x0 x1 x2 r l) ((ld2 h5 x3 _ 0 l (by simp) (by omega)).trans ?_))
  exact congrArg₂ (fun p q => x3 (ix2 p q)) (Fin.ext (by simp)) (Fin.ext (by simp))

/-- The rates. -/
def rates : FVec Ideal S1x128 .f32 :=
  k0_pay6 (F := Ideal) (View.readAt (Elt Ideal) a5.view (Rect.unit (s := S8x128) ![1, 0] S1x128.size inb_S8x128_S1x128_1_0).toLoadRect (h5.unread x3))

theorem rates_at (l : Fin 128) (h : l.val < 24) : rates h5 x3 (ix2 0 l) = 0 - Ideal.exp (x3 (ix2 1 l)) := by
  refine (pay6_at _ 0 l h).trans (congrArg (fun q => 0 - Ideal.exp q) ((ld2 h5 x3 _ 0 l (by simp) (by omega)).trans ?_))
  exact congrArg₂ (fun p q => x3 (ix2 p q)) (Fin.ext (by simp)) (Fin.ext (by simp))

/-- The three planes, as stored. -/
def kept : List (View.Piece (Elt Ideal) S3x256x128 .f32) :=
  [⟨Rect.unit (s := S3x256x128) ![2, 0, 0] S1x256x128.size inb_S3x256x128_S1x256x128_2_0_0, k0_pay11 (F := Ideal) (small h2 h3 h4 x0 x1 x2)⟩,
   ⟨Rect.unit (s := S3x256x128) ![1, 0, 0] S1x256x128.size inb_S3x256x128_S1x256x128_1_0_0, k0_pay10 (F := Ideal) (lifted h2 h3 h4 h5 x0 x1 x2 x3)⟩,
   ⟨Rect.unit (s := S3x256x128) ![0, 0, 0] S1x256x128.size inb_S3x256x128_S1x256x128_0_0_0, k0_pay9 (F := Ideal) (rates h5 x3) (lifted h2 h3 h4 h5 x0 x1 x2 x3)⟩]

/-- What each plane then holds. -/
theorem planes_at (i2 i1 i0) (w2 w1 w0 : S1x256x128.Idx → Elt Ideal .f32) (r : Fin 256) (l : Fin 128) (L : List (View.Piece (Elt Ideal) S3x256x128 .f32))
    (h : L = [⟨Rect.unit (s := S3x256x128) ![2, 0, 0] S1x256x128.size i2, w2⟩, ⟨Rect.unit (s := S3x256x128) ![1, 0, 0] S1x256x128.size i1, w1⟩,
      ⟨Rect.unit (s := S3x256x128) ![0, 0, 0] S1x256x128.size i0, w0⟩]) :
    View.canon L (ix3 0 r l) = w0 (ix3 0 r l) ∧ View.canon L (ix3 1 r l) = w1 (ix3 0 r l) ∧ View.canon L (ix3 2 r l) = w2 (ix3 0 r l) := by
  subst h
  refine ⟨?_, ?_, ?_⟩
  · refine (off3 (n := 3) (a := 256) (b := 128) (p := 2) leaves_canon i2 w2 _ (0 : Fin 3) r l (by decide)).trans ?_
    refine (off3 (n := 3) (a := 256) (b := 128) (p := 1) leaves_canon i1 w1 _ (0 : Fin 3) r l (by decide)).trans ?_
    exact on3 (n := 3) (a := 256) (b := 128) (p := 0) leaves_canon i0 w0 _ (0 : Fin 3) r l rfl
  · refine (off3 (n := 3) (a := 256) (b := 128) (p := 2) leaves_canon i2 w2 _ (1 : Fin 3) r l (by decide)).trans ?_
    exact on3 (n := 3) (a := 256) (b := 128) (p := 1) leaves_canon i1 w1 _ (1 : Fin 3) r l rfl
  · exact on3 (n := 3) (a := 256) (b := 128) (p := 2) leaves_canon i2 w2 _ (2 : Fin 3) r l rfl

theorem kept0 (r : Fin 256) (l : Fin 128) (h : l.val < 24) :
    View.canon (kept h2 h3 h4 h5 x0 x1 x2 x3) (ix3 0 r l) = decay (x3 (ix2 1 l)) (proj x0 x1 x2 r l + x3 (ix2 0 l)) := by
  refine (planes_at _ _ _ _ _ _ r l _ rfl).1.trans ?_
  rw [pay9_at, pay8_at, lifted_at, rates_at _ _ _ h]
  rfl

theorem kept1 (r : Fin 256) (l : Fin 128) :
    View.canon (kept h2 h3 h4 h5 x0 x1 x2 x3) (ix3 1 r l) = soft (proj x0 x1 x2 r l + x3 (ix2 0 l)) := by
  refine (planes_at _ _ _ _ _ _ r l _ rfl).2.1.trans ?_
  rw [pay10_at, pay8_at, lifted_at]

theorem kept2 (r : Fin 256) (l : Fin 8) :
    View.canon (kept h2 h3 h4 h5 x0 x1 x2 x3) (ix3 2 r ⟨l.val, by omega⟩) = sigm (proj x0 x1 x2 r ⟨24 + l.val, by omega⟩) := by
  refine (planes_at _ _ _ _ _ _ r ⟨l.val, by omega⟩ _ rfl).2.2.trans ?_
  rw [pay11_at, small_at]

/-! ## The output blocks -/

section
variable (c : Dev nD) (i : grid0.Coords) (arg2 : Memref sig .tc .vmem S1x256x1024 .f32) (harg2 : arg2.IsWhole)
  (arg3 : Memref sig .tc .vmem S1x1024 .f32) (harg3 : arg3.IsWhole) (arg4 : Memref sig .tc .vmem S1024x6784 .bf16) (harg4 : arg4.IsWhole)
  (arg5 : Memref sig .tc .vmem S8x128 .f32) (harg5 : arg5.IsWhole) (arg6 : Memref sig .tc .vmem S1x256x24 .f32) (harg6 : arg6.IsWhole)
  (arg7 : Memref sig .tc .vmem S1x256x16 .f32) (harg7 : arg7.IsWhole) (arg8 : Memref sig .tc .vmem S1x256x8 .f32) (harg8 : arg8.IsWhole)
  (arg9 : Memref sig .tc .vmem S256x1024 .bf16) (harg9 : arg9.IsWhole) (arg10 : Memref sig .tc .vmem S3x256x128 .f32) (harg10 : arg10.IsWhole)

/-- The list of the body's stores of the scratch is that above. -/
theorem kept_eq : kernelRun0_A.sl.HS1_3 (F := Ideal) c arg2 harg2 arg3 harg3 arg4 harg4 arg5 harg5 x0 x1 x2 x3 = kept harg2 harg3 harg4 harg5 x0 x1 x2 x3 := rfl

theorem dec_at (z : Fin 1) (r : Fin 256) (j : Fin 24) :
    out0_A_4 (F := Ideal) c i arg2 harg2 arg3 harg3 arg4 harg4 arg5 harg5 arg6 harg6 arg7 harg7 arg8 harg8 arg9 harg9 arg10 harg10 x0 x1 x2 x3 (ix3 z r j)
      = decay (x3 (ix2 1 ⟨0 + j.val, by omega⟩)) (proj x0 x1 x2 r ⟨0 + j.val, by omega⟩ + x3 (ix2 0 ⟨0 + j.val, by omega⟩)) := by
  refine (congrFun (View.read_writes_junk_eq_canon VO0_4 _) (ix3 z r j)).trans ?_
  refine (plane_at _ (k0_pay12 (F := Ideal) (arg10.view.readCov (kept harg2 harg3 harg4 harg5 x0 x1 x2 x3)
    (Rect.unit (s := S3x256x128) ![0, 0, 0] S1x256x24.size inb_S3x256x128_S1x256x24_0_0_0).toLoadRect)) z r j).trans ((pay12_at _ z r j).trans ?_)
  refine (cov3 (n := 3) (p := 0) (o := 0) arg10.view _ _ r j (by decide) (by omega)).trans ?_
  exact kept0 harg2 harg3 harg4 harg5 x0 x1 x2 x3 r _ (by simp only []; omega)

theorem dt_at (z : Fin 1) (r : Fin 256) (j : Fin 16) :
    out0_A_5 (F := Ideal) c i arg2 harg2 arg3 harg3 arg4 harg4 arg5 harg5 arg6 harg6 arg7 harg7 arg8 harg8 arg9 harg9 arg10 harg10 x0 x1 x2 x3 (ix3 z r j)
      = soft (proj x0 x1 x2 r ⟨8 + j.val, by omega⟩ + x3 (ix2 0 ⟨8 + j.val, by omega⟩)) := by
  refine (congrFun (View.read_writes_junk_eq_canon VO0_5 _) (ix3 z r j)).trans ?_
  refine (plane_at _ (k0_pay1 (F := Ideal) (arg10.view.readCov (kept harg2 harg3 harg4 harg5 x0 x1 x2 x3)
    (Rect.unit (s := S3x256x128) ![1, 0, 8] S1x256x16.size inb_S3x256x128_S1x256x16_1_0_8).toLoadRect)) z r j).trans ((pay1_at _ z r j).trans ?_)
  refine (cov3 (n := 3) (p := 1) (o := 8) arg10.view _ _ r j (by decide) (by omega)).trans ?_
  exact kept1 harg2 harg3 harg4 harg5 x0 x1 x2 x3 r _

theorem beta_at (z : Fin 1) (r : Fin 256) (j : Fin 8) :
    out0_A_6 (F := Ideal) c i arg2 harg2 arg3 harg3 arg4 harg4 arg5 harg5 arg6 harg6 arg7 harg7 arg8 harg8 arg9 harg9 arg10 harg10 x0 x1 x2 x3 (ix3 z r j)
      = sigm (proj x0 x1 x2 r ⟨24 + j.val, by omega⟩) := by
  have e : (⟨0 + j.val, by omega⟩ : Fin 128) = ⟨j.val, by omega⟩ := Fin.ext (by simp)
  refine (congrFun (View.read_writes_junk_eq_canon VO0_6 _) (ix3 z r j)).trans ?_
  refine (plane_at _ (k0_pay2 (F := Ideal) (arg10.view.readCov (kept harg2 harg3 harg4 harg5 x0 x1 x2 x3)
    (Rect.unit (s := S3x256x128) ![2, 0, 0] S1x256x8.size inb_S3x256x128_S1x256x8_2_0_0).toLoadRect)) z r j).trans ((pay2_at _ z r j).trans ?_)
  refine (cov3 (n := 3) (p := 2) (o := 0) arg10.view _ _ r j (by decide) (by omega)).trans ?_
  rw [e]
  exact kept2 harg2 harg3 harg4 harg5 x0 x1 x2 x3 r j

end

end Cert.Kernel5Ideal.Steps

end
-- ==== Proof.StepsArray.lean ====
/- From the tiles of decays, steps and betas to the three whole arrays: the blocks staged at a grid point are the arguments' rows and
   columns, so every tile gives its own rows of the results. -/
module

public import Idealize.ShloMosaic.Lib.StableHlo.RunRead
public import Idealize.ShloMosaic.Lib.Routing.OpsOne
public import Idealize.ShloMosaic.Lib.Routing.OpsPair
public import proofs.«01_k».proof.Proof.FrontArray
public import proofs.«01_k».proof.Proof.StepsTile
public import proofs.«01_k».proof.Proof.Gen.Kernel5Ideal.Value
public import Idealize.ShloMosaic.Lib.Claim

@[expose] public section

set_option maxRecDepth 16384

noncomputable section

open Idealize.ShloMosaic Idealize.ShloMosaic.TcCoe Idealize.SL.Sem

namespace Cert.Kernel5Ideal.Steps

open Cert.Kernel5Ideal Cert.Kernel5Ideal.Gen Cert.StepsRow
open Cert.FrontRow (projRow)
open Cert.Kernel2Ideal.Ffn (lane mat)
open Cert.Kernel3Ideal.Front (either)
open Idealize.ShloMosaic.Routing

variable (m : (ℓ : Loc nD τ sig) → Buf (Elt Ideal) ℓ) (c : Dev nD)

/-- The arguments, by coordinates. -/
abbrev X (b : Fin 32) : Fin 2048 → Fin 1024 → EReal := fun s k => (m ((c : Thread nD τ).loc main_arg0) : FVec Ideal S32x2048x1024 .f32) (ix3 b s k)
abbrev W1 : Fin 1024 → EReal := fun k => (m ((c : Thread nD τ).loc main_arg1) : FVec Ideal S1x1024 .f32) (ix2 0 k)
abbrev W2 : Fin 1024 → Fin 6688 → EReal := fun k j => (m ((c : Thread nD τ).loc main_arg2) : FVec Ideal S1x1024x6688 .f32) (ix3 0 k j)
abbrev A3 : Fin 8 → EReal := fun j => (m ((c : Thread nD τ).loc main_arg3) : FVec Ideal S1x8 .f32) (ix2 0 j)
abbrev B4 : Fin 8 → EReal := fun j => (m ((c : Thread nD τ).loc main_arg4) : FVec Ideal S1x8 .f32) (ix2 0 j)
abbrev A5 : Fin 16 → EReal := fun j => (m ((c : Thread nD τ).loc main_arg5) : FVec Ideal S1x16 .f32) (ix2 0 j)
abbrev B6 : Fin 16 → EReal := fun j => (m ((c : Thread nD τ).loc main_arg6) : FVec Ideal S1x16 .f32) (ix2 0 j)

/-- The blocks' places at every grid point. -/
theorem idx : ∀ t : Fin cfg0.N, win0_0.index t = ![t.val / 8, t.val % 8, 0] ∧ win0_1.index t = ![0, 0] ∧ win0_2.index t = ![0, 0]
    ∧ win0_3.index t = ![0, 0] ∧ win0_4.index t = ![t.val / 8, t.val % 8, 0] ∧ win0_5.index t = ![t.val / 8, t.val % 8, 0]
    ∧ win0_6.index t = ![t.val / 8, t.val % 8, 0] :=
  (by decide +kernel : ∀ t : Fin grid0.N, _)

theorem ptlt (t : Fin cfg0.N) : t.val < 256 := lt_of_lt_of_eq t.isLt N_0

theorem blk0 (t : Fin cfg0.N) (z : Fin 1) (r : Fin 256) (l : Fin 1024) :
    (iblk (F := Ideal) m c 0 t : FVec Ideal S1x256x1024 .f32) (ix3 z r l)
      = X m c ⟨t.val / 8, by have := ptlt t; omega⟩ ⟨t.val % 8 * 256 + r.val, by have := ptlt t; omega⟩ l := by
  have := ptlt t
  blk_point [iblk, V, idx t]

theorem blk1 (t : Fin cfg0.N) (z : Fin 1) (l : Fin 1024) :
    (iblk (F := Ideal) m c 1 t : FVec Ideal S1x1024 .f32) (ix2 z l) = W1 m c l := by
  blk_simp [iblk]
  entry_read
  pointwise!
  blk_ext [idx t]

/-! ## The weights' last columns -/

/-- The host's operations before the weights' columns are put side by side leave the buffers so. -/
abbrev cut : Valuation τ sig (Elt Ideal) := StableHlo.upto (hostOps0 (F := Ideal)) (fun b => m (c, b)) 19

theorem weights_eq : (V m c main_v19 : FVec Ideal S1024x6784 .bf16)
    = truncf .bf16 (Cert.Kernel3Ideal.Front.sideBySide (cut m c main_v6) (cut m c main_v7) (cut m c main_v8) (cut m c main_v13) (cut m c main_v14) (cut m c main_v15)
        (cut m c main_v9) (cut m c main_v12) (cut m c main_v11) (cut m c main_v16) (cut m c main_v10) (cut m c main_v17)) bitsLt_bf16_f32 := by
  refine (StableHlo.after_last_write (i := 20) [main_cst_0, main_v20, main_cst_1, main_v21, main_v22, main_c, main_v23, main_v24, main_v25, main_c_2, main_v26, main_v27, main_v28] rfl rfl (by decide) _).trans ?_
  refine (StableHlo.unary_result _ _ _ _ _ _).trans ?_
  refine congrArg (fun q => truncf .bf16 q bitsLt_bf16_f32) ?_
  refine (StableHlo.upto_last_write (i := 19) [] rfl rfl (by decide) _).trans ?_
  exact (StableHlo.nary_result _ _ _ _ _ _).trans rfl

theorem piece11 (k : Fin 1024) (j : Fin 8) : (cut m c main_v11 : FVec Ideal S1024x8 .f32) (ix2 k j) = W2 m c k ⟨4104 + j.val, by omega⟩ := by
  unfold cut
  after_reads_simp
  pointwise!

theorem piece16 (k : Fin 1024) (j : Fin 16) : (cut m c main_v16 : FVec Ideal S1024x16 .f32) (ix2 k j) = W2 m c k ⟨6672 + j.val, by omega⟩ := by
  unfold cut
  after_reads_simp
  pointwise!

theorem piece10 (k : Fin 1024) (j : Fin 8) : (cut m c main_v10 : FVec Ideal S1024x8 .f32) (ix2 k j) = W2 m c k ⟨4096 + j.val, by omega⟩ := by
  unfold cut
  after_reads_simp
  pointwise!

/-- Which of the weights' own columns stands at a lane of the last block: the delta rule's decays, the scan's steps, the betas. -/
def source (l : ℕ) : ℕ := if l < 8 then 4104 + l else if l < 24 then 6664 + l else 4072 + l

theorem source_a (l : ℕ) (h : l < 8) : source l = 4104 + l := if_pos h
theorem source_b (l : ℕ) (a : ¬ l < 8) (h : l < 24) : source l = 6664 + l := (if_neg a).trans (if_pos h)
theorem source_c (l : ℕ) (a : ¬ l < 8) (h : ¬ l < 24) : source l = 4072 + l := (if_neg a).trans (if_neg h)

theorem lastCols_at (W : Fin 1024 → Fin 6688 → EReal) (p5 p6 p7 p12 : FVec Ideal S1024x1024 .f32) (p13 p14 : FVec Ideal S1024x256 .f32) (p8 p11 : FVec Ideal S1024x1024 .f32)
    (p10 : FVec Ideal S1024x8 .f32) (p15 : FVec Ideal S1024x16 .f32) (p9 : FVec Ideal S1024x8 .f32) (p16 : FVec Ideal S1024x96 .f32)
    (k : Fin 1024)
    (h10 : ∀ j : Fin 8, p10 (ix2 k j) = W k ⟨4104 + j.val, by omega⟩)
    (h15 : ∀ j : Fin 16, p15 (ix2 k j) = W k ⟨6672 + j.val, by omega⟩)
    (h9 : ∀ j : Fin 8, p9 (ix2 k j) = W k ⟨4096 + j.val, by omega⟩)
    (j : Fin 6784) (h : 6656 ≤ j.val) (hj : j.val < 6688) (v : EReal) (hv : ∀ n : Fin 6688, n.val = source (j.val - 6656) → W k n = v) :
    Cert.Kernel3Ideal.Front.sideBySide p5 p6 p7 p12 p13 p14 p8 p11 p10 p15 p9 p16 (ix2 k j) = v := by
  pointwise! [Cert.Kernel3Ideal.Front.sideBySide]
  iterate 8 rw [dif_neg (by omega)]
  refine either (fun a => (h10 _).trans (hv _ ?_)) (fun a => either (fun b => (h15 _).trans (hv _ ?_)) (fun b => either (fun d => (h9 _).trans (hv _ ?_)) (fun d => ?_)))
  · rw [source_a _ (by omega)]; simp only []; omega
  · rw [source_b _ (by omega) (by omega)]; simp only []; omega
  · rw [source_c _ (by omega) (by omega)]; simp only []; omega
  · exfalso; omega

theorem blk2 (t : Fin cfg0.N) (k : Fin 1024) (l : ℕ) (hl : l < 32) (v : EReal) (hv : ∀ n : Fin 6688, n.val = source l → W2 m c k n = v) :
    (iblk (F := Ideal) m c 2 t : FVec Ideal S1024x6784 .bf16) (ix2 k ⟨6656 + l, by omega⟩) = v := by
  have e : (win0_2.blk t).view.emb (ix2 k ⟨6656 + l, by omega⟩ : (⟨2, ![1024, 6784]⟩ : Shape).Idx) = ix2 k ⟨6656 + l, by omega⟩ := by blk_ext [idx t]
  have f : (iblk (F := Ideal) m c 2 t : FVec Ideal S1024x6784 .bf16) (ix2 k ⟨6656 + l, by omega⟩) = (V m c main_v19 : FVec Ideal S1024x6784 .bf16) (ix2 k ⟨6656 + l, by omega⟩) := by
    blk_simp [iblk]
    exact congrArg _ e
  refine f.trans ((congrFun (weights_eq m c) _).trans ?_)
  exact lastCols_at (W2 m c) _ _ _ _ _ _ _ _ _ _ _ _ k (piece11 m c k) (piece16 m c k) (piece10 m c k)
    ⟨6656 + l, by omega⟩ (Nat.le_add_right _ _) (by simp only []; omega) v fun n hn => hv n (hn.trans (congrArg source (Nat.add_sub_cancel_left _ _)))

/-! ## The rows of biases and rates -/

/-- Update `w'` of a row set into a two-axis array lands at `(a, w)` exactly when `a` is that row and `w` is `w'`. -/
theorem lands_row {A N : ℕ} (d : ScatterDims (shape2 A N) (shape1 1) (shape1 N)) (hiw : d.insertedWindowDims = [0]) (hsd : d.scatterDimsToOperandDims = [0])
    (idx : IVec (shape1 1) 32) (k : Fin A) (hidx : (idx (ix1 0)).toInt = (k.val : Int))
    (w' w : Fin N) (a : Fin A) : d.resultIdx? (ix1 w') idx = some (ix2 a w) ↔ a = k ∧ w' = w := by
  have hm : (0 : Fin 2) ∈ d.scatterDimsToOperandDims := by rw [hsd]; exact List.mem_singleton.2 rfl
  have hkept : d.sKept = [1] := by
    show (shape2 A N).kept d.insertedWindowDims = _
    rw [hiw]
    rfl
  have hwin0 : d.window (ix1 w') 0 = 0 := by
    unfold ScatterDims.window
    rw [dif_neg fun h => (of_decide_eq_true (List.mem_filter.1 h).2) (by rw [hiw]; exact List.mem_singleton.2 rfl)]
  have hwin1 : d.window (ix1 w') 1 = w'.val := by
    unfold ScatterDims.window
    rw [dif_pos (by rw [hkept]; exact List.mem_singleton.2 rfl)]
    have q : ∀ X : Fin 1, (ix1 w' X).val = w'.val := fun X => by
      obtain rfl : X = 0 := Subsingleton.elim _ _
      rfl
    exact q _
  have hstart1 : d.start (ix1 w') idx 1 = 0 := by
    unfold ScatterDims.start
    rw [dif_neg fun h => by rw [hsd] at h; exact absurd (List.mem_singleton.1 h) (by decide : (1 : Fin 2) ≠ 0)]
  have hstart0 : d.start (ix1 w') idx 0 = (k.val : Int) := by
    unfold ScatterDims.start
    rw [dif_pos hm]
    have hsi : d.siIdx (ix1 w') ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
  refine (resultIdx?_ix2 d (ix1 w') idx a w).trans ?_
  rw [Fin.ext_iff, Fin.ext_iff, hstart0, hwin0, hstart1, hwin1]
  omega

/-- A row set into a two-axis array: that row is the update, any other the operand's. -/
theorem set_row {A N : ℕ} (d : ScatterDims (shape2 A N) (shape1 1) (shape1 N)) (hiw : d.insertedWindowDims = [0]) (hsd : d.scatterDimsToOperandDims = [0])
    (x : (shape2 A N).Idx → EReal) (idx : IVec (shape1 1) 32) (u : (shape1 N).Idx → EReal) (k : Fin A) (hidx : (idx (ix1 0)).toInt = (k.val : Int)) (a : Fin A) (w : Fin N) :
    Host.scatter d (fun _ b => b) x idx u (ix2 a w) = if a = k then u (ix1 w) else x (ix2 a w) := by
  by_cases h : a = k
  · rw [if_pos h]
    refine scatter_set_hit d x idx u _ _ (fun y hy => ?_) (ix1 w) ((lands_row d hiw hsd idx k hidx w w a).2 ⟨h, rfl⟩)
    obtain ⟨y0, rfl⟩ : ∃ y0 : Fin N, y = ix1 y0 := ⟨y 0, eq_ix1 y⟩
    rw [((lands_row d hiw hsd idx k hidx y0 w a).1 hy).2]
  · rw [if_neg h]
    refine scatter_set_miss d x idx u _ fun y hy => ?_
    obtain ⟨y0, rfl⟩ : ∃ y0 : Fin N, y = ix1 y0 := ⟨y 0, eq_ix1 y⟩
    exact h ((lands_row d hiw hsd idx k hidx y0 w a).1 hy).1

/-- Eight values, then sixteen. -/
def pair (g : Fin 8 → EReal) (s : Fin 16 → EReal) (j : ℕ) (h : j < 24) : EReal := if h : j < 8 then g ⟨j, h⟩ else s ⟨j - 8, by omega⟩

/-- The row the host makes of eight values, sixteen and zeros. -/
theorem joined_at (p : FVec Ideal S8 .f32) (q : FVec Ideal S16 .f32) (z : FVec Ideal S104 .f32) (g : Fin 8 → EReal) (s : Fin 16 → EReal)
    (hp : ∀ j : Fin 8, p (ix1 j) = g j) (hq : ∀ j : Fin 16, q (ix1 j) = s j) (l : ℕ) (h : l < 24) :
    (concatenate S128 0 [⟨S8, p⟩, ⟨S16, q⟩, ⟨S104, z⟩] concatenates_S8_S16_S104_S128_d0 : FVec Ideal S128 .f32) (ix1 ⟨l, by omega⟩) = pair g s l h := by
  pointwise!
  unfold pair
  by_cases a : l < 8
  · rw [dif_pos a, dif_pos a, hp]
  · rw [dif_neg a, dif_neg a, dif_pos (by omega), hq]

/-- The rows of biases and rates, as the host makes them. -/
abbrev at25 : Valuation τ sig (Elt Ideal) := StableHlo.upto (hostOps0 (F := Ideal)) (fun b => m (c, b)) 25
abbrev at29 : Valuation τ sig (Elt Ideal) := StableHlo.upto (hostOps0 (F := Ideal)) (fun b => m (c, b)) 29

theorem bias8 (j : Fin 8) : (at25 m c main_v3 : FVec Ideal S8 .f32) (ix1 j) = B4 m c j := by
  unfold at25
  after_reads_simp
  pointwise!

theorem bias16 (j : Fin 16) : (at25 m c main_v5 : FVec Ideal S16 .f32) (ix1 j) = B6 m c j := by
  unfold at25
  after_reads_simp
  pointwise!

theorem rate8 (j : Fin 8) : (at29 m c main_v2 : FVec Ideal S8 .f32) (ix1 j) = A3 m c j := by
  unfold at29
  after_reads_simp
  pointwise!

theorem rate16 (j : Fin 16) : (at29 m c main_v4 : FVec Ideal S16 .f32) (ix1 j) = A5 m c j := by
  unfold at29
  after_reads_simp
  pointwise!

theorem bias_at (l : ℕ) (h : l < 24) : (V (F := Ideal) m c main_v27 : FVec Ideal S8x128 .f32) (ix2 0 ⟨l, by omega⟩) = pair (B4 m c) (B6 m c) l h := by
  unfold V
  after_reads_simp
  rw [set_row scatter_S8x128_S1_S128_0_0_0_0 rfl rfl _ _ _ 1 rfl, if_neg (by decide), set_row scatter_S8x128_S1_S128_0_0_0_0 rfl rfl _ _ _ 0 rfl, if_pos rfl]
  exact joined_at _ _ _ _ _ (bias8 m c) (bias16 m c) l h

theorem rate_at (l : ℕ) (h : l < 24) : (V (F := Ideal) m c main_v27 : FVec Ideal S8x128 .f32) (ix2 1 ⟨l, by omega⟩) = pair (A3 m c) (A5 m c) l h := by
  unfold V
  after_reads_simp
  rw [set_row scatter_S8x128_S1_S128_0_0_0_0 rfl rfl _ _ _ 1 rfl, if_pos rfl]
  exact joined_at _ _ _ _ _ (rate8 m c) (rate16 m c) l h

theorem blk3 (t : Fin cfg0.N) (a : Fin 8) (l : Fin 128) :
    (iblk (F := Ideal) m c 3 t : FVec Ideal S8x128 .f32) (ix2 a l) = (V m c main_v27 : FVec Ideal S8x128 .f32) (ix2 a l) := by
  have e : (win0_3.blk t).view.emb (ix2 a l : (⟨2, ![8, 128]⟩ : Shape).Idx) = ix2 a l := by blk_ext [idx t]
  blk_simp [iblk]
  exact congrArg _ e

/-! ## The whole arrays -/

/-- The batch element and the tile of a grid point. -/
abbrev bat (t : Fin cfg0.N) : Fin 32 := ⟨t.val / 8, by have := ptlt t; omega⟩

/-- The place in the sequence of a row of a grid point's tile. -/
abbrev place (t : Fin cfg0.N) (r : Fin 256) : Fin 2048 := ⟨t.val % 8 * 256 + r.val, by have := ptlt t; omega⟩

/-- A lane of the small projections of a tile's row is its column of the projection at the row's place. -/
theorem proj_eq (t : Fin cfg0.N) (r : Fin 256) (l : ℕ) (h : l < 32) (n : Fin 6688) (hn : n.val = source l) :
    proj (iblk (F := Ideal) m c 0 t) (iblk (F := Ideal) m c 1 t) (iblk (F := Ideal) m c 2 t) r ⟨l, by omega⟩
      = projRow (W1 m c) (X m c (bat t) (place t r)) (W2 m c) n := by
  unfold proj
  rw [show row (iblk (F := Ideal) m c 0 t) r = X m c (bat t) (place t r) from funext fun k => blk0 m c t 0 r k,
    show lane (iblk (F := Ideal) m c 1 t) = W1 m c from funext fun k => blk1 m c t 0 k]
  unfold projRow
  refine Finset.sum_congr rfl fun k _ => congrArg _ ?_
  exact blk2 m c t k l h _ fun q hq => congrArg (W2 m c k) (Fin.ext (hq.trans hn.symm))

/-- The three whole results of the kernel, as functions of the arguments. -/
def wholeDec : FVec Ideal S32x2048x24 .f32 := fun i =>
  decays (X m c (i 0) (i 1)) (W1 m c) (W2 m c) (A3 m c) (B4 m c) (A5 m c) (B6 m c) (i 2)

def wholeDt : FVec Ideal S32x2048x16 .f32 := fun i => steps (X m c (i 0) (i 1)) (W1 m c) (W2 m c) (B6 m c) (i 2)

def wholeBeta : FVec Ideal S32x2048x8 .f32 := fun i => betas (X m c (i 0) (i 1)) (W1 m c) (W2 m c) (i 2)

/-- What a grid point leaves in its block of each result. -/
theorem dec_eq (t : Fin cfg0.N) (z : Fin 1) (r : Fin 256) (j : Fin 24) :
    (outsAt0 (F := Ideal) m c t).1 (ix3 z r j)
      = decays (X m c (bat t) (place t r)) (W1 m c) (W2 m c) (A3 m c) (B4 m c) (A5 m c) (B6 m c) j := by
  have hj := j.isLt
  refine (dec_at _ _ _ _ c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) scM0_1 (Memref.isWhole_whole _) z r j).trans ?_
  rw [blk3, blk3, bias_at m c (0 + j.val) (by omega), rate_at m c (0 + j.val) (by omega)]
  unfold decays pair
  by_cases h : j.val < 8
  · rw [dif_pos h, dif_pos (by omega), dif_pos (by omega), proj_eq m c t r (0 + j.val) (by omega) ⟨4104 + j.val, by omega⟩ (by unfold source; rw [if_pos (by omega)]; simp)]
    simp only [Nat.zero_add]
  · rw [dif_neg h, dif_neg (by omega), dif_neg (by omega), proj_eq m c t r (0 + j.val) (by omega) ⟨6672 + (j.val - 8), by omega⟩
      (by unfold source; rw [if_neg (by omega), if_pos (by omega)]; simp only []; omega)]
    simp only [Nat.zero_add]

theorem dt_eq (t : Fin cfg0.N) (z : Fin 1) (r : Fin 256) (j : Fin 16) :
    (outsAt0 (F := Ideal) m c t).2.1 (ix3 z r j) = steps (X m c (bat t) (place t r)) (W1 m c) (W2 m c) (B6 m c) j := by
  have hj := j.isLt
  refine (dt_at _ _ _ _ c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) scM0_1 (Memref.isWhole_whole _) z r j).trans ?_
  rw [blk3, bias_at m c (8 + j.val) (by omega)]
  unfold steps pair
  rw [dif_neg (by omega), proj_eq m c t r (8 + j.val) (by omega) ⟨6672 + j.val, by omega⟩
    (by unfold source; rw [if_neg (by omega), if_pos (by omega)]; simp only []; omega)]
  simp only [Nat.add_sub_cancel_left]

theorem beta_eq (t : Fin cfg0.N) (z : Fin 1) (r : Fin 256) (j : Fin 8) :
    (outsAt0 (F := Ideal) m c t).2.2 (ix3 z r j) = betas (X m c (bat t) (place t r)) (W1 m c) (W2 m c) j := by
  have hj := j.isLt
  refine (beta_at _ _ _ _ c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) scM0_1 (Memref.isWhole_whole _) z r j).trans ?_
  unfold betas
  rw [proj_eq m c t r (24 + j.val) (by omega) ⟨4096 + j.val, by omega⟩
    (by unfold source; rw [if_neg (by omega), if_neg (by omega)]; simp only []; omega)]

theorem dec_array : ((dats (F := Ideal) m 0 c).arrAt 4 cfg0.N : FVec Ideal S32x2048x24 .f32) = wholeDec m c := by
  refine (dats m 0 c).arrAt_eq_of_covers 4 (wholeDec m c) (by decide +kernel) fun t hf y => ?_
  blk_simp
  rw [after0_4]
  obtain ⟨z, r, d, rfl⟩ : ∃ (z : Fin 1) (r : Fin 256) (d : Fin 24), y = ix3 z r d := ⟨y 0, y 1, y 2, eq_ix3 y⟩
  refine (dec_eq m c t z r d).trans ?_
  have e : (win0_4.blk t).view.emb (ix3 z r d : (⟨3, ![1, 256, 24]⟩ : Shape).Idx) = ix3 (bat t) (place t r) d := by
    blk_ext [idx t]
  rw [e]
  rfl

theorem dt_array : ((dats (F := Ideal) m 0 c).arrAt 5 cfg0.N : FVec Ideal S32x2048x16 .f32) = wholeDt m c := by
  refine (dats m 0 c).arrAt_eq_of_covers 5 (wholeDt m c) (by decide +kernel) fun t hf y => ?_
  blk_simp
  rw [after0_5]
  obtain ⟨z, r, d, rfl⟩ : ∃ (z : Fin 1) (r : Fin 256) (d : Fin 16), y = ix3 z r d := ⟨y 0, y 1, y 2, eq_ix3 y⟩
  refine (dt_eq m c t z r d).trans ?_
  have e : (win0_5.blk t).view.emb (ix3 z r d : (⟨3, ![1, 256, 16]⟩ : Shape).Idx) = ix3 (bat t) (place t r) d := by
    blk_ext [idx t]
  rw [e]
  rfl

theorem beta_array : ((dats (F := Ideal) m 0 c).arrAt 6 cfg0.N : FVec Ideal S32x2048x8 .f32) = wholeBeta m c := by
  refine (dats m 0 c).arrAt_eq_of_covers 6 (wholeBeta m c) (by decide +kernel) fun t hf y => ?_
  blk_simp
  rw [after0_6]
  obtain ⟨z, r, d, rfl⟩ : ∃ (z : Fin 1) (r : Fin 256) (d : Fin 8), y = ix3 z r d := ⟨y 0, y 1, y 2, eq_ix3 y⟩
  refine (beta_eq m c t z r d).trans ?_
  have e : (win0_6.blk t).view.emb (ix3 z r d : (⟨3, ![1, 256, 8]⟩ : Shape).Idx) = ix3 (bat t) (place t r) d := by
    blk_ext [idx t]
  rw [e]
  rfl

end Cert.Kernel5Ideal.Steps

end
-- ==== Proof.StepsRef.lean ====
/- The reference's log decays, steps and betas, entry by entry: its terms cut into the projection, the softplus and the rates, each
   read at an index. -/
module

public import proofs.«01_k».proof.Proof.Gen.Reference5Ideal.Run
public import proofs.«01_k».proof.Proof.StepsRow
public import Idealize.ShloMosaic.Lib.Pipeline.ValueKit

@[expose] public section

set_option maxRecDepth 16384

noncomputable section

open Idealize.ShloMosaic Idealize.ShloMosaic.TcCoe Idealize.SL.Sem

namespace Cert.Reference5Ideal.Steps

open Cert.Reference5Ideal Cert.Reference5Ideal.Gen Cert.Reference5Ideal.Value Cert.StepsRow
open Cert.FrontRow (projRow)
open Cert.FfnRow (normRow)

/-- The projection of the normalised input. -/
def refProj (a0 : FVec Ideal S32x2048x1024 .f32) (a1 : FVec Ideal S1x1024 .f32) (a2 : FVec Ideal S1x1024x6688 .f32) : FVec Ideal S32x2048x6688 .f32 :=
  Host.dotGeneral dot_S32x2048x1024_S1024x6688_S32x2048x6688_2_0_01_1_n_n none (mulf (mulf a0 (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf a0 a0) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![2] bcast_S1024_S1x1x1024_2 (shapeCast _ a1 shapeCasts_S1x1024_S1024)))) (shapeCast _ a2 shapeCasts_S1x1024x6688_S1024x6688)

/-- Eight columns of the projection, over a bias. -/
def refShift8 (p : FVec Ideal S32x2048x6688 .f32) (a : FVec Ideal S1x8 .f32) : FVec Ideal S32x2048x8 .f32 :=
  addf (extractStridedSlice S32x2048x8 ![0, 0, 4104] p slices_S32x2048x6688_S32x2048x8_0_0_4104) (broadcastInDim S32x2048x8 ![0, 1, 2] bcast_S1x1x8_S32x2048x8_0_1_2 (broadcastInDim S1x1x8 ![2] bcast_S8_S1x1x8_2 (shapeCast _ a shapeCasts_S1x8_S8)))

/-- Sixteen. -/
def refShift16 (p : FVec Ideal S32x2048x6688 .f32) (a : FVec Ideal S1x16 .f32) : FVec Ideal S32x2048x16 .f32 :=
  addf (extractStridedSlice S32x2048x16 ![0, 0, 6672] p slices_S32x2048x6688_S32x2048x16_0_0_6672) (broadcastInDim S32x2048x16 ![0, 1, 2] bcast_S1x1x16_S32x2048x16_0_1_2 (broadcastInDim S1x1x16 ![2] bcast_S16_S1x1x16_2 (shapeCast _ a shapeCasts_S1x16_S16)))

/-- The softplus of eight columns, as it prints. -/
def refSoft8 (y : FVec Ideal S32x2048x8 .f32) : FVec Ideal S32x2048x8 .f32 :=
  select (cmpf .une (subf y (broadcastInDim S32x2048x8 ![] bcast_S_S32x2048x8 (constant S_ .f32 0x00000000#32))) (subf y (broadcastInDim S32x2048x8 ![] bcast_S_S32x2048x8 (constant S_ .f32 0x00000000#32)))) (addf y (broadcastInDim S32x2048x8 ![] bcast_S_S32x2048x8 (constant S_ .f32 0x00000000#32))) (addf (maximumf y (broadcastInDim S32x2048x8 ![] bcast_S_S32x2048x8 (constant S_ .f32 0x00000000#32))) (Host.log1p (Host.exp (Host.negf (Host.absf (subf y (broadcastInDim S32x2048x8 ![] bcast_S_S32x2048x8 (constant S_ .f32 0x00000000#32))))))))

/-- Of sixteen. -/
def refSoft16 (y : FVec Ideal S32x2048x16 .f32) : FVec Ideal S32x2048x16 .f32 :=
  select (cmpf .une (subf y (broadcastInDim S32x2048x16 ![] bcast_S_S32x2048x16 (constant S_ .f32 0x00000000#32))) (subf y (broadcastInDim S32x2048x16 ![] bcast_S_S32x2048x16 (constant S_ .f32 0x00000000#32)))) (addf y (broadcastInDim S32x2048x16 ![] bcast_S_S32x2048x16 (constant S_ .f32 0x00000000#32))) (addf (maximumf y (broadcastInDim S32x2048x16 ![] bcast_S_S32x2048x16 (constant S_ .f32 0x00000000#32))) (Host.log1p (Host.exp (Host.negf (Host.absf (subf y (broadcastInDim S32x2048x16 ![] bcast_S_S32x2048x16 (constant S_ .f32 0x00000000#32))))))))

/-- The rates of eight heads, at every place. -/
def refRate8 (a : FVec Ideal S1x8 .f32) : FVec Ideal S32x2048x8 .f32 :=
  broadcastInDim S32x2048x8 ![0, 1, 2] bcast_S1x1x8_S32x2048x8_0_1_2 (broadcastInDim S1x1x8 ![2] bcast_S8_S1x1x8_2 (Host.negf (Host.exp (shapeCast _ a shapeCasts_S1x8_S8))))

/-- Of sixteen. -/
def refRate16 (a : FVec Ideal S1x16 .f32) : FVec Ideal S32x2048x16 .f32 :=
  broadcastInDim S32x2048x16 ![0, 1, 2] bcast_S1x1x16_S32x2048x16_0_1_2 (broadcastInDim S1x1x16 ![2] bcast_S16_S1x1x16_2 (Host.negf (Host.exp (shapeCast _ a shapeCasts_S1x16_S16))))

/-- The first result: the log decays, joined. -/
def refDecays (p : FVec Ideal S32x2048x6688 .f32) (a3 a4 : FVec Ideal S1x8 .f32) (a5 a6 : FVec Ideal S1x16 .f32) : FVec Ideal S32x2048x24 .f32 :=
  concatenate S32x2048x24 2 [⟨S32x2048x8, mulf (refRate8 a3) (refSoft8 (refShift8 p a4))⟩, ⟨S32x2048x16, mulf (refSoft16 (refShift16 p a6)) (refRate16 a5)⟩] concatenates_S32x2048x8_S32x2048x16_S32x2048x24_d2

/-- The third: the sigmoid of the betas' columns. -/
def refBetas (p : FVec Ideal S32x2048x6688 .f32) : FVec Ideal S32x2048x8 .f32 :=
  Host.divf (broadcastInDim S32x2048x8 ![] bcast_S_S32x2048x8 (constant S_ .f32 0x3F800000#32)) (addf (broadcastInDim S32x2048x8 ![] bcast_S_S32x2048x8 (constant S_ .f32 0x3F800000#32)) (Host.exp (Host.negf (extractStridedSlice S32x2048x8 ![0, 0, 4096] p slices_S32x2048x6688_S32x2048x8_0_0_4096))))

/-- The reference's terms are these. -/
theorem decays_eq (m : (ℓ : Loc nD τ sig) → Buf (Elt Ideal) ℓ) (c : Dev nD) :
    res_main_v55 m c = refDecays (refProj (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) (m ((c.tc : Thread nD τ).loc main_arg5)) (m ((c.tc : Thread nD τ).loc main_arg6)) := rfl

theorem steps_eq (m : (ℓ : Loc nD τ sig) → Buf (Elt Ideal) ℓ) (c : Dev nD) :
    res_main_v49 m c = refSoft16 (refShift16 (refProj (m ((c.tc : Thread nD τ).loc main_arg0)) (m ((c.tc : Thread nD τ).loc main_arg1)) (m ((c.tc : Thread nD τ).loc main_arg2))) (m ((c.tc : Thread nD τ).loc main_arg6))) := rfl

variable (a0 : FVec Ideal S32x2048x1024 .f32) (a1 : FVec Ideal S1x1024 .f32) (a2 : FVec Ideal S1x1024x6688 .f32)
  (a3 a4 : FVec Ideal S1x8 .f32) (a5 a6 : FVec Ideal S1x16 .f32)

theorem refProj_at (b : Fin 32) (s : Fin 2048) (j : Fin 6688) :
    refProj a0 a1 a2 (ix3 b s j) = projRow (fun k => a1 (ix2 0 k)) (fun k => a0 (ix3 b s k)) (fun k j => a2 (ix3 0 k j)) j := by
  pointwise [refProj, projRow, normRow]

theorem refSoft8_at (y : FVec Ideal S32x2048x8 .f32) (b : Fin 32) (s : Fin 2048) (j : Fin 8) : refSoft8 y (ix3 b s j) = soft (y (ix3 b s j)) := by
  pointwise! [refSoft8, soft]
  rw [if_neg (fun h => h rfl), zero_sub]
  rfl

theorem refSoft16_at (y : FVec Ideal S32x2048x16 .f32) (b : Fin 32) (s : Fin 2048) (j : Fin 16) : refSoft16 y (ix3 b s j) = soft (y (ix3 b s j)) := by
  pointwise! [refSoft16, soft]
  rw [if_neg (fun h => h rfl), zero_sub]
  rfl

theorem refShift8_at (p : FVec Ideal S32x2048x6688 .f32) (a : FVec Ideal S1x8 .f32) (b : Fin 32) (s : Fin 2048) (j : Fin 8) :
    refShift8 p a (ix3 b s j) = p (ix3 b s ⟨4104 + j.val, by omega⟩) + a (ix2 0 j) := by
  pointwise! [refShift8]

theorem refShift16_at (p : FVec Ideal S32x2048x6688 .f32) (a : FVec Ideal S1x16 .f32) (b : Fin 32) (s : Fin 2048) (j : Fin 16) :
    refShift16 p a (ix3 b s j) = p (ix3 b s ⟨6672 + j.val, by omega⟩) + a (ix2 0 j) := by
  pointwise! [refShift16]

theorem refRate8_at (a : FVec Ideal S1x8 .f32) (b : Fin 32) (s : Fin 2048) (j : Fin 8) : refRate8 a (ix3 b s j) = 0 - Ideal.exp (a (ix2 0 j)) := by
  pointwise! [refRate8]
  simp only [zero_sub]

theorem refRate16_at (a : FVec Ideal S1x16 .f32) (b : Fin 32) (s : Fin 2048) (j : Fin 16) : refRate16 a (ix3 b s j) = 0 - Ideal.exp (a (ix2 0 j)) := by
  pointwise! [refRate16]
  simp only [zero_sub]

/-- The arguments by coordinates. -/
abbrev xr (b : Fin 32) (s : Fin 2048) : Fin 1024 → EReal := fun k => a0 (ix3 b s k)
abbrev nw : Fin 1024 → EReal := fun k => a1 (ix2 0 k)
abbrev wi : Fin 1024 → Fin 6688 → EReal := fun k j => a2 (ix3 0 k j)

/-- The reference's steps at an entry. -/
theorem steps_at (b : Fin 32) (s : Fin 2048) (j : Fin 16) :
    refSoft16 (refShift16 (refProj a0 a1 a2) a6) (ix3 b s j) = steps (xr a0 b s) (nw a1) (wi a2) (fun j => a6 (ix2 0 j)) j := by
  rw [refSoft16_at, refShift16_at, refProj_at]
  rfl

/-- The reference's betas at an entry. -/
theorem betas_at (b : Fin 32) (s : Fin 2048) (j : Fin 8) :
    refBetas (refProj a0 a1 a2) (ix3 b s j) = betas (xr a0 b s) (nw a1) (wi a2) j := by
  unfold betas
  rw [← refProj_at a0 a1 a2 b s]
  pointwise! [refBetas, sigm]
  simp only [zero_sub]

/-- The reference's log decays at an entry. -/
theorem decays_at (b : Fin 32) (s : Fin 2048) (j : Fin 24) :
    refDecays (refProj a0 a1 a2) a3 a4 a5 a6 (ix3 b s j)
      = decays (xr a0 b s) (nw a1) (wi a2) (fun j => a3 (ix2 0 j)) (fun j => a4 (ix2 0 j)) (fun j => a5 (ix2 0 j)) (fun j => a6 (ix2 0 j)) j := by
  pointwise! [refDecays]
  unfold decays decay
  by_cases h : j.val < 8
  · rw [dif_pos h, dif_pos h, refSoft8_at, refShift8_at, refProj_at, refRate8_at, mul_comm]
  · rw [dif_neg h, dif_neg h, refSoft16_at, refShift16_at, refProj_at, refRate16_at]

end Cert.Reference5Ideal.Steps

end
-- ==== Proof.StepsAlgebraic.lean ====
/- The decays, steps and betas of the token mixers' call against their reference over the extended reals: each of the kernel's three
   arrays and the reference's result are the same function of the same arguments at every entry. -/
module

public import proofs.«01_k».proof.Defs
public import proofs.«01_k».proof.Proof.StepsArray
public import proofs.«01_k».proof.Proof.StepsRef

@[expose] public section

noncomputable section

namespace Cert.Proof

open Idealize.ShloMosaic Idealize.SL.Sem

/-- Run on equal arguments, the two programs give equal results. -/
theorem algebraic_Kernel5Ideal_Reference5Ideal : algebraic_Kernel5Ideal_Reference5Ideal := by
  intro m ρ m' ρ' _ hagree
  refine ⟨_, _, _, Cert.Kernel5Ideal.Value.run_blocks (F := Ideal) m ρ, ?_⟩
  refine (θ_run Cert.Reference5Ideal.defs _ _).mono (fun _ h c => ⟨?_, ?_, ?_, (h c).2.2.2⟩) (Cert.Reference5Ideal.Value.run (F := Ideal) m' ρ')
  · rw [(h c).1]
    obtain ⟨h0, h1, h2, h3, h4, h5, h6⟩ := hagree c
    refine Eq.trans ?_ (Cert.Kernel5Ideal.Steps.dec_array m c).symm
    refine (Cert.Reference5Ideal.Steps.decays_eq m' c).trans ?_
    funext i
    rw [eq_ix3 i]
    refine (Cert.Reference5Ideal.Steps.decays_at _ _ _ _ _ _ _ (i 0) (i 1) (i 2)).trans ?_
    unfold Cert.Kernel5Ideal.Steps.wholeDec Cert.Kernel5Ideal.Steps.X Cert.Kernel5Ideal.Steps.W1 Cert.Kernel5Ideal.Steps.W2
      Cert.Kernel5Ideal.Steps.A3 Cert.Kernel5Ideal.Steps.B4 Cert.Kernel5Ideal.Steps.A5 Cert.Kernel5Ideal.Steps.B6
    rw [← h0, ← h1, ← h2, ← h3, ← h4, ← h5, ← h6]
    rfl
  · rw [(h c).2.1]
    obtain ⟨h0, h1, h2, h3, h4, h5, h6⟩ := hagree c
    refine Eq.trans ?_ (Cert.Kernel5Ideal.Steps.dt_array m c).symm
    refine (Cert.Reference5Ideal.Steps.steps_eq m' c).trans ?_
    funext i
    rw [eq_ix3 i]
    refine (Cert.Reference5Ideal.Steps.steps_at _ _ _ _ (i 0) (i 1) (i 2)).trans ?_
    unfold Cert.Kernel5Ideal.Steps.wholeDt Cert.Kernel5Ideal.Steps.X Cert.Kernel5Ideal.Steps.W1 Cert.Kernel5Ideal.Steps.W2
      Cert.Kernel5Ideal.Steps.B6
    rw [← h0, ← h1, ← h2, ← h6]
    rfl
  · rw [(h c).2.2.1]
    obtain ⟨h0, h1, h2, h3, h4, h5, h6⟩ := hagree c
    refine Eq.trans ?_ (Cert.Kernel5Ideal.Steps.beta_array m c).symm
    funext i
    rw [eq_ix3 i]
    refine (Cert.Reference5Ideal.Steps.betas_at _ _ _ (i 0) (i 1) (i 2)).trans ?_
    unfold Cert.Kernel5Ideal.Steps.wholeBeta Cert.Kernel5Ideal.Steps.X Cert.Kernel5Ideal.Steps.W1 Cert.Kernel5Ideal.Steps.W2
    rw [← h0, ← h1, ← h2]
    rfl

end Cert.Proof

end
-- ==== Proof.lean ====
/- The claim, assembled: the frames of the two calls, of the mixers' front, back and steps and of the references, and the equality
   of the feed-forward results, of the front's, of the back's and of the steps'. -/
module

public import proofs.«01_k».proof.Defs
public import proofs.«01_k».proof.Proof.MixIdeal
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.FfnAlgebraic
public import proofs.«01_k».proof.Proof.FrontAlgebraic
public import proofs.«01_k».proof.Proof.BackAlgebraic
public import proofs.«01_k».proof.Proof.StepsAlgebraic
public import Idealize.ShloMosaic.Adequacy
public import Idealize.ShloMosaic.Init
public import Idealize.ShloMosaic.Lib.Quiescent

@[expose] public section

noncomputable section

namespace Cert.Proof

open Idealize.ShloMosaic Idealize.SL.Sem

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

theorem claim : Cert.Claim := ⟨Cert.Kernel.Gen.facts, Cert.KernelIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  fun m ρ _ => Cert.Kernel.Mix.frame m ρ, quiescent_KernelIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  (trivial : preserves_Kernel_KernelIdeal), (trivial : preserves_Kernel2_Kernel2Ideal),
  algebraic_Kernel2Ideal_Reference2Ideal, (trivial : preserves_Kernel3_Kernel3Ideal),
  algebraic_Kernel3Ideal_Reference3Ideal, (trivial : preserves_Kernel4_Kernel4Ideal),
  algebraic_Kernel4Ideal_Reference4Ideal, (trivial : preserves_Kernel5_Kernel5Ideal),
  algebraic_Kernel5Ideal_Reference5Ideal⟩

end Cert.Proof

end
